-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)) (v6 : (c : Dev Cert.Kernel4Ideal.nD) → Buf (Elt Ideal) ((c.tc : Thread Cert.Kernel4Ideal.nD Cert.Kernel4Ideal.τ).loc Cert.Kernel4Ideal.main_v0_6)) (v7 : (c : Dev Cert.Kernel4Ideal.nD) → Buf (Elt Ideal) ((c.tc : Thread Cert.Kernel4Ideal.nD Cert.Kernel4Ideal.τ).loc Cert.Kernel4Ideal.main_v0_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_v0_6) = v6 c
          ∧ r.2.mem ((c.tc : Thread Cert.Kernel4Ideal.nD Cert.Kernel4Ideal.τ).loc Cert.Kernel4Ideal.main_v0_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v116) = v0 c
          ∧ r.2.mem ((c.tc : Thread Cert.Reference4Ideal.nD Cert.Reference4Ideal.τ).loc Cert.Reference4Ideal.main_v117) = v1 c
          ∧ r.2.mem ((c.tc : Thread Cert.Reference4Ideal.nD Cert.Reference4Ideal.τ).loc Cert.Reference4Ideal.main_v118) = v2 c
          ∧ r.2.mem ((c.tc : Thread Cert.Reference4Ideal.nD Cert.Reference4Ideal.τ).loc Cert.Reference4Ideal.main_v119) = v3 c
          ∧ r.2.mem ((c.tc : Thread Cert.Reference4Ideal.nD Cert.Reference4Ideal.τ).loc Cert.Reference4Ideal.main_v120) = v4 c
          ∧ r.2.mem ((c.tc : Thread Cert.Reference4Ideal.nD Cert.Reference4Ideal.τ).loc Cert.Reference4Ideal.main_v121) = v5 c
          ∧ r.2.mem ((c.tc : Thread Cert.Reference4Ideal.nD Cert.Reference4Ideal.τ).loc Cert.Reference4Ideal.main_v122) = v6 c
          ∧ r.2.mem ((c.tc : Thread Cert.Reference4Ideal.nD Cert.Reference4Ideal.τ).loc Cert.Reference4Ideal.main_v123) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_logits.lean ====
abbrev S4x4096x2048 : Shape := ⟨3, ![4, 4096, 2048]⟩
abbrev S4x4096x1024 : Shape := ⟨3, ![4, 4096, 1024]⟩
abbrev S4x4096x128 : Shape := ⟨3, ![4, 4096, 128]⟩
abbrev S4x256x1024 : Shape := ⟨3, ![4, 256, 1024]⟩
abbrev S4x256x128 : Shape := ⟨3, ![4, 256, 128]⟩
abbrev S_ : Shape := ⟨0, ![]⟩

class Facts : Prop where
  bitsLt_bf16_f32 : FTy.bits .bf16 < FTy.bits .f32
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S4x4096x1024 : S_.BroadcastsInDim S4x4096x1024 (![] : Fin 0 → Fin S4x4096x1024.rank)
  reducesTo_S4x4096x1024_S_d0_1_2 : S4x4096x1024.ReducesTo [0, 1, 2] S_
  bcast_S_S4x4096x128 : S_.BroadcastsInDim S4x4096x128 (![] : Fin 0 → Fin S4x4096x128.rank)
  reducesTo_S4x4096x128_S_d0_1_2 : S4x4096x128.ReducesTo [0, 1, 2] S_
  bcast_S_S4x256x1024 : S_.BroadcastsInDim S4x256x1024 (![] : Fin 0 → Fin S4x256x1024.rank)
  reducesTo_S4x256x1024_S_d0_1_2 : S4x256x1024.ReducesTo [0, 1, 2] S_
  bcast_S_S4x256x128 : S_.BroadcastsInDim S4x256x128 (![] : Fin 0 → Fin S4x256x128.rank)
  reducesTo_S4x256x128_S_d0_1_2 : S4x256x128.ReducesTo [0, 1, 2] S_

variable [Facts]

def fn_part1 {F : FTy → Type} [FloatOps F] (main_arg5 : FVec F S4x256x128 .bf16) (main_v4 : IVec S_ 1) (main_v9 : IVec S_ 1) (main_v14 : IVec S_ 1) (main_v16 : FVec F S4x256x1024 .f32) (main_cst_4 : FVec F S_ .f32) : IVec S_ 1 :=
  let main_v17 : FVec F S4x256x1024 .f32 := broadcastInDim S4x256x1024 ![] bcast_S_S4x256x1024 main_cst_4
  let main_v18 : IVec S4x256x1024 1 := cmpf .olt main_v16 main_v17
  let main_c_5 : IVec S_ 1 := constantI S_ 1 1#1
  let main_v19 : IVec S_ 1 := (fun x v => Host.reduce IntOp.andi x v reducesTo_S4x256x1024_S_d0_1_2 h_S_) main_v18 main_c_5
  let main_v20 : FVec F S4x256x128 .f32 := (extf .f32 · bitsLt_bf16_f32) main_arg5
  let main_v21 : FVec F S4x256x128 .f32 := Host.absf main_v20
  let main_cst_6 : FVec F S_ .f32 := constant S_ .f32 0x7F800000#32
  let main_v22 : FVec F S4x256x128 .f32 := broadcastInDim S4x256x128 ![] bcast_S_S4x256x128 main_cst_6
  let main_v23 : IVec S4x256x128 1 := cmpf .olt main_v21 main_v22
  let main_c_7 : IVec S_ 1 := constantI S_ 1 1#1
  let main_v24 : IVec S_ 1 := (fun x v => Host.reduce IntOp.andi x v reducesTo_S4x256x128_S_d0_1_2 h_S_) main_v23 main_c_7
  let main_v25 : IVec S_ 1 := andi main_v4 main_v9
  let main_v26 : IVec S_ 1 := andi main_v25 main_v14
  let main_v27 : IVec S_ 1 := andi main_v26 main_v19
  let main_v28 : IVec S_ 1 := andi main_v27 main_v24
  main_v28

def fn {F : FTy → Type} [FloatOps F] (main_arg0 : FVec F S4x4096x2048 .bf16) (main_arg1 : FVec F S4x4096x1024 .bf16) (main_arg2 : FVec F S4x4096x128 .bf16) (main_arg3 : FVec F S4x4096x1024 .bf16) (main_arg4 : FVec F S4x256x1024 .bf16) (main_arg5 : FVec F S4x256x128 .bf16) (main_arg6 : FVec F S4x256x1024 .bf16) : IVec S_ 1 :=
  let main_v0 : FVec F S4x4096x2048 .f32 := (extf .f32 · bitsLt_bf16_f32) main_arg0
  let main_v1 : FVec F S4x4096x2048 .f32 := Host.absf main_v0
  let main_cst : FVec F S_ .f32 := constant S_ .f32 0x7F800000#32
  let main_v2 : FVec F S4x4096x2048 .f32 := broadcastInDim S4x4096x2048 ![] bcast_S_S4x4096x2048 main_cst
  let main_v3 : IVec S4x4096x2048 1 := cmpf .olt main_v1 main_v2
  let main_c : IVec S_ 1 := constantI S_ 1 1#1
  let main_v4 : IVec S_ 1 := (fun x v => Host.reduce IntOp.andi x v reducesTo_S4x4096x2048_S_d0_1_2 h_S_) main_v3 main_c
  let main_v5 : FVec F S4x4096x1024 .f32 := (extf .f32 · bitsLt_bf16_f32) main_arg1
  let main_v6 : FVec F S4x4096x1024 .f32 := Host.absf main_v5
  let main_cst_0 : FVec F S_ .f32 := constant S_ .f32 0x7F800000#32
  let main_v7 : FVec F S4x4096x1024 .f32 := broadcastInDim S4x4096x1024 ![] bcast_S_S4x4096x1024 main_cst_0
  let main_v8 : IVec S4x4096x1024 1 := cmpf .olt main_v6 main_v7
  let main_c_1 : IVec S_ 1 := constantI S_ 1 1#1
  let main_v9 : IVec S_ 1 := (fun x v => Host.reduce IntOp.andi x v reducesTo_S4x4096x1024_S_d0_1_2 h_S_) main_v8 main_c_1
  let main_v10 : FVec F S4x4096x128 .f32 := (extf .f32 · bitsLt_bf16_f32) main_arg2
  let main_v11 : FVec F S4x4096x128 .f32 := Host.absf main_v10
  let main_cst_2 : FVec F S_ .f32 := constant S_ .f32 0x7F800000#32
  let main_v12 : FVec F S4x4096x128 .f32 := broadcastInDim S4x4096x128 ![] bcast_S_S4x4096x128 main_cst_2
  let main_v13 : IVec S4x4096x128 1 := cmpf .olt main_v11 main_v12
  let main_c_3 : IVec S_ 1 := constantI S_ 1 1#1
  let main_v14 : IVec S_ 1 := (fun x v => Host.reduce IntOp.andi x v reducesTo_S4x4096x128_S_d0_1_2 h_S_) main_v13 main_c_3
  let main_v15 : FVec F S4x256x1024 .f32 := (extf .f32 · bitsLt_bf16_f32) main_arg4
  let main_v16 : FVec F S4x256x1024 .f32 := Host.absf main_v15
  let main_cst_4 : FVec F S_ .f32 := constant S_ .f32 0x7F800000#32
  fn_part1 (F := F) main_arg5 main_v4 main_v9 main_v14 main_v16 main_cst_4
-- ==== Kernel.lean ====
abbrev S4x4096x2048 : Shape := ⟨3, ![4, 4096, 2048]⟩
abbrev S4x4096x1024 : Shape := ⟨3, ![4, 4096, 1024]⟩
abbrev S4x4096x128 : Shape := ⟨3, ![4, 4096, 128]⟩
abbrev S4x256x1024 : Shape := ⟨3, ![4, 256, 1024]⟩
abbrev S4x256x128 : Shape := ⟨3, ![4, 256, 128]⟩
abbrev S1x1024x512 : Shape := ⟨3, ![1, 1024, 512]⟩
abbrev S1x4096x256 : Shape := ⟨3, ![1, 4096, 256]⟩
abbrev S1x4096x128 : Shape := ⟨3, ![1, 4096, 128]⟩
abbrev S1x256x256 : Shape := ⟨3, ![1, 256, 256]⟩
abbrev S1x256x128 : Shape := ⟨3, ![1, 256, 128]⟩
abbrev S1x1024x256 : Shape := ⟨3, ![1, 1024, 256]⟩
abbrev S2x4x256x1024 : Shape := ⟨4, ![2, 4, 256, 1024]⟩
abbrev S2x256x256 : Shape := ⟨3, ![2, 256, 256]⟩
abbrev S2x1024x128 : Shape := ⟨3, ![2, 1024, 128]⟩
abbrev S2x2x1024x1024 : Shape := ⟨4, ![2, 2, 1024, 1024]⟩
abbrev S2x1024x256 : Shape := ⟨3, ![2, 1024, 256]⟩
abbrev S1x1024x128 : Shape := ⟨3, ![1, 1024, 128]⟩
abbrev S1024x128 : Shape := ⟨2, ![1024, 128]⟩
abbrev S128x1024 : Shape := ⟨2, ![128, 1024]⟩
abbrev S1x1x128x1024 : Shape := ⟨4, ![1, 1, 128, 1024]⟩
abbrev S256x128 : Shape := ⟨2, ![256, 128]⟩
abbrev S128x256 : Shape := ⟨2, ![128, 256]⟩
abbrev S1x128x256 : Shape := ⟨3, ![1, 128, 256]⟩
abbrev S1x1x256x1024 : Shape := ⟨4, ![1, 1, 256, 1024]⟩
abbrev S256x1024 : Shape := ⟨2, ![256, 1024]⟩
abbrev S1024x256 : Shape := ⟨2, ![1024, 256]⟩
abbrev S1024x1024 : Shape := ⟨2, ![1024, 1024]⟩
abbrev S1x1x1024x1024 : Shape := ⟨4, ![1, 1, 1024, 1024]⟩
abbrev S1024 : Shape := ⟨1, ![1024]⟩
abbrev S1024x1 : Shape := ⟨2, ![1024, 1]⟩
abbrev S256x256 : Shape := ⟨2, ![256, 256]⟩

abbrev nBuf : Space → Nat
  | .hbm => 8
  | .vmem => 23
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x1024, .bf16⟩
  | .hbm, ⟨2, _⟩ => ⟨S4x4096x128, .bf16⟩
  | .hbm, ⟨3, _⟩ => ⟨S4x4096x1024, .bf16⟩
  | .hbm, ⟨4, _⟩ => ⟨S4x256x1024, .bf16⟩
  | .hbm, ⟨5, _⟩ => ⟨S4x256x128, .bf16⟩
  | .hbm, ⟨6, _⟩ => ⟨S4x256x1024, .bf16⟩
  | .hbm, ⟨7, _⟩ => ⟨S4x4096x1024, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x128, .bf16⟩
  | .local _ .vmem, ⟨11, _⟩ => ⟨S1x256x128, .bf16⟩
  | .local _ .vmem, ⟨12, _⟩ => ⟨S1x256x256, .bf16⟩
  | .local _ .vmem, ⟨13, _⟩ => ⟨S1x256x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S2x4x256x1024, .bf16⟩
  | .local _ .vmem, ⟨17, _⟩ => ⟨S2x256x256, .bf16⟩
  | .local _ .vmem, ⟨18, _⟩ => ⟨S2x1024x128, .f32⟩
  | .local _ .vmem, ⟨19, _⟩ => ⟨S2x1024x128, .f32⟩
  | .local _ .vmem, ⟨20, _⟩ => ⟨S2x1024x128, .f32⟩
  | .local _ .vmem, ⟨21, _⟩ => ⟨S2x2x1024x1024, .f32⟩
  | .local _ .vmem, ⟨22, _⟩ => ⟨S2x1024x256, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 4], ![false, false, false]⟩

def k0_off1 (c1_i32 : BitVec 32) : Fin 4 → Nat :=
  let c0_34 : Index := 0#32
  let c2_i32 : BitVec 32 := 2#32
  let c0_i32_33 : BitVec 32 := 0#32
  let v31 : BitVec 32 := Scalar.muli c2_i32 c0_i32_33
  let v32 : BitVec 32 := Scalar.addi v31 c1_i32
  let v33 : Index := Scalar.indexCast v32
  let c0_35 : Index := 0#32
  let c0_36 : Index := 0#32
  ![0, v33.toNat, 0, 0]
def k0_off2 (c1_i32 : BitVec 32) : Fin 4 → Nat :=
  let c1_45 : Index := 1#32
  let c2_i32 : BitVec 32 := 2#32
  let c0_i32_33 : BitVec 32 := 0#32
  let v31 : BitVec 32 := Scalar.muli c2_i32 c0_i32_33
  let v32 : BitVec 32 := Scalar.addi v31 c1_i32
  let v42 : Index := Scalar.indexCast v32
  let c0_46 : Index := 0#32
  let c0_47 : Index := 0#32
  ![1, v42.toNat, 0, 0]
def k0_mult1 : BitVec 32 :=
  let c2_i32 : BitVec 32 := 2#32
  let c0_i32_33 : BitVec 32 := 0#32
  let v31 : BitVec 32 := Scalar.muli c2_i32 c0_i32_33
  let c1024_i32 : BitVec 32 := 1024#32
  let v51 : BitVec 32 := Scalar.muli v31 c1024_i32
  v51
def k0_off3 : Fin 3 → Nat :=
  let c0_56 : Index := 0#32
  let c2_i32 : BitVec 32 := 2#32
  let c0_i32_33 : BitVec 32 := 0#32
  let v31 : BitVec 32 := Scalar.muli c2_i32 c0_i32_33
  let c1024_i32 : BitVec 32 := 1024#32
  let v51 : BitVec 32 := Scalar.muli v31 c1024_i32
  let v52 : BitVec 32 := v51
  let v53 : Index := Scalar.indexCast v52
  let c0_57 : Index := 0#32
  ![0, v53.toNat, 0]
def k0_off4 : Fin 3 → Nat :=
  let c0_168 : Index := 0#32
  let c2_i32 : BitVec 32 := 2#32
  let c0_i32_33 : BitVec 32 := 0#32
  let v31 : BitVec 32 := Scalar.muli c2_i32 c0_i32_33
  let c1024_i32 : BitVec 32 := 1024#32
  let v51 : BitVec 32 := Scalar.muli v31 c1024_i32
  let v52 : BitVec 32 := v51
  let v169 : Index := Scalar.indexCast v52
  let c128_169 : Index := 128#32
  ![0, v169.toNat, 128]
def k0_mult2 : BitVec 32 :=
  let c2_i32 : BitVec 32 := 2#32
  let c0_i32_33 : BitVec 32 := 0#32
  let v31 : BitVec 32 := Scalar.muli c2_i32 c0_i32_33
  let c1_i32_309 : BitVec 32 := 1#32
  let v304 : BitVec 32 := Scalar.addi v31 c1_i32_309
  let c1024_i32_310 : BitVec 32 := 1024#32
  let v305 : BitVec 32 := Scalar.muli v304 c1024_i32_310
  v305
def k0_off5 : Fin 3 → Nat :=
  let c0_311 : Index := 0#32
  let c2_i32 : BitVec 32 := 2#32
  let c0_i32_33 : BitVec 32 := 0#32
  let v31 : BitVec 32 := Scalar.muli c2_i32 c0_i32_33
  let c1_i32_309 : BitVec 32 := 1#32
  let v304 : BitVec 32 := Scalar.addi v31 c1_i32_309
  let c1024_i32_310 : BitVec 32 := 1024#32
  let v305 : BitVec 32 := Scalar.muli v304 c1024_i32_310
  let v306 : BitVec 32 := v305
  let v307 : Index := Scalar.indexCast v306
  let c0_312 : Index := 0#32
  ![0, v307.toNat, 0]
def k0_off6 : Fin 3 → Nat :=
  let c0_429 : Index := 0#32
  let c2_i32 : BitVec 32 := 2#32
  let c0_i32_33 : BitVec 32 := 0#32
  let v31 : BitVec 32 := Scalar.muli c2_i32 c0_i32_33
  let c1_i32_309 : BitVec 32 := 1#32
  let v304 : BitVec 32 := Scalar.addi v31 c1_i32_309
  let c1024_i32_310 : BitVec 32 := 1024#32
  let v305 : BitVec 32 := Scalar.muli v304 c1024_i32_310
  let v306 : BitVec 32 := v305
  let v423 : Index := Scalar.indexCast v306
  let c128_430 : Index := 128#32
  ![0, v423.toNat, 128]
def k0_mult3 : BitVec 32 :=
  let c2048_i32 : BitVec 32 := 2048#32
  c2048_i32
def k0_mult4 : BitVec 32 :=
  let c3072_i32 : BitVec 32 := 3072#32
  c3072_i32
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S4x4096x2048 : Shape := ⟨3, ![4, 4096, 2048]⟩
abbrev S4x4096x1024 : Shape := ⟨3, ![4, 4096, 1024]⟩
abbrev S4x4096x128 : Shape := ⟨3, ![4, 4096, 128]⟩
abbrev S4x256x1024 : Shape := ⟨3, ![4, 256, 1024]⟩
abbrev S4x256x128 : Shape := ⟨3, ![4, 256, 128]⟩
abbrev S4x4096x1x128 : Shape := ⟨4, ![4, 4096, 1, 128]⟩
abbrev S4x4096x8x128 : Shape := ⟨4, ![4, 4096, 8, 128]⟩
abbrev S4x4096x8x256 : Shape := ⟨4, ![4, 4096, 8, 256]⟩
abbrev S4x256x1x128 : Shape := ⟨4, ![4, 256, 1, 128]⟩
abbrev S4x256x8x128 : Shape := ⟨4, ![4, 256, 8, 128]⟩
abbrev S4x256x8x256 : Shape := ⟨4, ![4, 256, 8, 256]⟩
abbrev S4x4352x8x256 : Shape := ⟨4, ![4, 4352, 8, 256]⟩
abbrev S4x4352x8x128 : Shape := ⟨4, ![4, 4352, 8, 128]⟩
abbrev S4x8x4096x4352 : Shape := ⟨4, ![4, 8, 4096, 4352]⟩
abbrev S_ : Shape := ⟨0, ![]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x1024, .bf16⟩
  | .hbm, ⟨2, _⟩ => ⟨S4x4096x128, .bf16⟩
  | .hbm, ⟨3, _⟩ => ⟨S4x4096x1024, .bf16⟩
  | .hbm, ⟨4, _⟩ => ⟨S4x256x1024, .bf16⟩
  | .hbm, ⟨5, _⟩ => ⟨S4x256x128, .bf16⟩
  | .hbm, ⟨6, _⟩ => ⟨S4x256x1024, .bf16⟩
  | .hbm, ⟨7, _⟩ => ⟨S4x4096x2048, .f32⟩
  | .hbm, ⟨8, _⟩ => ⟨S4x4096x1024, .f32⟩
  | .hbm, ⟨9, _⟩ => ⟨S4x4096x128, .f32⟩
  | .hbm, ⟨10, _⟩ => ⟨S4x4096x1024, .f32⟩
  | .hbm, ⟨11, _⟩ => ⟨S4x256x1024, .f32⟩
  | .hbm, ⟨12, _⟩ => ⟨S4x256x128, .f32⟩
  | .hbm, ⟨13, _⟩ => ⟨S4x256x1024, .f32⟩
  | .hbm, ⟨14, _⟩ => ⟨S4x4096x1x128, .f32⟩
  | .hbm, ⟨15, _⟩ => ⟨S4x4096x8x128, .f32⟩
  | .hbm, ⟨16, _⟩ => ⟨S4x4096x8x128, .f32⟩
  | .hbm, ⟨17, _⟩ => ⟨S4x4096x8x256, .f32⟩
  | .hbm, ⟨18, _⟩ => ⟨S4x256x1x128, .f32⟩
  | .hbm, ⟨19, _⟩ => ⟨S4x256x8x128, .f32⟩
  | .hbm, ⟨20, _⟩ => ⟨S4x256x8x128, .f32⟩
  | .hbm, ⟨21, _⟩ => ⟨S4x256x8x256, .f32⟩
  | .hbm, ⟨22, _⟩ => ⟨S4x4352x8x256, .f32⟩
  | .hbm, ⟨23, _⟩ => ⟨S4x4096x8x128, .f32⟩
  | .hbm, ⟨24, _⟩ => ⟨S4x256x8x128, .f32⟩
  | .hbm, ⟨25, _⟩ => ⟨S4x4352x8x128, .f32⟩
  | .hbm, ⟨26, _⟩ => ⟨S4x4096x8x256, .f32⟩
  | .hbm, ⟨27, _⟩ => ⟨S4x8x4096x4352, .f32⟩
  | .hbm, ⟨28, _⟩ => ⟨S_, .f32⟩
  | .hbm, ⟨29, _⟩ => ⟨S_, .f32⟩
  | .hbm, ⟨30, _⟩ => ⟨S4x8x4096x4352, .f32⟩
  | .hbm, ⟨31, _⟩ => ⟨S4x8x4096x4352, .f32⟩
  | .hbm, ⟨32, _⟩ => ⟨S_, .f32⟩
  | .hbm, ⟨33, _⟩ => ⟨S4x8x4096, .f32⟩
  | .hbm, ⟨34, _⟩ => ⟨S_, .f32⟩
  | .hbm, ⟨35, _⟩ => ⟨S4x8x4096, .f32⟩
  | .hbm, ⟨36, _⟩ => ⟨S4x8x4096, .f32⟩
  | .hbm, ⟨37, _⟩ => ⟨S4x8x4096x1, .f32⟩
  | .hbm, ⟨38, _⟩ => ⟨S4x8x4096x4352, .f32⟩
  | .hbm, ⟨39, _⟩ => ⟨S4x8x4096x4352, .f32⟩
  | .hbm, ⟨40, _⟩ => ⟨S4x8x4096x4352, .f32⟩
  | .hbm, ⟨41, _⟩ => ⟨S_, .f32⟩
  | .hbm, ⟨42, _⟩ => ⟨S4x8x4096, .f32⟩
  | .hbm, ⟨43, _⟩ => ⟨S4x8x4096x1, .f32⟩
  | .hbm, ⟨44, _⟩ => ⟨S4x8x4096x4352, .f32⟩
  | .hbm, ⟨45, _⟩ => ⟨S4x8x4096x4352, .f32⟩
  | .hbm, ⟨46, _⟩ => ⟨S4x8x4096x4352, .bf16⟩
  | .hbm, ⟨47, _⟩ => ⟨S4x8x4096x4352, .f32⟩
  | .hbm, ⟨48, _⟩ => ⟨S4x8x128x4096, .f32⟩
  | .hbm, ⟨49, _⟩ => ⟨S4x4096x8x128, .f32⟩
  | .hbm, ⟨50, _⟩ => ⟨S4x4096x1024, .f32⟩
  | .hbm, ⟨51, _⟩ => ⟨S4x4096x1024, .bf16⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Kernel2.lean ====
abbrev S4x4096x2048 : Shape := ⟨3, ![4, 4096, 2048]⟩
abbrev S2x2048x11264 : Shape := ⟨3, ![2, 2048, 11264]⟩
abbrev S2x3x11264 : Shape := ⟨3, ![2, 3, 11264]⟩
abbrev S2x1x11264 : Shape := ⟨3, ![2, 1, 11264]⟩
abbrev S2x5632x2048 : Shape := ⟨3, ![2, 5632, 2048]⟩
abbrev S2x8x6x1x2048 : Shape := ⟨5, ![2, 8, 6, 1, 2048]⟩
abbrev S1x2048 : Shape := ⟨2, ![1, 2048]⟩
abbrev S1x512x2048 : Shape := ⟨3, ![1, 512, 2048]⟩
abbrev S1x16x2048 : Shape := ⟨3, ![1, 16, 2048]⟩
abbrev S1x2048x512 : Shape := ⟨3, ![1, 2048, 512]⟩
abbrev S1x3x512 : Shape := ⟨3, ![1, 3, 512]⟩
abbrev S1x1x512 : Shape := ⟨3, ![1, 1, 512]⟩
abbrev S1x1x1x1x2048 : Shape := ⟨5, ![1, 1, 1, 1, 2048]⟩
abbrev S512x2048 : Shape := ⟨2, ![512, 2048]⟩
abbrev S544x2048 : Shape := ⟨2, ![544, 2048]⟩
abbrev S544x512 : Shape := ⟨2, ![544, 512]⟩
abbrev S16x2048 : Shape := ⟨2, ![16, 2048]⟩
abbrev S2048x512 : Shape := ⟨2, ![2048, 512]⟩
abbrev S1x2048x256 : Shape := ⟨3, ![1, 2048, 256]⟩
abbrev S2048x256 : Shape := ⟨2, ![2048, 256]⟩
abbrev S544x256 : Shape := ⟨2, ![544, 256]⟩
abbrev S512x512 : Shape := ⟨2, ![512, 512]⟩
abbrev S1x512 : Shape := ⟨2, ![1, 512]⟩
abbrev S512x256 : Shape := ⟨2, ![512, 256]⟩
abbrev S1x1x256 : Shape := ⟨3, ![1, 1, 256]⟩
abbrev S1x256 : Shape := ⟨2, ![1, 256]⟩
abbrev S1x256x2048 : Shape := ⟨3, ![1, 256, 2048]⟩
abbrev S256x2048 : Shape := ⟨2, ![256, 2048]⟩
abbrev S512 : Shape := ⟨1, ![512]⟩
abbrev S512x1 : Shape := ⟨2, ![512, 1]⟩

abbrev nBuf : Space → Nat
  | .hbm => 9
  | .vmem => 31
  | .smem => 0
  | _ => 0

abbrev bufTy : (tb : Table) → Fin (tcTables nBuf tb) → BufTy
  | .hbm, ⟨0, _⟩ => ⟨S4x4096x2048, .bf16⟩
  | .hbm, ⟨1, _⟩ => ⟨S2x2048x11264, .bf16⟩
  | .hbm, ⟨2, _⟩ => ⟨S2x3x11264, .f32⟩
  | .hbm, ⟨3, _⟩ => ⟨S2x1x11264, .f32⟩
  | .hbm, ⟨4, _⟩ => ⟨S2x5632x2048, .bf16⟩
  | .hbm, ⟨5, _⟩ => ⟨S4x4096x2048, .f32⟩
  | .hbm, ⟨6, _⟩ => ⟨S2x8x6x1x2048, .f32⟩
  | .hbm, ⟨7, _⟩ => ⟨S1x2048, .f32⟩
  | .hbm, ⟨8, _⟩ => ⟨S4x4096x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x16x2048, .bf16⟩
  | .local _ .vmem, ⟨3, _⟩ => ⟨S1x16x2048, .bf16⟩
  | .local _ .vmem, ⟨4, _⟩ => ⟨S1x16x2048, .bf16⟩
  | .local _ .vmem, ⟨5, _⟩ => ⟨S1x16x2048, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x3x512, .f32⟩
  | .local _ .vmem, ⟨11, _⟩ => ⟨S1x3x512, .f32⟩
  | .local _ .vmem, ⟨12, _⟩ => ⟨S1x3x512, .f32⟩
  | .local _ .vmem, ⟨13, _⟩ => ⟨S1x3x512, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S1x512x2048, .bf16⟩
  | .local _ .vmem, ⟨19, _⟩ => ⟨S1x512x2048, .bf16⟩
  | .local _ .vmem, ⟨20, _⟩ => ⟨S1x512x2048, .f32⟩
  | .local _ .vmem, ⟨21, _⟩ => ⟨S1x512x2048, .f32⟩
  | .local _ .vmem, ⟨22, _⟩ => ⟨S1x1x1x1x2048, .f32⟩
  | .local _ .vmem, ⟨23, _⟩ => ⟨S1x1x1x1x2048, .f32⟩
  | .local _ .vmem, ⟨24, _⟩ => ⟨S1x2048, .f32⟩
  | .local _ .vmem, ⟨25, _⟩ => ⟨S1x512x2048, .f32⟩
  | .local _ .vmem, ⟨26, _⟩ => ⟨S1x512x2048, .f32⟩
  | .local _ .vmem, ⟨27, _⟩ => ⟨S512x2048, .f32⟩
  | .local _ .vmem, ⟨28, _⟩ => ⟨S544x2048, .bf16⟩
  | .local _ .vmem, ⟨29, _⟩ => ⟨S544x512, .f32⟩
  | .local _ .vmem, ⟨30, _⟩ => ⟨S544x512, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨3, ![4, 8, 11], ![false, false, false]⟩

def k0_cond2 (i : grid0.Coords) : BitVec 1 :=
  let arg2 : BitVec 32 := BitVec.ofNat 32 (i 2).val
  let c10_i32 : BitVec 32 := 10#32
  let v109 : BitVec 1 := Scalar.cmpi .eq arg2 c10_i32
  let v110 : BitVec 32 := Scalar.extui v109
  let c0_i32_81 : BitVec 32 := 0#32
  let v111 : BitVec 1 := Scalar.cmpi .ne v110 c0_i32_81
  v111

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c1_i32 : BitVec 32 := 1#32
  let c0_i32 : BitVec 32 := 0#32
  let c0_i32_0 : BitVec 32 := 0#32
  ![c1_i32.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c1_i32 : BitVec 32 := 1#32
  let c0_i32 : BitVec 32 := 0#32
  let c0_i32_0 : BitVec 32 := 0#32
  ![c1_i32.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg2.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_11 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c5_i32 : BitVec 32 := 5#32
  let c0_i32 : BitVec 32 := 0#32
  let c0_i32_0 : BitVec 32 := 0#32
  let c0_i32_1 : BitVec 32 := 0#32
  ![c1_i32.toNat, arg0.toNat, c5_i32.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x1x1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 2 → Memref sig .tc .vmem S1x512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== Reference2Ideal.lean ====
abbrev S4x4096x2048 : Shape := ⟨3, ![4, 4096, 2048]⟩
abbrev S2x2048x11264 : Shape := ⟨3, ![2, 2048, 11264]⟩
abbrev S2x3x11264 : Shape := ⟨3, ![2, 3, 11264]⟩
abbrev S2x1x11264 : Shape := ⟨3, ![2, 1, 11264]⟩
abbrev S2x5632x2048 : Shape := ⟨3, ![2, 5632, 2048]⟩
abbrev S2x8x6x1x2048 : Shape := ⟨5, ![2, 8, 6, 1, 2048]⟩
abbrev S1x2048 : Shape := ⟨2, ![1, 2048]⟩
abbrev S1x4x1x1x2048 : Shape := ⟨5, ![1, 4, 1, 1, 2048]⟩
abbrev S4x1x2048 : Shape := ⟨3, ![4, 1, 2048]⟩
abbrev S1x2048x11264 : Shape := ⟨3, ![1, 2048, 11264]⟩
abbrev S2048x11264 : Shape := ⟨2, ![2048, 11264]⟩
abbrev S1x3x11264 : Shape := ⟨3, ![1, 3, 11264]⟩
abbrev S3x11264 : Shape := ⟨2, ![3, 11264]⟩
abbrev S1x1x11264 : Shape := ⟨3, ![1, 1, 11264]⟩
abbrev S11264 : Shape := ⟨1, ![11264]⟩
abbrev S1x5632x2048 : Shape := ⟨3, ![1, 5632, 2048]⟩
abbrev S5632x2048 : Shape := ⟨2, ![5632, 2048]⟩
abbrev S4x4096x11264 : Shape := ⟨3, ![4, 4096, 11264]⟩
abbrev S_ : Shape := ⟨0, ![]⟩
abbrev S4x4098x11264 : Shape := ⟨3, ![4, 4098, 11264]⟩
abbrev S1x11264 : Shape := ⟨2, ![1, 11264]⟩
abbrev S4x4096x5632 : Shape := ⟨3, ![4, 4096, 5632]⟩
abbrev S2048 : Shape := ⟨1, ![2048]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 84
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S2x2048x11264, .bf16⟩
  | .hbm, ⟨2, _⟩ => ⟨S2x3x11264, .f32⟩
  | .hbm, ⟨3, _⟩ => ⟨S2x1x11264, .f32⟩
  | .hbm, ⟨4, _⟩ => ⟨S2x5632x2048, .bf16⟩
  | .hbm, ⟨5, _⟩ => ⟨S4x4096x2048, .f32⟩
  | .hbm, ⟨6, _⟩ => ⟨S2x8x6x1x2048, .f32⟩
  | .hbm, ⟨7, _⟩ => ⟨S1x2048, .f32⟩
  | .hbm, ⟨8, _⟩ => ⟨S4x4096x2048, .f32⟩
  | .hbm, ⟨9, _⟩ => ⟨S2x2048x11264, .f32⟩
  | .hbm, ⟨10, _⟩ => ⟨S2x5632x2048, .f32⟩
  | .hbm, ⟨11, _⟩ => ⟨S1x4x1x1x2048, .f32⟩
  | .hbm, ⟨12, _⟩ => ⟨S4x1x2048, .f32⟩
  | .hbm, ⟨13, _⟩ => ⟨S1x2048x11264, .f32⟩
  | .hbm, ⟨14, _⟩ => ⟨S2048x11264, .f32⟩
  | .hbm, ⟨15, _⟩ => ⟨S1x3x11264, .f32⟩
  | .hbm, ⟨16, _⟩ => ⟨S3x11264, .f32⟩
  | .hbm, ⟨17, _⟩ => ⟨S1x1x11264, .f32⟩
  | .hbm, ⟨18, _⟩ => ⟨S11264, .f32⟩
  | .hbm, ⟨19, _⟩ => ⟨S1x5632x2048, .f32⟩
  | .hbm, ⟨20, _⟩ => ⟨S5632x2048, .f32⟩
  | .hbm, ⟨21, _⟩ => ⟨S4x4096x11264, .f32⟩
  | .hbm, ⟨22, _⟩ => ⟨S_, .i32⟩
  | .hbm, ⟨23, _⟩ => ⟨S_, .f32⟩
  | .hbm, ⟨24, _⟩ => ⟨S4x4098x11264, .f32⟩
  | .hbm, ⟨25, _⟩ => ⟨S4x4096x11264, .f32⟩
  | .hbm, ⟨26, _⟩ => ⟨S1x11264, .f32⟩
  | .hbm, ⟨27, _⟩ => ⟨S11264, .f32⟩
  | .hbm, ⟨28, _⟩ => ⟨S1x1x11264, .f32⟩
  | .hbm, ⟨29, _⟩ => ⟨S4x4096x11264, .f32⟩
  | .hbm, ⟨30, _⟩ => ⟨S4x4096x11264, .f32⟩
  | .hbm, ⟨31, _⟩ => ⟨S_, .f32⟩
  | .hbm, ⟨32, _⟩ => ⟨S4x4096x11264, .f32⟩
  | .hbm, ⟨33, _⟩ => ⟨S4x4096x11264, .f32⟩
  | .hbm, ⟨34, _⟩ => ⟨S4x4096x11264, .f32⟩
  | .hbm, ⟨35, _⟩ => ⟨S1x11264, .f32⟩
  | .hbm, ⟨36, _⟩ => ⟨S11264, .f32⟩
  | .hbm, ⟨37, _⟩ => ⟨S1x1x11264, .f32⟩
  | .hbm, ⟨38, _⟩ => ⟨S4x4096x11264, .f32⟩
  | .hbm, ⟨39, _⟩ => ⟨S4x4096x11264, .f32⟩
  | .hbm, ⟨40, _⟩ => ⟨S4x4096x11264, .f32⟩
  | .hbm, ⟨41, _⟩ => ⟨S4x4096x11264, .f32⟩
  | .hbm, ⟨42, _⟩ => ⟨S1x11264, .f32⟩
  | .hbm, ⟨43, _⟩ => ⟨S11264, .f32⟩
  | .hbm, ⟨44, _⟩ => ⟨S1x1x11264, .f32⟩
  | .hbm, ⟨45, _⟩ => ⟨S4x4096x11264, .f32⟩
  | .hbm, ⟨46, _⟩ => ⟨S4x4096x11264, .f32⟩
  | .hbm, ⟨47, _⟩ => ⟨S4x4096x11264, .f32⟩
  | .hbm, ⟨48, _⟩ => ⟨S1x1x11264, .f32⟩
  | .hbm, ⟨49, _⟩ => ⟨S4x4096x11264, .f32⟩
  | .hbm, ⟨50, _⟩ => ⟨S4x4096x11264, .f32⟩
  | .hbm, ⟨51, _⟩ => ⟨S4x4096x5632, .f32⟩
  | .hbm, ⟨52, _⟩ => ⟨S4x4096x5632, .f32⟩
  | .hbm, ⟨53, _⟩ => ⟨S4x4096x5632, .f32⟩
  | .hbm, ⟨54, _⟩ => ⟨S4x4096x5632, .f32⟩
  | .hbm, ⟨55, _⟩ => ⟨S_, .f32⟩
  | .hbm, ⟨56, _⟩ => ⟨S4x4096x5632, .f32⟩
  | .hbm, ⟨57, _⟩ => ⟨S4x4096x5632, .f32⟩
  | .hbm, ⟨58, _⟩ => ⟨S_, .f32⟩
  | .hbm, ⟨59, _⟩ => ⟨S4x4096x5632, .f32⟩
  | .hbm, ⟨60, _⟩ => ⟨S4x4096x5632, .f32⟩
  | .hbm, ⟨61, _⟩ => ⟨S4x4096x5632, .f32⟩
  | .hbm, ⟨62, _⟩ => ⟨S4x4096x5632, .f32⟩
  | .hbm, ⟨63, _⟩ => ⟨S4x4096x2048, .f32⟩
  | .hbm, ⟨64, _⟩ => ⟨S4x4096x2048, .f32⟩
  | .hbm, ⟨65, _⟩ => ⟨S4x4096x2048, .f32⟩
  | .hbm, ⟨66, _⟩ => ⟨S4x4096x2048, .f32⟩
  | .hbm, ⟨67, _⟩ => ⟨S2048, .f32⟩
  | .hbm, ⟨68, _⟩ => ⟨S4x4096x2048, .f32⟩
  | .hbm, ⟨69, _⟩ => ⟨S_, .f32⟩
  | .hbm, ⟨70, _⟩ => ⟨S4x4096, .f32⟩
  | .hbm, ⟨71, _⟩ => ⟨S4x4096x1, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S_, .f32⟩
  | .hbm, ⟨76, _⟩ => ⟨S4x4096x1, .f32⟩
  | .hbm, ⟨77, _⟩ => ⟨S4x4096x1, .f32⟩
  | .hbm, ⟨78, _⟩ => ⟨S4x4096x1, .f32⟩
  | .hbm, ⟨79, _⟩ => ⟨S4x4096x2048, .f32⟩
  | .hbm, ⟨80, _⟩ => ⟨S4x4096x2048, .f32⟩
  | .hbm, ⟨81, _⟩ => ⟨S1x1x2048, .f32⟩
  | .hbm, ⟨82, _⟩ => ⟨S4x4096x2048, .f32⟩
  | .hbm, ⟨83, _⟩ => ⟨S4x4096x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_0 : Ref sig .tc := ⟨.hbm, 69, rfl⟩
abbrev main_v50 : Ref sig .tc := ⟨.hbm, 70, rfl⟩
abbrev main_v51 : Ref sig .tc := ⟨.hbm, 71, rfl⟩
abbrev main_cst_1 : Ref sig .tc := ⟨.hbm, 72, rfl⟩
abbrev main_v52 : Ref sig .tc := ⟨.hbm, 73, rfl⟩
abbrev main_v53 : Ref sig .tc := ⟨.hbm, 74, rfl⟩
abbrev main_cst_2 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x512 : Shape := ⟨3, ![4, 4096, 512]⟩
abbrev S4096x2048 : Shape := ⟨2, ![4096, 2048]⟩
abbrev S2x2048x2048 : Shape := ⟨3, ![2, 2048, 2048]⟩
abbrev S4x4096x2048 : Shape := ⟨3, ![4, 4096, 2048]⟩
abbrev S2x1x2048 : Shape := ⟨3, ![2, 1, 2048]⟩
abbrev S2x8x6x1x2048 : Shape := ⟨5, ![2, 8, 6, 1, 2048]⟩
abbrev S1x512x1024 : Shape := ⟨3, ![1, 512, 1024]⟩
abbrev S1x512x512 : Shape := ⟨3, ![1, 512, 512]⟩
abbrev S512x512 : Shape := ⟨2, ![512, 512]⟩
abbrev S1x2048x2048 : Shape := ⟨3, ![1, 2048, 2048]⟩
abbrev S1x512x2048 : Shape := ⟨3, ![1, 512, 2048]⟩
abbrev S1x1x1x1x2048 : Shape := ⟨5, ![1, 1, 1, 1, 2048]⟩
abbrev S1x1x2048 : Shape := ⟨3, ![1, 1, 2048]⟩
abbrev S1x256x1024 : Shape := ⟨3, ![1, 256, 1024]⟩
abbrev S256x1024 : Shape := ⟨2, ![256, 1024]⟩
abbrev S1x1024x2048 : Shape := ⟨3, ![1, 1024, 2048]⟩
abbrev S1024x2048 : Shape := ⟨2, ![1024, 2048]⟩
abbrev S256x2048 : Shape := ⟨2, ![256, 2048]⟩
abbrev S1x256x512 : Shape := ⟨3, ![1, 256, 512]⟩
abbrev S256x512 : Shape := ⟨2, ![256, 512]⟩
abbrev S512x2048 : Shape := ⟨2, ![512, 2048]⟩
abbrev S1x256x2048 : Shape := ⟨3, ![1, 256, 2048]⟩
abbrev S1x2048 : Shape := ⟨2, ![1, 2048]⟩
abbrev S256 : Shape := ⟨1, ![256]⟩
abbrev S256x1 : Shape := ⟨2, ![256, 1]⟩

abbrev nBuf : Space → Nat
  | .hbm => 9
  | .vmem => 20
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x512, .bf16⟩
  | .hbm, ⟨2, _⟩ => ⟨S4096x2048, .bf16⟩
  | .hbm, ⟨3, _⟩ => ⟨S2x2048x2048, .bf16⟩
  | .hbm, ⟨4, _⟩ => ⟨S4x4096x2048, .f32⟩
  | .hbm, ⟨5, _⟩ => ⟨S2x1x2048, .f32⟩
  | .hbm, ⟨6, _⟩ => ⟨S2x8x6x1x2048, .f32⟩
  | .hbm, ⟨7, _⟩ => ⟨S4x4096x2048, .f32⟩
  | .hbm, ⟨8, _⟩ => ⟨S4x4096x2048, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x512, .bf16⟩
  | .local _ .vmem, ⟨3, _⟩ => ⟨S1x512x512, .bf16⟩
  | .local _ .vmem, ⟨4, _⟩ => ⟨S512x512, .bf16⟩
  | .local _ .vmem, ⟨5, _⟩ => ⟨S512x512, .bf16⟩
  | .local _ .vmem, ⟨6, _⟩ => ⟨S1x2048x2048, .bf16⟩
  | .local _ .vmem, ⟨7, _⟩ => ⟨S1x512x2048, .f32⟩
  | .local _ .vmem, ⟨8, _⟩ => ⟨S1x512x2048, .f32⟩
  | .local _ .vmem, ⟨9, _⟩ => ⟨S1x1x1x1x2048, .f32⟩
  | .local _ .vmem, ⟨10, _⟩ => ⟨S1x1x1x1x2048, .f32⟩
  | .local _ .vmem, ⟨11, _⟩ => ⟨S1x1x2048, .f32⟩
  | .local _ .vmem, ⟨12, _⟩ => ⟨S1x1x1x1x2048, .f32⟩
  | .local _ .vmem, ⟨13, _⟩ => ⟨S1x1x1x1x2048, .f32⟩
  | .local _ .vmem, ⟨14, _⟩ => ⟨S1x1x1x1x2048, .f32⟩
  | .local _ .vmem, ⟨15, _⟩ => ⟨S1x1x1x1x2048, .f32⟩
  | .local _ .vmem, ⟨16, _⟩ => ⟨S1x512x2048, .f32⟩
  | .local _ .vmem, ⟨17, _⟩ => ⟨S1x512x2048, .f32⟩
  | .local _ .vmem, ⟨18, _⟩ => ⟨S1x512x2048, .bf16⟩
  | .local _ .vmem, ⟨19, _⟩ => ⟨S1x512x2048, .bf16⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 5 → Nat :=
  let arg0 : BitVec 32 := BitVec.ofNat 32 (i 0).val
  let arg1 : BitVec 32 := BitVec.ofNat 32 (i 1).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, arg0.toNat, c2_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let c1_i32 : BitVec 32 := 1#32
  let c4_i32 : BitVec 32 := 4#32
  let c0_i32 : BitVec 32 := 0#32
  let c0_i32_0 : BitVec 32 := 0#32
  let c0_i32_1 : BitVec 32 := 0#32
  ![c1_i32.toNat, arg0.toNat, c4_i32.toNat, c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let c1_i32 : BitVec 32 := 1#32
  let c3_i32 : BitVec 32 := 3#32
  let c0_i32 : BitVec 32 := 0#32
  let c0_i32_0 : BitVec 32 := 0#32
  let c0_i32_1 : BitVec 32 := 0#32
  ![c1_i32.toNat, arg0.toNat, c3_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S4x4096x1024 : Shape := ⟨3, ![4, 4096, 1024]⟩
abbrev S4x4096x512 : Shape := ⟨3, ![4, 4096, 512]⟩
abbrev S4096x2048 : Shape := ⟨2, ![4096, 2048]⟩
abbrev S2x2048x2048 : Shape := ⟨3, ![2, 2048, 2048]⟩
abbrev S4x4096x2048 : Shape := ⟨3, ![4, 4096, 2048]⟩
abbrev S2x1x2048 : Shape := ⟨3, ![2, 1, 2048]⟩
abbrev S2x8x6x1x2048 : Shape := ⟨5, ![2, 8, 6, 1, 2048]⟩
abbrev S1x4x1x1x2048 : Shape := ⟨5, ![1, 4, 1, 1, 2048]⟩
abbrev S4x1x2048 : Shape := ⟨3, ![4, 1, 2048]⟩
abbrev S4096x4x512 : Shape := ⟨3, ![4096, 4, 512]⟩
abbrev S1x2048x2048 : Shape := ⟨3, ![1, 2048, 2048]⟩
abbrev S2048x2048 : Shape := ⟨2, ![2048, 2048]⟩
abbrev S1x1x2048 : Shape := ⟨3, ![1, 1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x512, .bf16⟩
  | .hbm, ⟨2, _⟩ => ⟨S4096x2048, .bf16⟩
  | .hbm, ⟨3, _⟩ => ⟨S2x2048x2048, .bf16⟩
  | .hbm, ⟨4, _⟩ => ⟨S4x4096x2048, .f32⟩
  | .hbm, ⟨5, _⟩ => ⟨S2x1x2048, .f32⟩
  | .hbm, ⟨6, _⟩ => ⟨S2x8x6x1x2048, .f32⟩
  | .hbm, ⟨7, _⟩ => ⟨S4x4096x1024, .f32⟩
  | .hbm, ⟨8, _⟩ => ⟨S4x4096x512, .f32⟩
  | .hbm, ⟨9, _⟩ => ⟨S4096x2048, .f32⟩
  | .hbm, ⟨10, _⟩ => ⟨S2x2048x2048, .f32⟩
  | .hbm, ⟨11, _⟩ => ⟨S1x4x1x1x2048, .f32⟩
  | .hbm, ⟨12, _⟩ => ⟨S4x1x2048, .f32⟩
  | .hbm, ⟨13, _⟩ => ⟨S1x4x1x1x2048, .f32⟩
  | .hbm, ⟨14, _⟩ => ⟨S4x1x2048, .f32⟩
  | .hbm, ⟨15, _⟩ => ⟨S1x4x1x1x2048, .f32⟩
  | .hbm, ⟨16, _⟩ => ⟨S4x1x2048, .f32⟩
  | .hbm, ⟨17, _⟩ => ⟨S4096x4x512, .f32⟩
  | .hbm, ⟨18, _⟩ => ⟨S4x4096x512, .f32⟩
  | .hbm, ⟨19, _⟩ => ⟨S4x4096x2048, .f32⟩
  | .hbm, ⟨20, _⟩ => ⟨S1x2048x2048, .f32⟩
  | .hbm, ⟨21, _⟩ => ⟨S2048x2048, .f32⟩
  | .hbm, ⟨22, _⟩ => ⟨S4x4096x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S1x1x2048, .f32⟩
  | .hbm, ⟨27, _⟩ => ⟨S2048, .f32⟩
  | .hbm, ⟨28, _⟩ => ⟨S4x4096x2048, .f32⟩
  | .hbm, ⟨29, _⟩ => ⟨S_, .f32⟩
  | .hbm, ⟨30, _⟩ => ⟨S4x4096, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x1, .f32⟩
  | .hbm, ⟨39, _⟩ => ⟨S4x4096x2048, .f32⟩
  | .hbm, ⟨40, _⟩ => ⟨S4x4096x2048, .f32⟩
  | .hbm, ⟨41, _⟩ => ⟨S1x1x2048, .f32⟩
  | .hbm, ⟨42, _⟩ => ⟨S4x4096x2048, .f32⟩
  | .hbm, ⟨43, _⟩ => ⟨S4x4096x2048, .f32⟩
  | .hbm, ⟨44, _⟩ => ⟨S_, .f32⟩
  | .hbm, ⟨45, _⟩ => ⟨S4x1x2048, .f32⟩
  | .hbm, ⟨46, _⟩ => ⟨S4x1x2048, .f32⟩
  | .hbm, ⟨47, _⟩ => ⟨S4x4096x2048, .f32⟩
  | .hbm, ⟨48, _⟩ => ⟨S4x4096x2048, .f32⟩
  | .hbm, ⟨49, _⟩ => ⟨S4x4096x2048, .f32⟩
  | .hbm, ⟨50, _⟩ => ⟨S4x4096x2048, .f32⟩
  | .hbm, ⟨51, _⟩ => ⟨S4x4096x2048, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Kernel4.lean ====
abbrev S4x4096x2048 : Shape := ⟨3, ![4, 4096, 2048]⟩
abbrev S2x1x2048 : Shape := ⟨3, ![2, 1, 2048]⟩
abbrev S2x8x6x1x2048 : Shape := ⟨5, ![2, 8, 6, 1, 2048]⟩
abbrev S2x2048x1024 : Shape := ⟨3, ![2, 2048, 1024]⟩
abbrev S2x2048x2048 : Shape := ⟨3, ![2, 2048, 2048]⟩
abbrev S2x2048x128 : Shape := ⟨3, ![2, 2048, 128]⟩
abbrev S2x1x512 : Shape := ⟨3, ![2, 1, 512]⟩
abbrev S2x512x2048 : Shape := ⟨3, ![2, 512, 2048]⟩
abbrev S4096x128 : Shape := ⟨2, ![4096, 128]⟩
abbrev S4x4096x1024 : Shape := ⟨3, ![4, 4096, 1024]⟩
abbrev S4x4096x128 : Shape := ⟨3, ![4, 4096, 128]⟩
abbrev S4x4096x512 : Shape := ⟨3, ![4, 4096, 512]⟩
abbrev S4096x2048 : Shape := ⟨2, ![4096, 2048]⟩
abbrev S1x512x2048 : Shape := ⟨3, ![1, 512, 2048]⟩
abbrev S1x1x2048 : Shape := ⟨3, ![1, 1, 2048]⟩
abbrev S1x1x1x1x2048 : Shape := ⟨5, ![1, 1, 1, 1, 2048]⟩
abbrev S1x2048x1024 : Shape := ⟨3, ![1, 2048, 1024]⟩
abbrev S1x2048x2048 : Shape := ⟨3, ![1, 2048, 2048]⟩
abbrev S1x2048x128 : Shape := ⟨3, ![1, 2048, 128]⟩
abbrev S1x1x512 : Shape := ⟨3, ![1, 1, 512]⟩
abbrev S512x128 : Shape := ⟨2, ![512, 128]⟩
abbrev S1x512x1024 : Shape := ⟨3, ![1, 512, 1024]⟩
abbrev S1x512x128 : Shape := ⟨3, ![1, 512, 128]⟩
abbrev S1x512x512 : Shape := ⟨3, ![1, 512, 512]⟩
abbrev S512x512 : Shape := ⟨2, ![512, 512]⟩
abbrev S1x256x2048 : Shape := ⟨3, ![1, 256, 2048]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S1x2048x512 : Shape := ⟨3, ![1, 2048, 512]⟩
abbrev S2048x512 : Shape := ⟨2, ![2048, 512]⟩
abbrev S256x512 : Shape := ⟨2, ![256, 512]⟩
abbrev S1x256x512 : Shape := ⟨3, ![1, 256, 512]⟩
abbrev S256x128 : Shape := ⟨2, ![256, 128]⟩
abbrev S1x512 : Shape := ⟨2, ![1, 512]⟩
abbrev S512x2048 : Shape := ⟨2, ![512, 2048]⟩
abbrev S1x256x128 : Shape := ⟨3, ![1, 256, 128]⟩
abbrev S512x1024 : Shape := ⟨2, ![512, 1024]⟩
abbrev S256x1024 : Shape := ⟨2, ![256, 1024]⟩
abbrev S1x256x1024 : Shape := ⟨3, ![1, 256, 1024]⟩
abbrev S2048x128 : Shape := ⟨2, ![2048, 128]⟩

abbrev nBuf : Space → Nat
  | .hbm => 20
  | .vmem => 34
  | .smem => 0
  | _ => 0

abbrev bufTy : (tb : Table) → Fin (tcTables nBuf tb) → BufTy
  | .hbm, ⟨0, _⟩ => ⟨S4x4096x2048, .f32⟩
  | .hbm, ⟨1, _⟩ => ⟨S2x1x2048, .f32⟩
  | .hbm, ⟨2, _⟩ => ⟨S2x8x6x1x2048, .f32⟩
  | .hbm, ⟨3, _⟩ => ⟨S2x2048x1024, .bf16⟩
  | .hbm, ⟨4, _⟩ => ⟨S2x2048x2048, .bf16⟩
  | .hbm, ⟨5, _⟩ => ⟨S2x2048x128, .bf16⟩
  | .hbm, ⟨6, _⟩ => ⟨S2x1x512, .f32⟩
  | .hbm, ⟨7, _⟩ => ⟨S2x1x512, .f32⟩
  | .hbm, ⟨8, _⟩ => ⟨S2x512x2048, .bf16⟩
  | .hbm, ⟨9, _⟩ => ⟨S2x512x2048, .bf16⟩
  | .hbm, ⟨10, _⟩ => ⟨S4096x128, .f32⟩
  | .hbm, ⟨11, _⟩ => ⟨S4096x128, .f32⟩
  | .hbm, ⟨12, _⟩ => ⟨S4x4096x2048, .bf16⟩
  | .hbm, ⟨13, _⟩ => ⟨S4x4096x1024, .bf16⟩
  | .hbm, ⟨14, _⟩ => ⟨S4x4096x1024, .bf16⟩
  | .hbm, ⟨15, _⟩ => ⟨S4x4096x128, .bf16⟩
  | .hbm, ⟨16, _⟩ => ⟨S4x4096x512, .bf16⟩
  | .hbm, ⟨17, _⟩ => ⟨S4x4096x512, .bf16⟩
  | .hbm, ⟨18, _⟩ => ⟨S4x4096x512, .bf16⟩
  | .hbm, ⟨19, _⟩ => ⟨S4096x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S1x2048x1024, .bf16⟩
  | .local _ .vmem, ⟨8, _⟩ => ⟨S1x2048x2048, .bf16⟩
  | .local _ .vmem, ⟨9, _⟩ => ⟨S1x2048x128, .bf16⟩
  | .local _ .vmem, ⟨10, _⟩ => ⟨S1x1x512, .f32⟩
  | .local _ .vmem, ⟨11, _⟩ => ⟨S1x1x512, .f32⟩
  | .local _ .vmem, ⟨12, _⟩ => ⟨S1x512x2048, .bf16⟩
  | .local _ .vmem, ⟨13, _⟩ => ⟨S1x512x2048, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x512x2048, .bf16⟩
  | .local _ .vmem, ⟨19, _⟩ => ⟨S1x512x2048, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x128, .bf16⟩
  | .local _ .vmem, ⟨25, _⟩ => ⟨S1x512x128, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | .local _ .vmem, ⟨30, _⟩ => ⟨S1x512x512, .bf16⟩
  | .local _ .vmem, ⟨31, _⟩ => ⟨S1x512x512, .bf16⟩
  | .local _ .vmem, ⟨32, _⟩ => ⟨S512x512, .bf16⟩
  | .local _ .vmem, ⟨33, _⟩ => ⟨S512x512, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, arg0.toNat, c1_i32_0.toNat, c0_i32.toNat, c0_i32_1.toNat]

def cc0_transform_3 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference4Ideal.lean ====
abbrev S4x4096x2048 : Shape := ⟨3, ![4, 4096, 2048]⟩
abbrev S2x1x2048 : Shape := ⟨3, ![2, 1, 2048]⟩
abbrev S2x8x6x1x2048 : Shape := ⟨5, ![2, 8, 6, 1, 2048]⟩
abbrev S2x2048x1024 : Shape := ⟨3, ![2, 2048, 1024]⟩
abbrev S2x2048x2048 : Shape := ⟨3, ![2, 2048, 2048]⟩
abbrev S2x2048x128 : Shape := ⟨3, ![2, 2048, 128]⟩
abbrev S2x1x512 : Shape := ⟨3, ![2, 1, 512]⟩
abbrev S2x512x2048 : Shape := ⟨3, ![2, 512, 2048]⟩
abbrev S4096x128 : Shape := ⟨2, ![4096, 128]⟩
abbrev S1x4x1x1x2048 : Shape := ⟨5, ![1, 4, 1, 1, 2048]⟩
abbrev S4x1x2048 : Shape := ⟨3, ![4, 1, 2048]⟩
abbrev S1x1x2048 : Shape := ⟨3, ![1, 1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x2048x1024 : Shape := ⟨3, ![1, 2048, 1024]⟩
abbrev S2048x1024 : Shape := ⟨2, ![2048, 1024]⟩
abbrev S4x4096x1024 : Shape := ⟨3, ![4, 4096, 1024]⟩
abbrev S4x4096x512 : Shape := ⟨3, ![4, 4096, 512]⟩
abbrev S1x2048x2048 : Shape := ⟨3, ![1, 2048, 2048]⟩
abbrev S2048x2048 : Shape := ⟨2, ![2048, 2048]⟩
abbrev S1x1x512 : Shape := ⟨3, ![1, 1, 512]⟩
abbrev S512 : Shape := ⟨1, ![512]⟩
abbrev S1x512x2048 : Shape := ⟨3, ![1, 512, 2048]⟩
abbrev S512x2048 : Shape := ⟨2, ![512, 2048]⟩
abbrev S4x4096x8x256 : Shape := ⟨4, ![4, 4096, 8, 256]⟩
abbrev S4x4096x8x128 : Shape := ⟨4, ![4, 4096, 8, 128]⟩
abbrev S4096x1x128 : Shape := ⟨3, ![4096, 1, 128]⟩
abbrev S1x4096x1x128 : Shape := ⟨4, ![1, 4096, 1, 128]⟩
abbrev S4x4096x8x64 : Shape := ⟨4, ![4, 4096, 8, 64]⟩
abbrev S1x2048x128 : Shape := ⟨3, ![1, 2048, 128]⟩
abbrev S2048x128 : Shape := ⟨2, ![2048, 128]⟩
abbrev S4x4096x128 : Shape := ⟨3, ![4, 4096, 128]⟩
abbrev S1x4096x128 : Shape := ⟨3, ![1, 4096, 128]⟩
abbrev S4x4096x64 : Shape := ⟨3, ![4, 4096, 64]⟩
abbrev S4096x4x512 : Shape := ⟨3, ![4096, 4, 512]⟩
abbrev S4096x2048 : Shape := ⟨2, ![4096, 2048]⟩

abbrev nBuf : Space → Nat
  | .hbm => 148
  | .vmem => 0
  | .smem => 0
  | _ => 0

abbrev hbmTy0_0 (i : Nat) : BufTy := match i % 128 with
  | 0 => ⟨S4x4096x2048, .f32⟩
  | 1 => ⟨S2x1x2048, .f32⟩
  | 2 => ⟨S2x8x6x1x2048, .f32⟩
  | 3 => ⟨S2x2048x1024, .bf16⟩
  | 4 => ⟨S2x2048x2048, .bf16⟩
  | 5 => ⟨S2x2048x128, .bf16⟩
  | 6 => ⟨S2x1x512, .f32⟩
  | 7 => ⟨S2x1x512, .f32⟩
  | 8 => ⟨S2x512x2048, .bf16⟩
  | 9 => ⟨S2x512x2048, .bf16⟩
  | 10 => ⟨S4096x128, .f32⟩
  | 11 => ⟨S4096x128, .f32⟩
  | 12 => ⟨S2x2048x1024, .f32⟩
  | 13 => ⟨S2x2048x2048, .f32⟩
  | 14 => ⟨S2x2048x128, .f32⟩
  | 15 => ⟨S2x512x2048, .f32⟩
  | 16 => ⟨S2x512x2048, .f32⟩
  | 17 => ⟨S1x4x1x1x2048, .f32⟩
  | 18 => ⟨S4x1x2048, .f32⟩
  | 19 => ⟨S1x4x1x1x2048, .f32⟩
  | 20 => ⟨S4x1x2048, .f32⟩
  | 21 => ⟨S1x1x2048, .f32⟩
  | 22 => ⟨S2048, .f32⟩
  | 23 => ⟨S4x4096x2048, .f32⟩
  | 24 => ⟨S_, .f32⟩
  | 25 => ⟨S4x4096, .f32⟩
  | 26 => ⟨S4x4096x1, .f32⟩
  | 27 => ⟨S_, .f32⟩
  | 28 => ⟨S4x4096x1, .f32⟩
  | 29 => ⟨S4x4096x1, .f32⟩
  | 30 => ⟨S_, .f32⟩
  | 31 => ⟨S4x4096x1, .f32⟩
  | 32 => ⟨S4x4096x1, .f32⟩
  | 33 => ⟨S4x4096x1, .f32⟩
  | 34 => ⟨S4x4096x2048, .f32⟩
  | 35 => ⟨S4x4096x2048, .f32⟩
  | 36 => ⟨S1x1x2048, .f32⟩
  | 37 => ⟨S4x4096x2048, .f32⟩
  | 38 => ⟨S4x4096x2048, .f32⟩
  | 39 => ⟨S_, .f32⟩
  | 40 => ⟨S4x1x2048, .f32⟩
  | 41 => ⟨S4x1x2048, .f32⟩
  | 42 => ⟨S4x4096x2048, .f32⟩
  | 43 => ⟨S4x4096x2048, .f32⟩
  | 44 => ⟨S4x4096x2048, .f32⟩
  | 45 => ⟨S4x4096x2048, .f32⟩
  | 46 => ⟨S1x2048x1024, .f32⟩
  | 47 => ⟨S2048x1024, .f32⟩
  | 48 => ⟨S4x4096x1024, .f32⟩
  | 49 => ⟨S4x4096x512, .f32⟩
  | 50 => ⟨S4x4096x512, .f32⟩
  | 51 => ⟨S1x2048x2048, .f32⟩
  | 52 => ⟨S2048x2048, .f32⟩
  | 53 => ⟨S4x4096x2048, .f32⟩
  | 54 => ⟨S4x4096x512, .f32⟩
  | 55 => ⟨S4x4096x512, .f32⟩
  | 56 => ⟨S4x4096x512, .f32⟩
  | 57 => ⟨S4x4096x512, .f32⟩
  | 58 => ⟨S1x1x512, .f32⟩
  | 59 => ⟨S512, .f32⟩
  | 60 => ⟨S4x4096x512, .f32⟩
  | 61 => ⟨S_, .f32⟩
  | 62 => ⟨S4x4096, .f32⟩
  | 63 => ⟨S4x4096x1, .f32⟩
  | 64 => ⟨S_, .f32⟩
  | 65 => ⟨S4x4096x1, .f32⟩
  | 66 => ⟨S4x4096x1, .f32⟩
  | 67 => ⟨S_, .f32⟩
  | 68 => ⟨S4x4096x1, .f32⟩
  | 69 => ⟨S4x4096x1, .f32⟩
  | 70 => ⟨S4x4096x1, .f32⟩
  | 71 => ⟨S4x4096x512, .f32⟩
  | 72 => ⟨S4x4096x512, .f32⟩
  | 73 => ⟨S1x1x512, .f32⟩
  | 74 => ⟨S4x4096x512, .f32⟩
  | 75 => ⟨S4x4096x512, .f32⟩
  | 76 => ⟨S1x512x2048, .f32⟩
  | 77 => ⟨S512x2048, .f32⟩
  | 78 => ⟨S4x4096x2048, .f32⟩
  | 79 => ⟨S_, .f32⟩
  | 80 => ⟨S4x4096x2048, .f32⟩
  | 81 => ⟨S4x4096x2048, .f32⟩
  | 82 => ⟨S4x4096x8x256, .f32⟩
  | 83 => ⟨S4x4096x8x128, .f32⟩
  | 84 => ⟨S4096x1x128, .f32⟩
  | 85 => ⟨S4096x1x128, .f32⟩
  | 86 => ⟨S1x4096x1x128, .f32⟩
  | 87 => ⟨S4x4096x8x128, .f32⟩
  | 88 => ⟨S4x4096x8x128, .f32⟩
  | 89 => ⟨S4x4096x8x64, .f32⟩
  | 90 => ⟨S4x4096x8x64, .f32⟩
  | 91 => ⟨S4x4096x8x128, .f32⟩
  | 92 => ⟨S1x4096x1x128, .f32⟩
  | 93 => ⟨S4x4096x8x128, .f32⟩
  | 94 => ⟨S4x4096x8x128, .f32⟩
  | 95 => ⟨S4x4096x8x128, .f32⟩
  | 96 => ⟨S4x4096x8x128, .f32⟩
  | 97 => ⟨S4x4096x8x256, .f32⟩
  | 98 => ⟨S4x4096x2048, .f32⟩
  | 99 => ⟨S1x1x512, .f32⟩
  | 100 => ⟨S512, .f32⟩
  | 101 => ⟨S4x4096x512, .f32⟩
  | 102 => ⟨S_, .f32⟩
  | 103 => ⟨S4x4096, .f32⟩
  | 104 => ⟨S4x4096x1, .f32⟩
  | 105 => ⟨S_, .f32⟩
  | 106 => ⟨S4x4096x1, .f32⟩
  | 107 => ⟨S4x4096x1, .f32⟩
  | 108 => ⟨S_, .f32⟩
  | 109 => ⟨S4x4096x1, .f32⟩
  | 110 => ⟨S4x4096x1, .f32⟩
  | 111 => ⟨S4x4096x1, .f32⟩
  | 112 => ⟨S4x4096x512, .f32⟩
  | 113 => ⟨S4x4096x512, .f32⟩
  | 114 => ⟨S1x1x512, .f32⟩
  | 115 => ⟨S4x4096x512, .f32⟩
  | 116 => ⟨S4x4096x512, .f32⟩
  | 117 => ⟨S1x512x2048, .f32⟩
  | 118 => ⟨S512x2048, .f32⟩
  | 119 => ⟨S4x4096x2048, .f32⟩
  | 120 => ⟨S4x4096x1024, .f32⟩
  | 121 => ⟨S4x4096x1024, .f32⟩
  | 122 => ⟨S1x2048x128, .f32⟩
  | 123 => ⟨S2048x128, .f32⟩
  | 124 => ⟨S4x4096x128, .f32⟩
  | 125 => ⟨S1x4096x128, .f32⟩
  | 126 => ⟨S4x4096x128, .f32⟩
  | 127 => ⟨S4x4096x128, .f32⟩
  | _ => ⟨S4x4096x2048, .f32⟩

abbrev hbmTy0_1 (i : Nat) : BufTy := match i % 128 with
  | 0 => ⟨S4x4096x64, .f32⟩
  | 1 => ⟨S4x4096x64, .f32⟩
  | 2 => ⟨S4x4096x128, .f32⟩
  | 3 => ⟨S1x4096x128, .f32⟩
  | 4 => ⟨S4x4096x128, .f32⟩
  | 5 => ⟨S4x4096x128, .f32⟩
  | 6 => ⟨S4x4096x128, .f32⟩
  | 7 => ⟨S4096x4x512, .f32⟩
  | 8 => ⟨S4096x2048, .f32⟩
  | 9 => ⟨S_, .f32⟩
  | 10 => ⟨S4x4096x512, .f32⟩
  | 11 => ⟨S4x4096x512, .f32⟩
  | 12 => ⟨S4x4096x2048, .bf16⟩
  | 13 => ⟨S4x4096x1024, .bf16⟩
  | 14 => ⟨S4x4096x1024, .bf16⟩
  | 15 => ⟨S4x4096x128, .bf16⟩
  | 16 => ⟨S4x4096x512, .bf16⟩
  | 17 => ⟨S4x4096x512, .bf16⟩
  | 18 => ⟨S4x4096x512, .bf16⟩
  | 19 => ⟨S4096x2048, .bf16⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_3 : Ref sig .tc := ⟨.hbm, 61, rfl⟩
abbrev main_v45 : Ref sig .tc := ⟨.hbm, 62, rfl⟩
abbrev main_v46 : Ref sig .tc := ⟨.hbm, 63, rfl⟩
abbrev main_cst_4 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_6 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_7 : Ref sig .tc := ⟨.hbm, 102, rfl⟩
abbrev main_v82 : Ref sig .tc := ⟨.hbm, 103, rfl⟩
abbrev main_v83 : Ref sig .tc := ⟨.hbm, 104, rfl⟩
abbrev main_cst_8 : Ref sig .tc := ⟨.hbm, 105, rfl⟩
abbrev main_v84 : Ref sig .tc := ⟨.hbm, 106, rfl⟩
abbrev main_v85 : Ref sig .tc := ⟨.hbm, 107, rfl⟩
abbrev main_cst_9 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_cst_10 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩

abbrev nD : Nat := 1
abbrev τ : Topo := Topo.v7x

variable {F : FTy → Type} [FloatOps F]
-- ==== Proof.Weights.lean ====
/- Weighted sums of an online softmax over extended reals.

   An online softmax keeps, for a row of scores, a running shift `μ` (the largest score so far), a running sum of the
   weights `2 ^ (s k - μ)` and running sums of the weighted values `2 ^ (s k - μ) * v k`. When the shift moves from `μ` to
   `μ'`, every running sum is multiplied by `2 ^ (μ - μ')`. This module says, for real scores and shifts and ANY extended
   real values, that this multiplication turns the sum at `μ` into the sum at `μ'` (`Shifts`), and that the quotient of two
   such sums does not depend on the shift. -/
module

public import Idealize.ShloMosaic.Lib.Pipeline.ValueKit
public import Idealize.ShloMosaic.Lib.Pointwise

@[expose] public section

noncomputable section

open Idealize.ShloMosaic

namespace Cert.Attn

/-- `2 ^ x` at a real is the real power. -/
theorem exp2_coe (x : ℝ) : Ideal.exp2 (x : EReal) = ((2 : ℝ) ^ x : ℝ) := rfl

/-- The weight `2 ^ (s - μ)` at a real score and a real shift is a real. -/
theorem exp2_sub (s μ : ℝ) : Ideal.exp2 ((s : EReal) - (μ : EReal)) = ((2 : ℝ) ^ (s - μ) : ℝ) := by
  rw [← EReal.coe_sub]; rfl

/-- A nonnegative real factor goes through a sum of two extended reals. -/
theorem coe_mul_add {a : ℝ} (ha : 0 ≤ a) (x y : EReal) : (a : EReal) * (x + y) = a * x + a * y :=
  EReal.left_distrib_of_nonneg_of_ne_top (by exact_mod_cast ha) (EReal.coe_ne_top a) x y

/-- A nonnegative real factor goes through a finite sum of extended reals. -/
theorem coe_mul_sum {ι : Type*} {a : ℝ} (ha : 0 ≤ a) (s : Finset ι) (f : ι → EReal) :
    (a : EReal) * ∑ i ∈ s, f i = ∑ i ∈ s, (a : EReal) * f i := by
  classical
  induction s using Finset.induction_on with
  | empty => simp
  | insert i s hi ih => rw [Finset.sum_insert hi, Finset.sum_insert hi, coe_mul_add ha, ih]

/-- A finite sum of reals, read as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A function of the shift that is multiplied by `2 ^ (μ - μ')` when the shift moves from `μ` to `μ'`. -/
def Shifts (L : ℝ → EReal) : Prop := ∀ μ μ' : ℝ, Ideal.exp2 ((μ : EReal) - (μ' : EReal)) * L μ = L μ'

/-- The empty sum moves with the shift. -/
theorem Shifts.zero : Shifts fun _ => 0 := fun _ _ => mul_zero _

/-- One weighted value moves with the shift. -/
theorem Shifts.weight (s : ℝ) (v : EReal) : Shifts fun μ => Ideal.exp2 ((s : EReal) - (μ : EReal)) * v := by
  intro μ μ'
  show Ideal.exp2 _ * (Ideal.exp2 _ * v) = Ideal.exp2 _ * v
  rw [exp2_sub, exp2_sub, exp2_sub, ← mul_assoc, ← EReal.coe_mul, ← Real.rpow_add (by norm_num)]
  congr 3; ring

/-- One weight moves with the shift. -/
theorem Shifts.weight_one (s : ℝ) : Shifts fun μ => Ideal.exp2 ((s : EReal) - (μ : EReal)) := by
  have h := Shifts.weight s 1
  simpa using h

/-- Sums of two functions that move with the shift move with it. -/
theorem Shifts.add {L L' : ℝ → EReal} (h : Shifts L) (h' : Shifts L') : Shifts fun μ => L μ + L' μ := by
  intro μ μ'
  have e := exp2_sub μ μ'
  have hp : (0 : ℝ) ≤ (2 : ℝ) ^ (μ - μ') := (Real.rpow_pos_of_pos (by norm_num) _).le
  have a := h μ μ'
  have b := h' μ μ'
  rw [e] at a b ⊢
  rw [coe_mul_add hp, a, b]

/-- Finite sums of functions that move with the shift move with it. -/
theorem Shifts.sum {ι : Type*} (s : Finset ι) {L : ι → ℝ → EReal} (h : ∀ i, Shifts (L i)) :
    Shifts fun μ => ∑ i ∈ s, L i μ := by
  classical
  induction s using Finset.induction_on with
  | empty => simpa using Shifts.zero
  | insert i s hi ih => simpa [Finset.sum_insert hi] using (h i).add ih

/-- The weighted sum of a tile moves with the shift. -/
theorem Shifts.tile {ι : Type*} [Fintype ι] (s : ι → ℝ) (v : ι → EReal) :
    Shifts fun μ => ∑ i, Ideal.exp2 ((s i : EReal) - (μ : EReal)) * v i :=
  Shifts.sum _ fun i => Shifts.weight (s i) (v i)

/-- The largest of finitely many reals, from a real bound, is a real. -/
theorem exists_coe_fold_max {ι : Type*} (s : Finset ι) (a : ℝ) (f : ι → ℝ) :
    ∃ r : ℝ, s.fold max (a : EReal) (fun i => (f i : EReal)) = r := by
  classical
  induction s using Finset.induction_on with
  | empty => exact ⟨a, by simp⟩
  | insert i s hi ih =>
    obtain ⟨r, hr⟩ := ih
    exact ⟨max (f i) r, by rw [Finset.fold_insert hi, hr]; exact (EReal.coe_strictMono.monotone.map_max).symm⟩

/-- The larger of `-∞` and finitely many reals, at least one, is a real. -/
theorem exists_coe_fold_max_bot {ι : Type*} [Fintype ι] [Nonempty ι] (f : ι → ℝ) :
    ∃ r : ℝ, Finset.univ.fold max (⊥ : EReal) (fun i => (f i : EReal)) = r := by
  classical
  obtain ⟨i⟩ := ‹Nonempty ι›
  obtain ⟨r, hr⟩ := exists_coe_fold_max (Finset.univ.erase i) (f i) f
  refine ⟨r, ?_⟩
  rw [← hr, ← Finset.insert_erase (Finset.mem_univ i), Finset.fold_insert (Finset.notMem_erase i _),
    Finset.erase_insert (Finset.notMem_erase i _)]
  generalize Finset.univ.erase i = t
  induction t using Finset.induction_on with
  | empty => simp
  | insert j t hj ih => rw [Finset.fold_insert hj, Finset.fold_insert hj, ← ih, max_left_comm]

/-- The sum of at least one weight is a positive real. -/
theorem exists_coe_sum_weights {ι : Type*} [Fintype ι] [Nonempty ι] (s : ι → ℝ) (μ : ℝ) :
    ∃ z : ℝ, 0 < z ∧ ∑ i, Ideal.exp2 ((s i : EReal) - (μ : EReal)) = z := by
  refine ⟨∑ i, (2 : ℝ) ^ (s i - μ), Finset.sum_pos (fun i _ => Real.rpow_pos_of_pos (by norm_num) _) Finset.univ_nonempty, ?_⟩
  rw [coe_sum]
  exact Finset.sum_congr rfl fun i _ => exp2_sub _ _

/-- The exponential of a score times `ln 2`, less a real, is the weight of the score at that real over `ln 2`. -/
theorem exp_mul_log_two (s M : ℝ) :
    Ideal.exp ((s : EReal) * ((Real.log 2 : ℝ) : EReal) - (M : EReal)) = Ideal.exp2 ((s : EReal) - ((M / Real.log 2 : ℝ) : EReal)) := by
  have hl : Real.log 2 ≠ 0 := (Real.log_pos (by norm_num)).ne'
  rw [exp2_sub, ← EReal.coe_mul, ← EReal.coe_sub]
  show ((Real.exp (s * Real.log 2 - M) : ℝ) : EReal) = _
  rw [Real.rpow_def_of_pos (by norm_num)]
  congr 2
  field_simp

/-- THE SOFTMAX EQUATION: the weighted values over the weights, taken at any shift `μ`, are the values weighted by the
    softmax of the scores taken at any other shift `M`. -/
theorem div_sum_weights {ι : Type*} [Fintype ι] [Nonempty ι] (s : ι → ℝ) (v : ι → EReal) (μ M : ℝ) :
    Ideal.div (∑ i, Ideal.exp2 ((s i : EReal) - (μ : EReal)) * v i) (∑ i, Ideal.exp2 ((s i : EReal) - (μ : EReal)))
      = ∑ i, v i * Ideal.div (Ideal.exp2 ((s i : EReal) - (M : EReal))) (∑ j, Ideal.exp2 ((s j : EReal) - (M : EReal))) := by
  obtain ⟨z, hz, ez⟩ := exists_coe_sum_weights s M
  obtain ⟨w, hw, ew⟩ := exists_coe_sum_weights s μ
  have hwz : (2 : ℝ) ^ (M - μ) * z = w := by
    have h := Shifts.sum Finset.univ (fun i => Shifts.weight_one (s i)) M μ
    dsimp only at h
    rw [ez, ew, exp2_sub, ← EReal.coe_mul] at h
    exact_mod_cast h
  have hc : (0 : ℝ) < (2 : ℝ) ^ (M - μ) := Real.rpow_pos_of_pos (by norm_num) _
  rw [ez, ew, Ideal.div_coe hw.ne', mul_comm, coe_mul_sum (by positivity)]
  refine Finset.sum_congr rfl fun i _ => ?_
  rw [Ideal.div_coe hz.ne', ← mul_assoc, mul_comm (v i), exp2_sub, exp2_sub, ← EReal.coe_mul, ← EReal.coe_mul]
  congr 2
  have e : (2 : ℝ) ^ (s i - μ) = (2 : ℝ) ^ (s i - M) * (2 : ℝ) ^ (M - μ) := by
    rw [← Real.rpow_add (by norm_num)]; congr 1; ring
  rw [e, ← hwz]
  field_simp

end Cert.Attn

end
-- ==== Proof.Tile.lean ====
module

public import proofs.«01_k».proof.Proof.Gen.KernelIdeal.Value
public import Idealize.ShloMosaic.Lib.Pipeline.ReadBack
public import proofs.«01_k».proof.Proof.Weights

@[expose] public section

set_option maxRecDepth 16384

noncomputable section

open Idealize.ShloMosaic Idealize.ShloMosaic.TcCoe Idealize.SL.Sem

namespace Cert.Attn

open Cert.KernelIdeal Cert.KernelIdeal.Gen

/-- A plane of latent scores: 1024 rows against the 1024 keys of one tile. -/
abbrev Plane := FVec Ideal S1x1x1024x1024 .f32

/-- A plane of context scores: 1024 rows against the 256 context keys. -/
abbrev PlaneC := FVec Ideal S1x1024x256 .f32

/-- One head's running row: the maximum, the sum or the accumulator. -/
abbrev Row := FVec Ideal S1x1024x128 .f32

/-- Columns `o`, …, `o + 127` of a plane of latent scores, as a load through two squeezed slices takes them. -/
def chunk (S : Plane) (o : ℕ) (ho : ∀ a, (![0, o] : Fin 2 → ℕ) a + S1024x128.size a ≤ S1024x1024.size a) : FVec Ideal S1024x128 .f32 :=
  LoadRect.valAlong (lr := (Rect.unit (s := S1024x1024) ![0, o] S1024x128.size ho).toLoadRect)
    (LR := ((Rect.unit (s := S1024x1024) ![0, o] S1024x128.size ho).toLoadRect.consLift ![1, 1024, 1024] rfl fun _ => rfl).consLift
            ![1, 1, 1024, 1024] rfl fun _ => rfl)
    ((LoadRect.numel_consLift _ _ _ _).trans (LoadRect.numel_consLift _ _ _ _))
    fun y => S ((((Rect.unit (s := S1024x1024) ![0, o] S1024x128.size ho).toLoadRect.consLift ![1, 1024, 1024] rfl fun _ => rfl).consLift
            ![1, 1, 1024, 1024] rfl fun _ => rfl).idx y)

/-- Columns `o`, …, `o + 127` of a plane of context scores. -/
def chunkC (S : PlaneC) (o : ℕ) (ho : ∀ a, (![0, o] : Fin 2 → ℕ) a + S1024x128.size a ≤ S1024x256.size a) : FVec Ideal S1024x128 .f32 :=
  LoadRect.valAlong (lr := (Rect.unit (s := S1024x256) ![0, o] S1024x128.size ho).toLoadRect)
    (LR := (Rect.unit (s := S1024x256) ![0, o] S1024x128.size ho).toLoadRect.consLift ![1, 1024, 256] rfl fun _ => rfl)
    (LoadRect.numel_consLift _ _ _ _)
    fun y => S (((Rect.unit (s := S1024x256) ![0, o] S1024x128.size ho).toLoadRect.consLift ![1, 1024, 256] rfl fun _ => rfl).idx y)

/-- The row maximum after a latent tile. -/
def maxT (S : Plane) (m : Row) : FVec Ideal S1024x128 .f32 :=
  k0_pay40 (chunk S 0 (by decide)) (chunk S 128 (by decide)) (chunk S 256 (by decide)) (chunk S 384 (by decide))
    (chunk S 512 (by decide)) (chunk S 640 (by decide)) (chunk S 768 (by decide)) (chunk S 896 (by decide)) m

/-- The row sums, lane by lane, after a latent tile. -/
def sumT (S : Plane) (m l : Row) : Row :=
  k0_pay51 (maxT S m)
    (k0_pay41 (chunk S 0 (by decide)) (chunk S 128 (by decide)) (chunk S 256 (by decide)) (chunk S 384 (by decide))
      (chunk S 512 (by decide)) (chunk S 640 (by decide)) (chunk S 768 (by decide)) (chunk S 896 (by decide)) m)
    (k0_pay43 (maxT S m) (chunk S 0 (by decide)))
    (k0_pay43 (maxT S m) (chunk S 128 (by decide))) (k0_pay43 (maxT S m) (chunk S 256 (by decide)))
    (k0_pay43 (maxT S m) (chunk S 384 (by decide))) (k0_pay43 (maxT S m) (chunk S 512 (by decide)))
    (k0_pay43 (maxT S m) (chunk S 640 (by decide))) (k0_pay48 (maxT S m) (chunk S 768 (by decide)))
    (chunk S 896 (by decide)) l

/-- The accumulator after a latent tile whose values are `v`. -/
def accT (S : Plane) (v : FVec Ideal S1024x128 .bf16) (m a : Row) : Row :=
  k0_pay52 v (maxT S m)
    (k0_pay41 (chunk S 0 (by decide)) (chunk S 128 (by decide)) (chunk S 256 (by decide)) (chunk S 384 (by decide))
      (chunk S 512 (by decide)) (chunk S 640 (by decide)) (chunk S 768 (by decide)) (chunk S 896 (by decide)) m)
    (k0_pay43 (maxT S m) (chunk S 0 (by decide)))
    (k0_pay43 (maxT S m) (chunk S 128 (by decide))) (k0_pay43 (maxT S m) (chunk S 256 (by decide)))
    (k0_pay43 (maxT S m) (chunk S 384 (by decide))) (k0_pay43 (maxT S m) (chunk S 512 (by decide)))
    (k0_pay43 (maxT S m) (chunk S 640 (by decide))) (k0_pay48 (maxT S m) (chunk S 768 (by decide)))
    (chunk S 896 (by decide)) a

/-- The row maximum as it is stored. -/
def maxR (S : Plane) (m : Row) : Row := k0_pay68 (maxT S m)

/-- The row maximum after the context keys. -/
def maxC (S : PlaneC) (m : Row) : FVec Ideal S1024x128 .f32 := k0_pay188 (chunkC S 0 (by decide)) (chunkC S 128 (by decide)) m

/-- The row sums after the context keys. -/
def sumC (S : PlaneC) (m l : Row) : Row :=
  k0_pay193 (k0_pay192 (chunkC S 0 (by decide)) (chunkC S 128 (by decide)) m (chunkC S 0 (by decide)) (chunkC S 128 (by decide)) l)

/-- The accumulator after the context keys, whose values are `v`. -/
def accC (S : PlaneC) (v : FVec Ideal S256x128 .bf16) (m a : Row) : Row :=
  k0_pay194 v (k0_pay189 (chunkC S 0 (by decide)) (chunkC S 128 (by decide)) m)
    (k0_pay190 (chunkC S 0 (by decide)) (chunkC S 128 (by decide)) m (chunkC S 0 (by decide)))
    (k0_pay191 (chunkC S 0 (by decide)) (chunkC S 128 (by decide)) m (chunkC S 128 (by decide))) a

/-- A load through a slice at the rectangle the last store wrote reads that store's payload. -/
theorem readCov_withinL {sig : RefSig} {κ : Kind} {sp : Space} {s : Shape} {e : EltTy} (w : View sig κ sp s e) (r : Rect s) (h₀ : ∀ a, r.stride a = 1)
    (LR : LoadRect r.shape) (S : r.shape.Idx → Elt Ideal e) (L : List (View.Piece (Elt Ideal) s e)) :
    w.readCov (⟨r, S⟩ :: L) (r.withinL LR h₀) = fun y => S (LR.idx y) := by
  funext y
  refine (congrFun (View.readCov_eq_canon' w _ _) y).trans ((congrArg (View.canon _) (Rect.idx_withinL r LR h₀ y)).trans ?_)
  exact View.canon_cons_emb r S L _

/-- A load of a bfloat16 rectangle out of what a run stored is that rectangle of the stored contents. -/
theorem readCov_ld {sig : RefSig} {κ : Kind} {sp : Space} {s : Shape} (w : View sig κ sp s .bf16) (r : Rect s)
    (L : List (View.Piece (Elt Ideal) s .bf16)) : w.readCov L r.toLoadRect = View.ld (View.canon L) r := by
  rw [View.readCov_eq_canon']

/-- A load from one more origin, given by another name. -/
theorem ld_off {s : Shape} {e : EltTy} (X : s.Idx → Elt Ideal e) {o o' sz : Fin s.rank → ℕ} (h : o = o') (inb : ∀ a, o a + sz a ≤ s.size a) :
    View.ld X (Rect.unit o sz inb) = View.ld X (Rect.unit o' sz (h ▸ inb)) := by subst h; rfl

/-- What the block keeps for one head: the running maximum, sums and accumulator. -/
structure St where
  /-- the running maximum -/
  m : Row
  /-- the running sums -/
  l : Row
  /-- the running accumulator -/
  a : Row

/-- Head `j`'s state before the first tile. -/
def St.init (j : ℕ) (h : ∀ a, (![j, 0, 0] : Fin 3 → ℕ) a + S1x1024x128.size a ≤ S2x1024x128.size a) : St :=
  let r := Rect.unit (s := S2x1024x128) ![j, 0, 0] S1x1024x128.size h
  ⟨View.ld (Val := Elt Ideal) (e' := .f32) (k0_pay30 (F := Ideal)) r, View.ld (Val := Elt Ideal) (e' := .f32) (k0_pay31 (F := Ideal)) r,
    View.ld (Val := Elt Ideal) (e' := .f32) (k0_pay32 (F := Ideal)) r⟩

/-- The state after a latent tile with scores `S` and values `v`. -/
def St.tile (σ : St) (S : Plane) (v : FVec Ideal S1024x128 .bf16) : St := ⟨maxR S σ.m, sumT S σ.m σ.l, accT S v σ.m σ.a⟩

/-- One head's output: the quotient after the context keys. -/
def St.out (σ : St) (S : PlaneC) (v : FVec Ideal S256x128 .bf16) : FVec Ideal S1x1024x128 .bf16 :=
  k0_pay196 (sumC S σ.m σ.l) (accC S v σ.m σ.a)

end Cert.Attn
-- ==== Proof.Consts.lean ====
/- The values of the float literals of the two programs. -/
module

public import Idealize.ShloMosaic.Lib.Pipeline.ValueKit
public import Idealize.ShloMosaic.Lib.Pointwise

@[expose] public section

noncomputable section

open Idealize.ShloMosaic

namespace Cert.Attn

/-- The bits the running maximum starts from are those of a real. -/
theorem exists_coe_init : ∃ r : ℝ, Ideal.ofBits .f32 4048155338#32 = (r : EReal) :=
  ⟨-(13234890 * 2 ^ 76), by simp [Ideal.ofBits, Ideal.ieee, -EReal.coe_mul]⟩

/-- The bits of `-∞`. -/
theorem ofBits_bot : Ideal.ofBits .f32 4286578688#32 = (⊥ : EReal) := by simp [Ideal.ofBits, Ideal.ieee]

/-- The bits of `2`. -/
theorem ofBits_two : Ideal.ofBits .f32 1073741824#32 = ((2 : ℝ) : EReal) := by
  simp [Ideal.ofBits, Ideal.ieee, -EReal.coe_mul]; norm_num

/-- The bits of `1`. -/
theorem ofBits_one : Ideal.ofBits .f32 1065353216#32 = (1 : EReal) := by
  have : Ideal.ofBits .f32 1065353216#32 = ((1 : ℝ) : EReal) := by simp [Ideal.ofBits, Ideal.ieee, -EReal.coe_mul]; norm_num
  simpa using this

end Cert.Attn

end
-- ==== Proof.Steps.lean ====
/- What one step of the online softmax does to one row, with the row's scores real.

   A latent step reads its 1024 scores as eight chunks of 128 columns, so that lane `x` of the row sum collects the keys
   `x`, `128 + x`, …, `896 + x`. The row sum and the accumulator are carried as FUNCTIONS of the shift (`Shifts`): a step moves the
   shift to the new maximum and adds the tile's own sum at that shift. -/
module

public import proofs.«01_k».proof.Proof.Tile
public import proofs.«01_k».proof.Proof.Consts

@[expose] public section

set_option maxRecDepth 16384

noncomputable section

open Idealize.ShloMosaic Idealize.ShloMosaic.TcCoe Idealize.SL.Sem

namespace Cert.Attn

open Cert.KernelIdeal Cert.KernelIdeal.Gen

/-- Row `r`, lane `l` of a chunk of latent scores. -/
theorem chunk_at (S : Plane) (o : ℕ) (ho) (r : Fin 1024) (l : Fin 128) (hl : o + l.val < 1024) :
    chunk S o ho (ix2 r l) = S (ix4 0 0 r ⟨o + l.val, hl⟩) := by
  have h := ((LoadRect.liftsTo_consLift (Rect.unit (s := S1024x1024) ![0, o] S1024x128.size ho).toLoadRect ![1, 1024, 1024] rfl fun _ => rfl).trans
    (LoadRect.liftsTo_consLift _ ![1, 1, 1024, 1024] rfl fun _ => rfl)) (ix2 r l)
  refine (congrArg S h.symm).trans ?_
  have e : (Rect.unit (s := S1024x1024) ![0, o] S1024x128.size ho).toLoadRect.idx (ix2 r l) = ix2 r ⟨o + l.val, hl⟩ := by
    funext a
    apply Fin.ext
    fin_cases a
    · show 0 + 1 * r.val = r.val
      omega
    · show o + 1 * l.val = o + l.val
      omega
  rw [e]
  show shapeCast S1024x1024 S rfl (ix2 r ⟨o + l.val, hl⟩) = _
  pointwise

/-- Row `r`, lane `l` of a chunk of context scores. -/
theorem chunkC_at (S : PlaneC) (o : ℕ) (ho) (r : Fin 1024) (l : Fin 128) (hl : o + l.val < 256) :
    chunkC S o ho (ix2 r l) = S (ix3 0 r ⟨o + l.val, hl⟩) := by
  have h := LoadRect.liftsTo_consLift (Rect.unit (s := S1024x256) ![0, o] S1024x128.size ho).toLoadRect ![1, 1024, 256] rfl (fun _ => rfl) (ix2 r l)
  refine (congrArg S h.symm).trans ?_
  have e : (Rect.unit (s := S1024x256) ![0, o] S1024x128.size ho).toLoadRect.idx (ix2 r l) = ix2 r ⟨o + l.val, hl⟩ := by
    funext a
    apply Fin.ext
    fin_cases a
    · show 0 + 1 * r.val = r.val
      omega
    · show o + 1 * l.val = o + l.val
      omega
  rw [e]
  show shapeCast S1024x256 S rfl (ix2 r ⟨o + l.val, hl⟩) = _
  pointwise

/-- One row of a head's state: the shift is `μ` in every lane, the sums and the accumulator are `L` and `A` there. -/
structure RowAt (σ : St) (r : Fin 1024) (μ : ℝ) (L A : Fin 128 → ℝ → EReal) : Prop where
  /-- the maximum -/
  m : ∀ x, σ.m (ix3 0 r x) = (μ : EReal)
  /-- the sums -/
  l : ∀ x, σ.l (ix3 0 r x) = L x μ
  /-- the accumulator -/
  a : ∀ x, σ.a (ix3 0 r x) = A x μ

/-- The state before the first tile: a real shift, empty sums. -/
theorem RowAt.init (j : ℕ) (h) (r : Fin 1024) : ∃ μ, RowAt (St.init j h) r μ (fun _ _ => 0) (fun _ _ => 0) := by
  obtain ⟨μ, hμ⟩ := exists_coe_init
  have f0 : ∀ x, k0_pay30 (F := Ideal) x = (Ideal.ofBits .f32 4048155338#32 : EReal) := fun x => by pointwise [k0_pay30]
  have f1 : ∀ x, k0_pay31 (F := Ideal) x = (0 : EReal) := fun x => by pointwise [k0_pay31]
  have f2 : ∀ x, k0_pay32 (F := Ideal) x = (0 : EReal) := fun x => by pointwise [k0_pay32]
  refine ⟨μ, fun x => ?_, fun x => ?_, fun x => ?_⟩ <;> simp only [St.init, View.ld]
  exacts [(f0 _).trans hμ, f1 _, f2 _]

/-- The power of two of the kernel's ideal reading. -/
theorem exp2_field (x : EReal) : FloatOps.exp2 (F := Ideal) (φ := .f32) x = Ideal.exp2 x := rfl

/-- The larger of two reals, read as an extended real. -/
theorem coe_max (a b : ℝ) : ((max a b : ℝ) : EReal) = max (a : EReal) (b : EReal) := EReal.coe_strictMono.monotone.map_max

/-- The row maximum after a latent tile is one real in every lane. -/
theorem maxT_at (S : Plane) (m : Row) (r : Fin 1024) (μ : ℝ) (s : Fin 1024 → ℝ) (hm : ∀ x, m (ix3 0 r x) = (μ : EReal))
    (hS : ∀ k, S (ix4 0 0 r k) = (s k : EReal)) : ∃ μ' : ℝ, ∀ x, maxT S m (ix2 r x) = (μ' : EReal) := by
  have hc : ∀ (o : ℕ) (ho) (x : Fin 128), chunk S o ho (ix2 r x) = ((s ⟨o + x.val, by have := ho 1; have := x.isLt; simp at *; omega⟩ : ℝ) : EReal) :=
    fun o ho x => (chunk_at S o ho r x _).trans (hS _)
  have e : ∀ x, maxT S m (ix2 r x) = (max (m (ix3 0 r x)) (Finset.fold max (Ideal.ofBits .f32 4286578688#32)
      (fun x => max (max (max (max (max (max (max (chunk S 0 (by decide) (ix2 r x)) (chunk S 128 (by decide) (ix2 r x))) (chunk S 256 (by decide) (ix2 r x))) (chunk S 384 (by decide) (ix2 r x)))
        (chunk S 512 (by decide) (ix2 r x))) (chunk S 640 (by decide) (ix2 r x))) (chunk S 768 (by decide) (ix2 r x))) (chunk S 896 (by decide) (ix2 r x))) Finset.univ) : EReal) := fun x => by
    pointwise [maxT, k0_pay40, k0_pay39]
  simp only [hc, hm, ← coe_max, ofBits_bot] at e
  obtain ⟨M, hM⟩ := exists_coe_fold_max_bot (ι := Fin 128) fun x => max (max (max (max (max (max (max
    (s ⟨0 + x.val, by omega⟩) (s ⟨128 + x.val, by omega⟩)) (s ⟨256 + x.val, by omega⟩)) (s ⟨384 + x.val, by omega⟩))
    (s ⟨512 + x.val, by omega⟩)) (s ⟨640 + x.val, by omega⟩)) (s ⟨768 + x.val, by omega⟩)) (s ⟨896 + x.val, by omega⟩)
  exact ⟨max μ M, fun x => (e x).trans (by rw [hM, coe_max])⟩

/-- A latent step at one row. -/
theorem RowAt.tile {σ : St} {r : Fin 1024} {μ : ℝ} {L A : Fin 128 → ℝ → EReal} (h : RowAt σ r μ L A) (hL : ∀ x, Shifts (L x))
    (hA : ∀ x, Shifts (A x)) (S : Plane) (v : FVec Ideal S1024x128 .bf16) (s : Fin 1024 → ℝ) (hS : ∀ k, S (ix4 0 0 r k) = (s k : EReal)) :
    ∃ μ', RowAt (σ.tile S v) r μ'
      (fun x μ => L x μ + ∑ c : Fin 8, Ideal.exp2 ((s ⟨c.val * 128 + x.val, by omega⟩ : EReal) - (μ : EReal)))
      (fun x μ => A x μ + ∑ k : Fin 1024, Ideal.exp2 ((s k : EReal) - (μ : EReal)) * v (ix2 k x)) := by
  obtain ⟨μ', hμ⟩ := maxT_at S σ.m r μ s h.m hS
  have hc : ∀ (o : ℕ) (ho) (x : Fin 128), chunk S o ho (ix2 r x) = ((s ⟨o + x.val, by have := ho 1; have := x.isLt; simp at *; omega⟩ : ℝ) : EReal) :=
    fun o ho x => (chunk_at S o ho r x _).trans (hS _)
  have hal : ∀ x, k0_pay41 (F := Ideal) (chunk S 0 (by decide)) (chunk S 128 (by decide)) (chunk S 256 (by decide)) (chunk S 384 (by decide))
      (chunk S 512 (by decide)) (chunk S 640 (by decide)) (chunk S 768 (by decide)) (chunk S 896 (by decide)) σ.m (ix2 r x)
      = (Ideal.exp2 ((μ : EReal) - (μ' : EReal)) : EReal) := by
    intro x
    rw [← h.m x, ← hμ x]
    pointwise [k0_pay41, k0_pay39, maxT]
    rfl
  refine ⟨μ', fun x => ?_, fun x => ?_, fun x => ?_⟩
  · refine Eq.trans ?_ (hμ x)
    show k0_pay68 (maxT S σ.m) (ix3 0 r x) = _
    pointwise [k0_pay68]
  · have e := hL x μ μ'
    rw [← e, ← h.l x, ← hal x]
    show sumT S σ.m σ.l (ix3 0 r x) = _
    simp only [Fin.sum_univ_eight, ← hμ x]
    pointwise [sumT, k0_pay51, k0_pay49, k0_pay50, k0_pay43, k0_pay48]
    simp only [exp2_field, hc, zero_add]
  · have e := hA x μ μ'
    rw [← e, ← h.a x, ← hal x]
    show accT S v σ.m σ.a (ix3 0 r x) = _
    pointwise [accT, k0_pay52, k0_pay49, k0_pay50, k0_pay43, k0_pay48]
    congr 1
    refine Finset.sum_congr rfl fun k _ => congrArg (· * v (ix2 k x)) ?_
    have g : ∀ (o : ℕ) (ho) (y : Fin 128), o + y.val = k.val →
        FloatOps.exp2 (F := Ideal) (φ := .f32) (chunk S o ho (ix2 r y) - maxT S σ.m (ix2 r y)) = (Ideal.exp2 ((s k : EReal) - (μ' : EReal)) : EReal) := by
      intro o ho y hy
      rw [hc, hμ]
      exact congrArg (fun j => Ideal.exp2 ((s j : EReal) - (μ' : EReal))) (Fin.ext hy)
    split_ifs <;> exact g _ _ _ (by dsimp only; omega)

/-- The row maximum after the context keys is one real in every lane. -/
theorem maxC_at (S : PlaneC) (m : Row) (r : Fin 1024) (μ : ℝ) (s : Fin 256 → ℝ) (hm : ∀ x, m (ix3 0 r x) = (μ : EReal))
    (hS : ∀ k, S (ix3 0 r k) = (s k : EReal)) : ∃ μ' : ℝ, ∀ x, maxC S m (ix2 r x) = (μ' : EReal) := by
  have hc : ∀ (o : ℕ) (ho) (x : Fin 128), chunkC S o ho (ix2 r x) = ((s ⟨o + x.val, by have := ho 1; have := x.isLt; simp at *; omega⟩ : ℝ) : EReal) :=
    fun o ho x => (chunkC_at S o ho r x _).trans (hS _)
  have e : ∀ x, maxC S m (ix2 r x) = (max (m (ix3 0 r x)) (Finset.fold max (Ideal.ofBits .f32 4286578688#32)
      (fun x => max (chunkC S 0 (by decide) (ix2 r x)) (chunkC S 128 (by decide) (ix2 r x))) Finset.univ) : EReal) := fun x => by
    pointwise [maxC, k0_pay188, k0_pay187]
  simp only [hc, hm, ← coe_max, ofBits_bot] at e
  obtain ⟨M, hM⟩ := exists_coe_fold_max_bot (ι := Fin 128) fun x => max (s ⟨0 + x.val, by omega⟩) (s ⟨128 + x.val, by omega⟩)
  exact ⟨max μ M, fun x => (e x).trans (by rw [hM, coe_max])⟩

/-- The context step and the quotient at one row. -/
theorem RowAt.out {σ : St} {r : Fin 1024} {μ : ℝ} {L A : Fin 128 → ℝ → EReal} (h : RowAt σ r μ L A) (hL : ∀ x, Shifts (L x))
    (hA : ∀ x, Shifts (A x)) (S : PlaneC) (v : FVec Ideal S256x128 .bf16) (s : Fin 256 → ℝ) (hS : ∀ k, S (ix3 0 r k) = (s k : EReal)) :
    ∃ μ' : ℝ, ∀ x, σ.out S v (ix3 0 r x) = (Ideal.div
      (A x μ' + (∑ k : Fin 128, Ideal.exp2 ((s ⟨k.val, by omega⟩ : EReal) - (μ' : EReal)) * v (ix2 ⟨k.val, by omega⟩ x)
        + ∑ k : Fin 128, Ideal.exp2 ((s ⟨128 + k.val, by omega⟩ : EReal) - (μ' : EReal)) * v (ix2 ⟨128 + k.val, by omega⟩ x)))
      (∑ x, (L x μ' + (Ideal.exp2 ((s ⟨x.val, by omega⟩ : EReal) - (μ' : EReal))
        + Ideal.exp2 ((s ⟨128 + x.val, by omega⟩ : EReal) - (μ' : EReal))))) : EReal) := by
  obtain ⟨μ', hμ⟩ := maxC_at S σ.m r μ s h.m hS
  have hc : ∀ (o : ℕ) (ho) (x : Fin 128), chunkC S o ho (ix2 r x) = ((s ⟨o + x.val, by have := ho 1; have := x.isLt; simp at *; omega⟩ : ℝ) : EReal) :=
    fun o ho x => (chunkC_at S o ho r x _).trans (hS _)
  refine ⟨μ', fun x => ?_⟩
  have el : ∀ x, sumC S σ.m σ.l (ix3 0 r x) = (Ideal.exp2 (σ.m (ix3 0 r x) - maxC S σ.m (ix2 r x)) * σ.l (ix3 0 r x)
      + (Ideal.exp2 (chunkC S 0 (by decide) (ix2 r x) - maxC S σ.m (ix2 r x))
        + Ideal.exp2 (chunkC S 128 (by decide) (ix2 r x) - maxC S σ.m (ix2 r x))) : EReal) := fun x => by
    pointwise [sumC, maxC, k0_pay193, k0_pay192, k0_pay191, k0_pay190, k0_pay189, k0_pay187]
    rfl
  have ea : accC S v σ.m σ.a (ix3 0 r x) = (Ideal.exp2 (σ.m (ix3 0 r x) - maxC S σ.m (ix2 r x)) * σ.a (ix3 0 r x)
      + (∑ k : Fin 128, Ideal.exp2 (chunkC S 0 (by decide) (ix2 r k) - maxC S σ.m (ix2 r k)) * v (ix2 ⟨k.val, by omega⟩ x)
        + ∑ k : Fin 128, Ideal.exp2 (chunkC S 128 (by decide) (ix2 r k) - maxC S σ.m (ix2 r k)) * v (ix2 ⟨128 + k.val, by omega⟩ x)) : EReal) := by
    pointwise [accC, maxC, k0_pay194, k0_pay191, k0_pay190, k0_pay189, k0_pay187]
    rfl
  simp only [h.m, h.l, hμ, hc, zero_add, hL _ μ μ'] at el
  simp only [h.m, h.a, hμ, hc, zero_add, hA _ μ μ'] at ea
  have e : σ.out S v (ix3 0 r x) = (Ideal.div (accC S v σ.m σ.a (ix3 0 r x)) (∑ x, sumC S σ.m σ.l (ix3 0 r x)) : EReal) := by
    pointwise [St.out, k0_pay196]
  rw [e, ea]
  simp only [el]

/-- The 128 lanes of a latent step's eight chunks are its 1024 keys. -/
theorem sum_lanes (f : Fin 1024 → EReal) : ∑ x : Fin 128, ∑ c : Fin 8, f ⟨c.val * 128 + x.val, by omega⟩ = ∑ k, f k := by
  rw [Finset.sum_comm, ← Fintype.sum_prod_type' (fun (c : Fin 8) (x : Fin 128) => f ⟨c.val * 128 + x.val, by omega⟩),
    ← (finProdFinEquiv (m := 8) (n := 128)).sum_comp]
  refine Finset.sum_congr rfl fun p _ => congrArg f (Fin.ext ?_)
  show p.1.val * 128 + p.2.val = p.2.val + 128 * p.1.val
  omega

/-- The keys of a row: four latent tiles of 1024 and 256 of the context. -/
theorem sum_keys (f : Fin 4352 → EReal) : ∑ k, f k = ∑ k : Fin 1024, f ⟨k.val, by omega⟩ + ∑ k : Fin 1024, f ⟨1024 + k.val, by omega⟩
    + ∑ k : Fin 1024, f ⟨2048 + k.val, by omega⟩ + ∑ k : Fin 1024, f ⟨3072 + k.val, by omega⟩
    + (∑ k : Fin 128, f ⟨4096 + k.val, by omega⟩ + ∑ k : Fin 128, f ⟨4224 + k.val, by omega⟩) := by
  refine (Fin.sum_univ_add (a := 4224) (b := 128) f).trans ?_
  refine Eq.trans ?_ (add_assoc _ _ _)
  refine congrArg₂ (· + ·) ?_ rfl
  refine (Fin.sum_univ_add (a := 4096) (b := 128) _).trans (congrArg₂ (· + ·) ?_ rfl)
  refine (Fin.sum_univ_add (a := 3072) (b := 1024) _).trans (congrArg₂ (· + ·) ?_ rfl)
  refine (Fin.sum_univ_add (a := 2048) (b := 1024) _).trans (congrArg₂ (· + ·) ?_ rfl)
  exact Fin.sum_univ_add (a := 1024) (b := 1024) _

/-- ONE HEAD, ONE ROW: with real scores, four latent tiles and the context give the weighted values over the weights, at
    some shift. -/
theorem head_row (j : ℕ) (hj) (r : Fin 1024) (S0 S1 S2 S3 : Plane) (v0 v1 v2 v3 : FVec Ideal S1024x128 .bf16) (Sc : PlaneC)
    (vc : FVec Ideal S256x128 .bf16) (s : Fin 4352 → ℝ) (v : Fin 4352 → Fin 128 → EReal)
    (h0 : ∀ k : Fin 1024, S0 (ix4 0 0 r k) = (s ⟨k.val, by omega⟩ : EReal)) (h1 : ∀ k : Fin 1024, S1 (ix4 0 0 r k) = (s ⟨1024 + k.val, by omega⟩ : EReal))
    (h2 : ∀ k : Fin 1024, S2 (ix4 0 0 r k) = (s ⟨2048 + k.val, by omega⟩ : EReal)) (h3 : ∀ k : Fin 1024, S3 (ix4 0 0 r k) = (s ⟨3072 + k.val, by omega⟩ : EReal))
    (hc : ∀ k : Fin 256, Sc (ix3 0 r k) = (s ⟨4096 + k.val, by omega⟩ : EReal))
    (w0 : ∀ (k : Fin 1024) x, v0 (ix2 k x) = v ⟨k.val, by omega⟩ x) (w1 : ∀ (k : Fin 1024) x, v1 (ix2 k x) = v ⟨1024 + k.val, by omega⟩ x)
    (w2 : ∀ (k : Fin 1024) x, v2 (ix2 k x) = v ⟨2048 + k.val, by omega⟩ x) (w3 : ∀ (k : Fin 1024) x, v3 (ix2 k x) = v ⟨3072 + k.val, by omega⟩ x)
    (wc : ∀ (k : Fin 256) x, vc (ix2 k x) = v ⟨4096 + k.val, by omega⟩ x) :
    ∃ μ : ℝ, ∀ x, (((((St.init j hj).tile S0 v0).tile S1 v1).tile S2 v2).tile S3 v3).out Sc vc (ix3 0 r x)
      = (Ideal.div (∑ k, Ideal.exp2 ((s k : EReal) - (μ : EReal)) * v k x) (∑ k, Ideal.exp2 ((s k : EReal) - (μ : EReal))) : EReal) := by
  have z : ∀ x : Fin 128, Shifts ((fun _ _ => 0 : Fin 128 → ℝ → EReal) x) := fun _ => Shifts.zero
  obtain ⟨μ, g⟩ := RowAt.init j hj r
  obtain ⟨μ0, g0⟩ := g.tile z z S0 v0 _ h0
  have zl0 := fun x => (z x).add (Shifts.sum Finset.univ fun c : Fin 8 => Shifts.weight_one (s ⟨(⟨c.val * 128 + x.val, by omega⟩ : Fin 1024).val, by omega⟩))
  have za0 := fun x => (z x).add (Shifts.tile (fun k : Fin 1024 => s ⟨k.val, by omega⟩) (fun k => v0 (ix2 k x)))
  obtain ⟨μ1, g1⟩ := g0.tile zl0 za0 S1 v1 _ h1
  have zl1 := fun x => (zl0 x).add (Shifts.sum Finset.univ fun c : Fin 8 => Shifts.weight_one (s ⟨1024 + (⟨c.val * 128 + x.val, by omega⟩ : Fin 1024).val, by omega⟩))
  have za1 := fun x => (za0 x).add (Shifts.tile (fun k : Fin 1024 => s ⟨1024 + k.val, by omega⟩) (fun k => v1 (ix2 k x)))
  obtain ⟨μ2, g2⟩ := g1.tile zl1 za1 S2 v2 _ h2
  have zl2 := fun x => (zl1 x).add (Shifts.sum Finset.univ fun c : Fin 8 => Shifts.weight_one (s ⟨2048 + (⟨c.val * 128 + x.val, by omega⟩ : Fin 1024).val, by omega⟩))
  have za2 := fun x => (za1 x).add (Shifts.tile (fun k : Fin 1024 => s ⟨2048 + k.val, by omega⟩) (fun k => v2 (ix2 k x)))
  obtain ⟨μ3, g3⟩ := g2.tile zl2 za2 S3 v3 _ h3
  have zl3 := fun x => (zl2 x).add (Shifts.sum Finset.univ fun c : Fin 8 => Shifts.weight_one (s ⟨3072 + (⟨c.val * 128 + x.val, by omega⟩ : Fin 1024).val, by omega⟩))
  have za3 := fun x => (za2 x).add (Shifts.tile (fun k : Fin 1024 => s ⟨3072 + k.val, by omega⟩) (fun k => v3 (ix2 k x)))
  obtain ⟨μ', e⟩ := g3.out zl3 za3 Sc vc _ hc
  refine ⟨μ', fun x => (e x).trans ?_⟩
  have lanes : ∀ o (ho : o + 1024 ≤ 4352), ∑ x : Fin 128, ∑ c : Fin 8,
      Ideal.exp2 ((s ⟨o + (⟨c.val * 128 + x.val, by omega⟩ : Fin 1024).val, by dsimp only; omega⟩ : EReal) - (μ' : EReal))
        = ∑ k : Fin 1024, Ideal.exp2 ((s ⟨o + k.val, by omega⟩ : EReal) - (μ' : EReal)) :=
    fun o ho => sum_lanes fun k => Ideal.exp2 ((s ⟨o + k.val, by omega⟩ : EReal) - (μ' : EReal))
  have l0 := lanes 0 (by omega)
  have l1 := lanes 1024 (by omega)
  have l2 := lanes 2048 (by omega)
  have l3 := lanes 3072 (by omega)
  simp only [zero_add] at l0
  simp only [← Nat.add_assoc] at l1 l2 l3
  rw [sum_keys, sum_keys]
  simp only [w0, w1, w2, w3, wc, zero_add, Finset.sum_add_distrib, l0, l1, l2, l3,
    ← Nat.add_assoc, Nat.reduceAdd]

end Cert.Attn
-- ==== Proof.Block.lean ====
module

public import proofs.«01_k».proof.Proof.Tile

@[expose] public section

set_option maxRecDepth 65536
set_option pp.maxSteps 5000
set_option pp.deepTerms.threshold 9

noncomputable section

open Idealize.ShloMosaic Idealize.ShloMosaic.TcCoe Idealize.SL.Sem

namespace Cert.Attn

open Cert.KernelIdeal Cert.KernelIdeal.Gen

/-- The scores of one head against one latent tile: query columns from `o` on against keys `K j t`. -/
def score (q : Vec Ideal S1x1024x512 .bf16) (K : Vec Ideal S2x4x256x1024 .bf16) (j t o : ℕ)
    (hk : ∀ a, (![j, t, 0, 0] : Fin 4 → ℕ) a + S1x1x256x1024.size a ≤ S2x4x256x1024.size a)
    (hq : ∀ a, (![0, 0, o] : Fin 3 → ℕ) a + S1x1024x256.size a ≤ S1x1024x512.size a) : Plane :=
  k0_pay33 (View.ld (Val := Elt Ideal) (e' := .bf16) K (Rect.unit (s := S2x4x256x1024) ![j, t, 0, 0] S1x1x256x1024.size hk))
    (View.ld (Val := Elt Ideal) (e' := .bf16) q (Rect.unit (s := S1x1024x512) ![0, 0, o] S1x1024x256.size hq))

/-- The scores of one head against the context keys. -/
def scoreC (q : Vec Ideal S1x1024x512 .bf16) (K : Vec Ideal S2x256x256 .bf16) (j o : ℕ)
    (hk : ∀ a, (![j, 0, 0] : Fin 3 → ℕ) a + S1x256x256.size a ≤ S2x256x256.size a)
    (hq : ∀ a, (![0, 0, o] : Fin 3 → ℕ) a + S1x1024x256.size a ≤ S1x1024x512.size a) : PlaneC :=
  k0_pay153 (View.ld (Val := Elt Ideal) (e' := .bf16) K (Rect.unit (s := S2x256x256) ![j, 0, 0] S1x256x256.size hk))
    (View.ld (Val := Elt Ideal) (e' := .bf16) q (Rect.unit (s := S1x1024x512) ![0, 0, o] S1x1024x256.size hq))

/-- The values of one latent tile: rows from `r` on, columns from `o` on. -/
def vals (v : Vec Ideal S1x4096x256 .bf16) (r o : ℕ)
    (h : ∀ a, (![0, r, o] : Fin 3 → ℕ) a + S1x1024x128.size a ≤ S1x4096x256.size a) : FVec Ideal S1024x128 .bf16 :=
  k0_pay71 (View.ld (Val := Elt Ideal) (e' := .bf16) v (Rect.unit (s := S1x4096x256) ![0, r, o] S1x1024x128.size h))

/-- The values of the context keys. -/
def valsC (v : Vec Ideal S1x256x256 .bf16) (o : ℕ)
    (h : ∀ a, (![0, 0, o] : Fin 3 → ℕ) a + S1x256x128.size a ≤ S1x256x256.size a) : FVec Ideal S256x128 .bf16 :=
  k0_pay186 (View.ld (Val := Elt Ideal) (e' := .bf16) v (Rect.unit (s := S1x256x256) ![0, 0, o] S1x256x128.size h))

/-- The first head's output of a block. -/
def head0 (q : Vec Ideal S1x1024x512 .bf16) (K : Vec Ideal S2x4x256x1024 .bf16) (Kc : Vec Ideal S2x256x256 .bf16)
    (v : Vec Ideal S1x4096x256 .bf16) (vc : Vec Ideal S1x256x256 .bf16) : FVec Ideal S1x1024x128 .bf16 :=
  (((((St.init 0 (by decide)).tile (score q K 0 0 0 (by decide) (by decide)) (vals v 0 0 (by decide))).tile
    (score q K 0 1 0 (by decide) (by decide)) (vals v 1024 0 (by decide))).tile
    (score q K 0 2 0 (by decide) (by decide)) (vals v 2048 0 (by decide))).tile
    (score q K 0 3 0 (by decide) (by decide)) (vals v 3072 0 (by decide))).out (scoreC q Kc 0 0 (by decide) (by decide)) (valsC vc 0 (by decide))

/-- The second head's output of a block. -/
def head1 (q : Vec Ideal S1x1024x512 .bf16) (K : Vec Ideal S2x4x256x1024 .bf16) (Kc : Vec Ideal S2x256x256 .bf16)
    (v : Vec Ideal S1x4096x256 .bf16) (vc : Vec Ideal S1x256x256 .bf16) : FVec Ideal S1x1024x128 .bf16 :=
  (((((St.init 1 (by decide)).tile (score q K 1 0 256 (by decide) (by decide)) (vals v 0 128 (by decide))).tile
    (score q K 1 1 256 (by decide) (by decide)) (vals v 1024 128 (by decide))).tile
    (score q K 1 2 256 (by decide) (by decide)) (vals v 2048 128 (by decide))).tile
    (score q K 1 3 256 (by decide) (by decide)) (vals v 3072 128 (by decide))).out (scoreC q Kc 1 256 (by decide) (by decide)) (valsC vc 128 (by decide))

/-- A block's output: the two heads side by side. -/
def block (q : Vec Ideal S1x1024x512 .bf16) (K : Vec Ideal S2x4x256x1024 .bf16) (Kc : Vec Ideal S2x256x256 .bf16)
    (v : Vec Ideal S1x4096x256 .bf16) (vc : Vec Ideal S1x256x256 .bf16) : Vec Ideal S1x1024x256 .bf16 :=
  View.canon (Val := Elt Ideal) (e := .bf16) (s := S1x1024x256)
    [⟨Rect.unit (s := S1x1024x256) ![0, 0, 128] S1x1024x128.size (by decide), head1 q K Kc v vc⟩,
      ⟨Rect.unit (s := S1x1024x256) ![0, 0, 0] S1x1024x128.size (by decide), head0 q K Kc v vc⟩]

end Cert.Attn
-- ==== Proof.Keys.lean ====
/- What a head pair's key scratch holds.

   The first query block of a head pair stores the pair's keys transposed, the part without position above the rotary part: head,
   tile of 1024 keys, query column, key. The rotary part is the same for both heads. -/
module

public import proofs.«01_k».proof.Proof.Block

@[expose] public section

set_option maxRecDepth 65536

noncomputable section

open Idealize.ShloMosaic Idealize.ShloMosaic.TcCoe Idealize.SL.Sem

namespace Cert.Attn

open Cert.KernelIdeal Cert.KernelIdeal.Gen

/-- The latent keys of a head pair, transposed: head, tile, query column, key. -/
def keysOf (kn : Vec Ideal S1x4096x256 .bf16) (kr : Vec Ideal S1x4096x128 .bf16) : Vec Ideal S2x4x256x1024 .bf16 := fun y =>
  if h : (y 2).val < 128 then kn (ix3 0 ⟨(y 1).val * 1024 + (y 3).val, by have : (y 1).val < 4 := (y 1).isLt; have : (y 3).val < 1024 := (y 3).isLt; omega⟩
      ⟨(y 0).val * 128 + (y 2).val, by have : (y 0).val < 2 := (y 0).isLt; omega⟩)
  else kr (ix3 0 ⟨(y 1).val * 1024 + (y 3).val, by have : (y 1).val < 4 := (y 1).isLt; have : (y 3).val < 1024 := (y 3).isLt; omega⟩
      ⟨(y 2).val - 128, by have : (y 2).val < 256 := (y 2).isLt; omega⟩)

/-- The context keys of a head pair, transposed: head, query column, key. -/
def keysCOf (kn : Vec Ideal S1x256x256 .bf16) (kr : Vec Ideal S1x256x128 .bf16) : Vec Ideal S2x256x256 .bf16 := fun y =>
  if h : (y 1).val < 128 then kn (ix3 0 ⟨(y 2).val, (y 2).isLt⟩ ⟨(y 0).val * 128 + (y 1).val, by have : (y 0).val < 2 := (y 0).isLt; omega⟩)
  else kr (ix3 0 ⟨(y 2).val, (y 2).isLt⟩ ⟨(y 1).val - 128, by have : (y 1).val < 256 := (y 1).isLt; omega⟩)

/-- Where the block fills its key scratch, the latent keys' scratch is the transposed keys. -/
theorem keysA (c : Dev nD) (i : grid0.Coords) (arg3 : Memref sig .tc .vmem S1x1024x512 .bf16) (harg3 : arg3.IsWhole) (arg4 : Memref sig .tc .vmem S1x4096x256 .bf16) (harg4 : arg4.IsWhole) (arg5 : Memref sig .tc .vmem S1x4096x128 .bf16) (harg5 : arg5.IsWhole) (arg6 : Memref sig .tc .vmem S1x4096x256 .bf16) (harg6 : arg6.IsWhole) (arg7 : Memref sig .tc .vmem S1x256x256 .bf16) (harg7 : arg7.IsWhole) (arg8 : Memref sig .tc .vmem S1x256x128 .bf16) (harg8 : arg8.IsWhole) (arg9 : Memref sig .tc .vmem S1x256x256 .bf16) (harg9 : arg9.IsWhole) (arg10 : Memref sig .tc .vmem S1x1024x256 .bf16) (harg10 : arg10.IsWhole) (arg11 : Memref sig .tc .vmem S2x4x256x1024 .bf16) (harg11 : arg11.IsWhole) (arg12 : Memref sig .tc .vmem S2x256x256 .bf16) (harg12 : arg12.IsWhole) (arg13 : Memref sig .tc .vmem S2x1024x128 .f32) (harg13 : arg13.IsWhole) (arg14 : Memref sig .tc .vmem S2x1024x128 .f32) (harg14 : arg14.IsWhole) (arg15 : Memref sig .tc .vmem S2x1024x128 .f32) (harg15 : arg15.IsWhole) (arg16 : Memref sig .tc .vmem S2x2x1024x1024 .f32) (harg16 : arg16.IsWhole) (arg17 : Memref sig .tc .vmem S2x1024x256 .f32) (harg17 : arg17.IsWhole) (hc0 : cond0_0 i)
    (x0 : Vec Ideal S1x1024x512 .bf16) (x1 : Vec Ideal S1x4096x256 .bf16) (x2 : Vec Ideal S1x4096x128 .bf16) (x3 : Vec Ideal S1x4096x256 .bf16) (x4 : Vec Ideal S1x256x256 .bf16) (x5 : Vec Ideal S1x256x128 .bf16) (x6 : Vec Ideal S1x256x256 .bf16) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 = keysOf x1 x2 := by
  frame_open
  simp -proj (disch := decide) only [View.read_writes_junk_eq_canon, View.readAt_eq_ld, Memref.IsWhole.read_unread]
  funext y
  canon_tiles x h
  all_goals pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, keysOf, h0, h1, h2, h3]

/-- … and the context keys' scratch the transposed context keys. -/
theorem keysCA (c : Dev nD) (i : grid0.Coords) (arg3 : Memref sig .tc .vmem S1x1024x512 .bf16) (harg3 : arg3.IsWhole) (arg4 : Memref sig .tc .vmem S1x4096x256 .bf16) (harg4 : arg4.IsWhole) (arg5 : Memref sig .tc .vmem S1x4096x128 .bf16) (harg5 : arg5.IsWhole) (arg6 : Memref sig .tc .vmem S1x4096x256 .bf16) (harg6 : arg6.IsWhole) (arg7 : Memref sig .tc .vmem S1x256x256 .bf16) (harg7 : arg7.IsWhole) (arg8 : Memref sig .tc .vmem S1x256x128 .bf16) (harg8 : arg8.IsWhole) (arg9 : Memref sig .tc .vmem S1x256x256 .bf16) (harg9 : arg9.IsWhole) (arg10 : Memref sig .tc .vmem S1x1024x256 .bf16) (harg10 : arg10.IsWhole) (arg11 : Memref sig .tc .vmem S2x4x256x1024 .bf16) (harg11 : arg11.IsWhole) (arg12 : Memref sig .tc .vmem S2x256x256 .bf16) (harg12 : arg12.IsWhole) (arg13 : Memref sig .tc .vmem S2x1024x128 .f32) (harg13 : arg13.IsWhole) (arg14 : Memref sig .tc .vmem S2x1024x128 .f32) (harg14 : arg14.IsWhole) (arg15 : Memref sig .tc .vmem S2x1024x128 .f32) (harg15 : arg15.IsWhole) (arg16 : Memref sig .tc .vmem S2x2x1024x1024 .f32) (harg16 : arg16.IsWhole) (arg17 : Memref sig .tc .vmem S2x1024x256 .f32) (harg17 : arg17.IsWhole) (hc0 : cond0_0 i)
    (x0 : Vec Ideal S1x1024x512 .bf16) (x1 : Vec Ideal S1x4096x256 .bf16) (x2 : Vec Ideal S1x4096x128 .bf16) (x3 : Vec Ideal S1x4096x256 .bf16) (x4 : Vec Ideal S1x256x256 .bf16) (x5 : Vec Ideal S1x256x128 .bf16) (x6 : Vec Ideal S1x256x256 .bf16) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 = keysCOf x4 x5 := by
  frame_open
  simp -proj (disch := decide) only [View.read_writes_junk_eq_canon, View.readAt_eq_ld, Memref.IsWhole.read_unread]
  funext y
  canon_tiles x h
  all_goals pointwise [k0_pay24, k0_pay25, k0_pay26, k0_pay27, k0_pay28, k0_pay29, keysCOf, h0, h1, h2]
end Cert.Attn
-- ==== Proof.Spec.lean ====
/- Attention over latent and context keys, as a formula of its inputs.

   Eight heads; each has 4096 latent keys and 256 context keys. A key's first 128 columns are its head's own (`kn`), the next 128 are shared
   by all heads (`kr`). The weights are powers of two of the scores. -/
module

public import proofs.«01_k».proof.Proof.Weights

@[expose] public section

noncomputable section

open Idealize.ShloMosaic

namespace Cert.Attn

/-- The layer's seven inputs, index by index. -/
structure Ins where
  /-- queries: batch, row, head and column -/
  q : Fin 4 → Fin 4096 → Fin 2048 → EReal
  /-- latent keys, the heads' own part -/
  kn : Fin 4 → Fin 4096 → Fin 1024 → EReal
  /-- latent keys, the shared part -/
  kr : Fin 4 → Fin 4096 → Fin 128 → EReal
  /-- latent values -/
  v : Fin 4 → Fin 4096 → Fin 1024 → EReal
  /-- context keys, the heads' own part -/
  knc : Fin 4 → Fin 256 → Fin 1024 → EReal
  /-- context keys, the shared part -/
  krc : Fin 4 → Fin 256 → Fin 128 → EReal
  /-- context values -/
  vc : Fin 4 → Fin 256 → Fin 1024 → EReal

namespace Ins

variable (I : Ins)

/-- The queries and keys are reals. -/
structure Real : Prop where
  /-- the queries -/
  q : ∀ b i d, ∃ r : ℝ, I.q b i d = r
  /-- the latent keys' own part -/
  kn : ∀ b i d, ∃ r : ℝ, I.kn b i d = r
  /-- the latent keys' shared part -/
  kr : ∀ b i d, ∃ r : ℝ, I.kr b i d = r
  /-- the context keys' own part -/
  knc : ∀ b i d, ∃ r : ℝ, I.knc b i d = r
  /-- the context keys' shared part -/
  krc : ∀ b i d, ∃ r : ℝ, I.krc b i d = r

/-- Key `k` of head `h`, latent keys first. -/
def key (b : Fin 4) (h : Fin 8) (k : Fin 4352) (d : Fin 256) : EReal :=
  if hk : k.val < 4096 then
    if hd : d.val < 128 then I.kn b ⟨k.val, hk⟩ ⟨h.val * 128 + d.val, by omega⟩ else I.kr b ⟨k.val, hk⟩ ⟨d.val - 128, by omega⟩
  else
    if hd : d.val < 128 then I.knc b ⟨k.val - 4096, by omega⟩ ⟨h.val * 128 + d.val, by omega⟩
    else I.krc b ⟨k.val - 4096, by omega⟩ ⟨d.val - 128, by omega⟩

/-- Column `x` of the value of key `k` of head `h`. -/
def val (b : Fin 4) (h : Fin 8) (k : Fin 4352) (x : Fin 128) : EReal :=
  if hk : k.val < 4096 then I.v b ⟨k.val, hk⟩ ⟨h.val * 128 + x.val, by omega⟩
  else I.vc b ⟨k.val - 4096, by omega⟩ ⟨h.val * 128 + x.val, by omega⟩

/-- A latent key. -/
theorem key_lat {k : Fin 4352} (hk : k.val < 4096) (b : Fin 4) (h : Fin 8) (d : Fin 256) : I.key b h k d
    = if hd : d.val < 128 then I.kn b ⟨k.val, hk⟩ ⟨h.val * 128 + d.val, by omega⟩ else I.kr b ⟨k.val, hk⟩ ⟨d.val - 128, by omega⟩ := dif_pos hk

/-- A context key. -/
theorem key_ctx {k : Fin 4352} (hk : ¬k.val < 4096) (b : Fin 4) (h : Fin 8) (d : Fin 256) : I.key b h k d
    = if hd : d.val < 128 then I.knc b ⟨k.val - 4096, by omega⟩ ⟨h.val * 128 + d.val, by omega⟩
      else I.krc b ⟨k.val - 4096, by omega⟩ ⟨d.val - 128, by omega⟩ := dif_neg hk

/-- The score of row `i` against key `k`. -/
def score (b : Fin 4) (h : Fin 8) (i : Fin 4096) (k : Fin 4352) : EReal :=
  ∑ d : Fin 256, I.q b i ⟨h.val * 256 + d.val, by omega⟩ * I.key b h k d

/-- The weighted values over the weights, at shift `μ`. -/
def attnAt (μ : ℝ) (b : Fin 4) (h : Fin 8) (i : Fin 4096) (x : Fin 128) : EReal :=
  Ideal.div (∑ k, Ideal.exp2 (I.score b h i k - (μ : EReal)) * I.val b h k x) (∑ k, Ideal.exp2 (I.score b h i k - (μ : EReal)))

variable {I}

/-- With real queries and keys the keys of a head are reals. -/
theorem Real.key (hI : I.Real) (b : Fin 4) (h : Fin 8) (k : Fin 4352) (d : Fin 256) : ∃ r : ℝ, I.key b h k d = r := by
  unfold Ins.key
  split_ifs
  exacts [hI.kn .., hI.kr .., hI.knc .., hI.krc ..]

/-- … and so are the scores. -/
theorem Real.score (hI : I.Real) (b : Fin 4) (h : Fin 8) (i : Fin 4096) (k : Fin 4352) : ∃ r : ℝ, I.score b h i k = r := by
  choose f hf using fun d : Fin 256 => hI.q b i ⟨h.val * 256 + d.val, by omega⟩
  choose g hg using fun d : Fin 256 => hI.key b h k d
  refine ⟨∑ d, f d * g d, ?_⟩
  rw [coe_sum]
  exact Finset.sum_congr rfl fun d _ => by rw [hf, hg, EReal.coe_mul]

/-- The quotient does not depend on the shift. -/
theorem Real.attnAt_eq (hI : I.Real) (μ μ' : ℝ) (b : Fin 4) (h : Fin 8) (i : Fin 4096) (x : Fin 128) : I.attnAt μ b h i x = I.attnAt μ' b h i x := by
  choose s hs using hI.score b h i
  have : Nonempty (Fin 4352) := ⟨0⟩
  simp only [attnAt, hs]
  exact (div_sum_weights s _ μ 0).trans (div_sum_weights s _ μ' 0).symm

/-- THE SOFTMAX FORM: the values weighted by the softmax of the scores times `ln 2`, at any shift `M`. -/
theorem Real.softmax_eq (hI : I.Real) (M : ℝ) (b : Fin 4) (h : Fin 8) (i : Fin 4096) (x : Fin 128) :
    ∑ k, I.val b h k x * Ideal.div (Ideal.exp (I.score b h i k * ((_root_.Real.log 2 : ℝ) : EReal) - (M : EReal)))
        (∑ j, Ideal.exp (I.score b h i j * ((_root_.Real.log 2 : ℝ) : EReal) - (M : EReal)))
      = I.attnAt 0 b h i x := by
  choose s hs using hI.score b h i
  have : Nonempty (Fin 4352) := ⟨0⟩
  simp only [attnAt, hs, exp_mul_log_two]
  exact (div_sum_weights s _ 0 (M / _root_.Real.log 2)).symm

end Ins

end Cert.Attn
-- ==== Proof.BlockAt.lean ====
/- A block's output, index by index: the attention of its rows.

   The block's queries, keys and values are blocks of the seven inputs; its keys' scratch holds the transposed keys of its head pair. -/
module

public import proofs.«01_k».proof.Proof.Steps
public import proofs.«01_k».proof.Proof.Keys
public import proofs.«01_k».proof.Proof.Spec

@[expose] public section

set_option maxRecDepth 16384

noncomputable section

open Idealize.ShloMosaic Idealize.ShloMosaic.TcCoe Idealize.SL.Sem

namespace Cert.Attn

open Cert.KernelIdeal Cert.KernelIdeal.Gen

/-- A latent score is the row's query against the key. -/
theorem score_at (q : Vec Ideal S1x1024x512 .bf16) (K : Vec Ideal S2x4x256x1024 .bf16) (j t o : ℕ) (hk) (hq) (r k : Fin 1024) (hj : j < 2) (ht : t < 4)
    (ho : o ≤ 256) : score q K j t o hk hq (ix4 0 0 r k)
      = (∑ d : Fin 256, q (ix3 0 r ⟨o + d.val, by omega⟩) * K (ix4 ⟨j, hj⟩ ⟨t, ht⟩ d k) : EReal) := by
  pointwise [score, k0_pay33]

/-- A context score is the row's query against the key. -/
theorem scoreC_at (q : Vec Ideal S1x1024x512 .bf16) (K : Vec Ideal S2x256x256 .bf16) (j o : ℕ) (hk) (hq) (r : Fin 1024) (k : Fin 256) (hj : j < 2)
    (ho : o ≤ 256) : scoreC q K j o hk hq (ix3 0 r k)
      = (∑ d : Fin 256, q (ix3 0 r ⟨o + d.val, by omega⟩) * K (ix3 ⟨j, hj⟩ d k) : EReal) := by
  pointwise [scoreC, k0_pay153]

/-- A tile's values are rows of the block's values. -/
theorem vals_at (v : Vec Ideal S1x4096x256 .bf16) (t o : ℕ) (h) (k : Fin 1024) (x : Fin 128) (ht : t ≤ 3072) (ho : o ≤ 128) :
    vals v t o h (ix2 k x) = v (ix3 0 ⟨t + k.val, by omega⟩ ⟨o + x.val, by omega⟩) := by
  pointwise [vals, k0_pay71]

/-- The context values are the block's. -/
theorem valsC_at (v : Vec Ideal S1x256x256 .bf16) (o : ℕ) (h) (k : Fin 256) (x : Fin 128) (ho : o ≤ 128) :
    valsC v o h (ix2 k x) = v (ix3 0 k ⟨o + x.val, by omega⟩) := by
  pointwise [valsC, k0_pay186]

/-- The blocks a point reads: rows of batch `b`, columns of head pair `g`, query block `qb`. -/
structure Blocks (I : Ins) (b g qb : Fin 4) (x0 : Vec Ideal S1x1024x512 .bf16) (x1 : Vec Ideal S1x4096x256 .bf16) (x2 : Vec Ideal S1x4096x128 .bf16)
    (x3 : Vec Ideal S1x4096x256 .bf16) (x4 : Vec Ideal S1x256x256 .bf16) (x5 : Vec Ideal S1x256x128 .bf16) (x6 : Vec Ideal S1x256x256 .bf16) : Prop where
  /-- the queries -/
  q : ∀ (r : Fin 1024) (d : Fin 512), x0 (ix3 0 r d) = I.q b ⟨qb.val * 1024 + r.val, by omega⟩ ⟨g.val * 512 + d.val, by omega⟩
  /-- the latent keys' own part -/
  kn : ∀ (k : Fin 4096) (d : Fin 256), x1 (ix3 0 k d) = I.kn b k ⟨g.val * 256 + d.val, by omega⟩
  /-- the latent keys' shared part -/
  kr : ∀ (k : Fin 4096) (d : Fin 128), x2 (ix3 0 k d) = I.kr b k d
  /-- the latent values -/
  v : ∀ (k : Fin 4096) (d : Fin 256), x3 (ix3 0 k d) = I.v b k ⟨g.val * 256 + d.val, by omega⟩
  /-- the context keys' own part -/
  knc : ∀ (k : Fin 256) (d : Fin 256), x4 (ix3 0 k d) = I.knc b k ⟨g.val * 256 + d.val, by omega⟩
  /-- the context keys' shared part -/
  krc : ∀ (k : Fin 256) (d : Fin 128), x5 (ix3 0 k d) = I.krc b k d
  /-- the context values -/
  vc : ∀ (k : Fin 256) (d : Fin 256), x6 (ix3 0 k d) = I.vc b k ⟨g.val * 256 + d.val, by omega⟩

variable {I : Ins} {b g qb : Fin 4} {x0 : Vec Ideal S1x1024x512 .bf16} {x1 : Vec Ideal S1x4096x256 .bf16} {x2 : Vec Ideal S1x4096x128 .bf16}
    {x3 : Vec Ideal S1x4096x256 .bf16} {x4 : Vec Ideal S1x256x256 .bf16} {x5 : Vec Ideal S1x256x128 .bf16} {x6 : Vec Ideal S1x256x256 .bf16}

/-- A latent score of the block is the score of its row and key. -/
theorem Blocks.score (B : Blocks I b g qb x0 x1 x2 x3 x4 x5 x6) (j t o : ℕ) (hk) (hq) (hj : j < 2) (ht : t < 4) (ho : o = j * 256) (r k : Fin 1024)
    (p : Fin 4352) (hp : p.val = t * 1024 + k.val) : Attn.score x0 (keysOf x1 x2) j t o hk hq (ix4 0 0 r k)
      = I.score b ⟨g.val * 2 + j, by omega⟩ ⟨qb.val * 1024 + r.val, by omega⟩ p := by
  refine (score_at _ _ j t o hk hq r k hj ht (by omega)).trans (Finset.sum_congr rfl fun d _ => congrArg₂ (· * ·) ?_ ?_)
  · rw [B.q]
    congr 1; apply Fin.ext; dsimp only; omega
  · have e : keysOf x1 x2 (ix4 ⟨j, hj⟩ ⟨t, ht⟩ d k) = if h : d.val < 128 then x1 (ix3 0 ⟨t * 1024 + k.val, by omega⟩ ⟨j * 128 + d.val, by omega⟩)
        else x2 (ix3 0 ⟨t * 1024 + k.val, by omega⟩ ⟨d.val - 128, by omega⟩) := rfl
    rw [e, I.key_lat (by omega)]
    simp only [B.kn, B.kr, hp]
    split_ifs
    · congr 1; apply Fin.ext; dsimp only; omega
    · rfl

/-- A context score of the block is the score of its row and key. -/
theorem Blocks.scoreC (B : Blocks I b g qb x0 x1 x2 x3 x4 x5 x6) (j o : ℕ) (hk) (hq) (hj : j < 2) (ho : o = j * 256) (r : Fin 1024) (k : Fin 256)
    (p : Fin 4352) (hp : p.val = 4096 + k.val) : Attn.scoreC x0 (keysCOf x4 x5) j o hk hq (ix3 0 r k)
      = I.score b ⟨g.val * 2 + j, by omega⟩ ⟨qb.val * 1024 + r.val, by omega⟩ p := by
  refine (scoreC_at _ _ j o hk hq r k hj (by omega)).trans (Finset.sum_congr rfl fun d _ => congrArg₂ (· * ·) ?_ ?_)
  · rw [B.q]
    congr 1; apply Fin.ext; dsimp only; omega
  · have e : keysCOf x4 x5 (ix3 ⟨j, hj⟩ d k) = if h : d.val < 128 then x4 (ix3 0 k ⟨j * 128 + d.val, by omega⟩)
        else x5 (ix3 0 k ⟨d.val - 128, by omega⟩) := rfl
    rw [e, I.key_ctx (by omega)]
    have ek : (⟨p.val - 4096, by omega⟩ : Fin 256) = k := by apply Fin.ext; dsimp only; omega
    simp only [B.knc, B.krc, ek]
    split_ifs
    · exact congrArg (I.knc b k) (Fin.ext (by dsimp only; omega))
    · rfl

/-- A latent value of the block is the value of its key. -/
theorem Blocks.vals (B : Blocks I b g qb x0 x1 x2 x3 x4 x5 x6) (j t o : ℕ) (h) (hj : j < 2) (ht : t ≤ 3072) (ho : o = j * 128) (k : Fin 1024) (x : Fin 128)
    (p : Fin 4352) (hp : p.val = t + k.val) : Attn.vals x3 t o h (ix2 k x) = I.val b ⟨g.val * 2 + j, by omega⟩ p x := by
  rw [vals_at x3 t o h k x ht (by omega), B.v, Ins.val, dif_pos (by omega)]
  congr 1
  · apply Fin.ext; exact hp.symm
  · apply Fin.ext; dsimp only; omega

/-- A context value of the block is the value of its key. -/
theorem Blocks.valsC (B : Blocks I b g qb x0 x1 x2 x3 x4 x5 x6) (j o : ℕ) (h) (hj : j < 2) (ho : o = j * 128) (k : Fin 256) (x : Fin 128)
    (p : Fin 4352) (hp : p.val = 4096 + k.val) : Attn.valsC x6 o h (ix2 k x) = I.val b ⟨g.val * 2 + j, by omega⟩ p x := by
  rw [valsC_at x6 o h k x (by omega), B.vc, Ins.val, dif_neg (by omega)]
  exact congr (congrArg (I.vc b) (Fin.ext (by dsimp only; omega))) (Fin.ext (by dsimp only; omega))

/-- A head's output row is the attention of the row. -/
theorem Blocks.head (B : Blocks I b g qb x0 x1 x2 x3 x4 x5 x6) (hI : I.Real) (j o ov : ℕ) (hj : j < 2) (ho : o = j * 256) (hov : ov = j * 128)
    (hi) (k0) (k1) (k2) (k3) (kc) (hq) (hq') (w0) (w1) (w2) (w3) (wc) (r : Fin 1024) (x : Fin 128) :
    (((((St.init j hi).tile (Attn.score x0 (keysOf x1 x2) j 0 o k0 hq) (Attn.vals x3 0 ov w0)).tile
      (Attn.score x0 (keysOf x1 x2) j 1 o k1 hq) (Attn.vals x3 1024 ov w1)).tile
      (Attn.score x0 (keysOf x1 x2) j 2 o k2 hq) (Attn.vals x3 2048 ov w2)).tile
      (Attn.score x0 (keysOf x1 x2) j 3 o k3 hq) (Attn.vals x3 3072 ov w3)).out (Attn.scoreC x0 (keysCOf x4 x5) j o kc hq') (Attn.valsC x6 ov wc) (ix3 0 r x)
      = I.attnAt 0 b ⟨g.val * 2 + j, by omega⟩ ⟨qb.val * 1024 + r.val, by omega⟩ x := by
  choose s hs using hI.score b ⟨g.val * 2 + j, by omega⟩ ⟨qb.val * 1024 + r.val, by omega⟩
  have hS := fun t hk (ht : t < 4) k p hp => (B.score j t o hk hq hj ht ho r k p hp).trans (hs p)
  obtain ⟨μ, e⟩ := head_row j hi r _ _ _ _ _ _ _ _ _ _ s (fun k x => I.val b ⟨g.val * 2 + j, by omega⟩ k x)
    (fun k => hS 0 k0 (by omega) k _ (by simp)) (fun k => hS 1 k1 (by omega) k _ (by simp)) (fun k => hS 2 k2 (by omega) k _ (by simp))
    (fun k => hS 3 k3 (by omega) k _ (by simp)) (fun k => (B.scoreC j o kc hq' hj ho r k _ rfl).trans (hs _))
    (fun k x => B.vals j 0 ov w0 hj (by omega) hov k x _ (by simp)) (fun k x => B.vals j 1024 ov w1 hj (by omega) hov k x _ rfl)
    (fun k x => B.vals j 2048 ov w2 hj (by omega) hov k x _ rfl) (fun k x => B.vals j 3072 ov w3 hj (by omega) hov k x _ rfl)
    (fun k x => B.valsC j ov wc hj hov k x _ rfl)
  refine (e x).trans (Eq.trans ?_ (hI.attnAt_eq μ 0 _ _ _ x))
  simp only [Ins.attnAt, hs]

/-- A block's output is the attention of its rows, two heads side by side. -/
theorem Blocks.block (B : Blocks I b g qb x0 x1 x2 x3 x4 x5 x6) (hI : I.Real) (y : S1x1024x256.Idx) (h : Fin 8) (i : Fin 4096) (x : Fin 128)
    (hh : h.val = g.val * 2 + (y 2).val / 128) (hi : i.val = qb.val * 1024 + (y 1).val) (hx : x.val = (y 2).val % 128) :
    Attn.block x0 (keysOf x1 x2) (keysCOf x4 x5) x3 x6 y = I.attnAt 0 b h i x := by
  unfold Attn.block
  have hr := (y 1).isLt
  have hz := (y 2).isLt
  canon_tiles z w
  · have e := B.head hI 1 256 128 (by omega) rfl rfl (by decide) (by decide) (by decide) (by decide) (by decide) (by decide) (by decide) (by decide)
      (by decide) (by decide) (by decide) (by decide) (by decide) (z 1) (z 2)
    rw [eq_ix3 z, show z 0 = (0 : Fin 1) from Fin.ext (by show (z 0).val = 0; omega)]
    refine e.trans (congr (congr (congrArg (I.attnAt 0 b) (Fin.ext ?_)) (Fin.ext ?_)) (Fin.ext ?_)) <;> dsimp only <;> omega
  · have e := B.head hI 0 0 0 (by omega) rfl rfl (by decide) (by decide) (by decide) (by decide) (by decide) (by decide) (by decide) (by decide)
      (by decide) (by decide) (by decide) (by decide) (by decide) (z 1) (z 2)
    rw [eq_ix3 z, show z 0 = (0 : Fin 1) from Fin.ext (by show (z 0).val = 0; omega)]
    refine e.trans (congr (congr (congrArg (I.attnAt 0 b) (Fin.ext ?_)) (Fin.ext ?_)) (Fin.ext ?_)) <;> dsimp only <;> omega

end Cert.Attn
-- ==== Proof.BlockA.lean ====
module

public import proofs.«01_k».proof.Proof.Block

@[expose] public section

set_option maxRecDepth 65536

noncomputable section

open Idealize.ShloMosaic Idealize.ShloMosaic.TcCoe Idealize.SL.Sem

namespace Cert.Attn

open Cert.KernelIdeal Cert.KernelIdeal.Gen

set_option maxHeartbeats 2000000 in
/-- Where the block fills its key scratch (the first query block of a head pair), it leaves `block` of the keys it has just stored. -/
theorem outA (c : Dev nD) (i : grid0.Coords) (arg3 : Memref sig .tc .vmem S1x1024x512 .bf16) (harg3 : arg3.IsWhole) (arg4 : Memref sig .tc .vmem S1x4096x256 .bf16) (harg4 : arg4.IsWhole) (arg5 : Memref sig .tc .vmem S1x4096x128 .bf16) (harg5 : arg5.IsWhole) (arg6 : Memref sig .tc .vmem S1x4096x256 .bf16) (harg6 : arg6.IsWhole) (arg7 : Memref sig .tc .vmem S1x256x256 .bf16) (harg7 : arg7.IsWhole) (arg8 : Memref sig .tc .vmem S1x256x128 .bf16) (harg8 : arg8.IsWhole) (arg9 : Memref sig .tc .vmem S1x256x256 .bf16) (harg9 : arg9.IsWhole) (arg10 : Memref sig .tc .vmem S1x1024x256 .bf16) (harg10 : arg10.IsWhole) (arg11 : Memref sig .tc .vmem S2x4x256x1024 .bf16) (harg11 : arg11.IsWhole) (arg12 : Memref sig .tc .vmem S2x256x256 .bf16) (harg12 : arg12.IsWhole) (arg13 : Memref sig .tc .vmem S2x1024x128 .f32) (harg13 : arg13.IsWhole) (arg14 : Memref sig .tc .vmem S2x1024x128 .f32) (harg14 : arg14.IsWhole) (arg15 : Memref sig .tc .vmem S2x1024x128 .f32) (harg15 : arg15.IsWhole) (arg16 : Memref sig .tc .vmem S2x2x1024x1024 .f32) (harg16 : arg16.IsWhole) (arg17 : Memref sig .tc .vmem S2x1024x256 .f32) (harg17 : arg17.IsWhole) (hc0 : cond0_0 i)
    (x0 : Vec Ideal S1x1024x512 .bf16) (x1 : Vec Ideal S1x4096x256 .bf16) (x2 : Vec Ideal S1x4096x128 .bf16) (x3 : Vec Ideal S1x4096x256 .bf16) (x4 : Vec Ideal S1x256x256 .bf16) (x5 : Vec Ideal S1x256x128 .bf16) (x6 : Vec Ideal S1x256x256 .bf16) :
    out0_A_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 = block x0 (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6) (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6) x3 x6 := by
  frame_open
  simp -proj (disch := decide) only [View.read_writes_junk_eq_canon, ↓readCov_ld, ↓View.readCov_skip (e := .f32), ↓View.readCov_cons_toLoadRect, ↓View.readCov_fill, View.readAt_eq_ld,
    Memref.IsWhole.read_unread, readCov_withinL, ld_off (s := S1x4096x256) _ k0_off3_eq, ld_off (s := S1x4096x256) _ k0_off4_eq, ld_off (s := S1x4096x256) _ k0_off5_eq, ld_off (s := S1x4096x256) _ k0_off6_eq]
  unfold head0 head1
  simp -proj only [St.out, St.tile, St.init, maxR, maxT, sumT, accT, maxC, sumC, accC, chunk, chunkC, score, scoreC, vals, valsC, k0_pay1, k0_pay2, k0_pay3, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205]
  rfl
end Cert.Attn
-- ==== Proof.BlockB.lean ====
module

public import proofs.«01_k».proof.Proof.Block

@[expose] public section

set_option maxRecDepth 65536

noncomputable section

open Idealize.ShloMosaic Idealize.ShloMosaic.TcCoe Idealize.SL.Sem

namespace Cert.Attn

open Cert.KernelIdeal Cert.KernelIdeal.Gen

/-- Where the block finds its key scratch filled (every later query block), it leaves `block` of the keys it finds. -/
theorem outB (c : Dev nD) (i : grid0.Coords) (arg3 : Memref sig .tc .vmem S1x1024x512 .bf16) (harg3 : arg3.IsWhole) (arg4 : Memref sig .tc .vmem S1x4096x256 .bf16) (harg4 : arg4.IsWhole) (arg5 : Memref sig .tc .vmem S1x4096x128 .bf16) (harg5 : arg5.IsWhole) (arg6 : Memref sig .tc .vmem S1x4096x256 .bf16) (harg6 : arg6.IsWhole) (arg7 : Memref sig .tc .vmem S1x256x256 .bf16) (harg7 : arg7.IsWhole) (arg8 : Memref sig .tc .vmem S1x256x128 .bf16) (harg8 : arg8.IsWhole) (arg9 : Memref sig .tc .vmem S1x256x256 .bf16) (harg9 : arg9.IsWhole) (arg10 : Memref sig .tc .vmem S1x1024x256 .bf16) (harg10 : arg10.IsWhole) (arg11 : Memref sig .tc .vmem S2x4x256x1024 .bf16) (harg11 : arg11.IsWhole) (arg12 : Memref sig .tc .vmem S2x256x256 .bf16) (harg12 : arg12.IsWhole) (arg13 : Memref sig .tc .vmem S2x1024x128 .f32) (harg13 : arg13.IsWhole) (arg14 : Memref sig .tc .vmem S2x1024x128 .f32) (harg14 : arg14.IsWhole) (arg15 : Memref sig .tc .vmem S2x1024x128 .f32) (harg15 : arg15.IsWhole) (arg16 : Memref sig .tc .vmem S2x2x1024x1024 .f32) (harg16 : arg16.IsWhole) (arg17 : Memref sig .tc .vmem S2x1024x256 .f32) (harg17 : arg17.IsWhole) (hc0 : ¬cond0_0 i)
    (x0 : Vec Ideal S1x1024x512 .bf16) (x1 : Vec Ideal S1x4096x256 .bf16) (x2 : Vec Ideal S1x4096x128 .bf16) (x3 : Vec Ideal S1x4096x256 .bf16) (x4 : Vec Ideal S1x256x256 .bf16) (x5 : Vec Ideal S1x256x128 .bf16) (x6 : Vec Ideal S1x256x256 .bf16) (xs0 : Vec Ideal S2x4x256x1024 .bf16) (xs1 : Vec Ideal S2x256x256 .bf16) :
    out0_B_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1 = block x0 xs0 xs1 x3 x6 := by
  frame_open
  rw [View.read_writes_junk_eq_canon]
  simp -proj (disch := decide) only [↓View.readCov_skip (e := .f32), ↓View.readCov_cons_toLoadRect, ↓View.readCov_fill, View.readAt_eq_ld,
    Memref.IsWhole.read_unread, readCov_withinL, ld_off (s := S1x4096x256) _ k0_off3_eq, ld_off (s := S1x4096x256) _ k0_off4_eq, ld_off (s := S1x4096x256) _ k0_off5_eq, ld_off (s := S1x4096x256) _ k0_off6_eq]
  unfold head0 head1
  simp -proj only [St.out, St.tile, St.init, maxR, maxT, sumT, accT, maxC, sumC, accC, chunk, chunkC, score, scoreC, vals, valsC, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205]
  rfl
end Cert.Attn
-- ==== Proof.Array.lean ====
/- What the kernel's array holds after the run.

   First the blocks of the seven inputs at a grid point, index by index, and what the key scratch holds after it; then the output block;
   then the array, whose blocks the points write. -/
module

public import proofs.«01_k».proof.Proof.BlockAt
public import proofs.«01_k».proof.Proof.BlockA
public import proofs.«01_k».proof.Proof.BlockB

@[expose] public section

set_option maxRecDepth 16384

noncomputable section

open Idealize.ShloMosaic Idealize.ShloMosaic.TcCoe Idealize.SL.Sem

namespace Cert.Attn

open Cert.KernelIdeal Cert.KernelIdeal.Gen

/-- The blocks of each window, by grid point: batch `t / 16`, head pair `t / 4 % 4`, query block `t % 4`. -/
theorem idx : ∀ t : Fin cfg0.N, win0_0.index t = ![t.val / 16, t.val % 4, t.val / 4 % 4] ∧ win0_1.index t = ![t.val / 16, 0, t.val / 4 % 4]
    ∧ win0_2.index t = ![t.val / 16, 0, 0] ∧ win0_3.index t = ![t.val / 16, 0, t.val / 4 % 4] ∧ win0_4.index t = ![t.val / 16, 0, t.val / 4 % 4]
    ∧ win0_5.index t = ![t.val / 16, 0, 0] ∧ win0_6.index t = ![t.val / 16, 0, t.val / 4 % 4] ∧ win0_7.index t = ![t.val / 16, t.val % 4, t.val / 4 % 4] :=
  (by decide +kernel : ∀ t : Fin grid0.N, _)

variable (m : (ℓ : Loc nD τ sig) → Buf (Elt Ideal) ℓ)

/-- There are 64 points. -/
theorem lt64 (t : Fin cfg0.N) : t.val < 64 := Nat.lt_of_lt_of_eq t.isLt N_0

/-- A block of the queries. -/
theorem iblk0_at (c : Dev nD) (t : Fin cfg0.N) (r : Fin 1024) (d : Fin 512) : (iblk m c 0 t : Vec Ideal S1x1024x512 .bf16) (ix3 0 r d)
    = m ((c : Thread nD τ).loc main_arg0) (ix3 ⟨t.val / 16, by have := lt64 t; omega⟩ ⟨t.val % 4 * 1024 + r.val, by omega⟩ ⟨t.val / 4 % 4 * 512 + d.val, by omega⟩) := by
  blk_point [iblk, V, idx t]

/-- A block of the latent keys' own part. -/
theorem iblk1_at (c : Dev nD) (t : Fin cfg0.N) (r : Fin 4096) (d : Fin 256) : (iblk m c 1 t : Vec Ideal S1x4096x256 .bf16) (ix3 0 r d)
    = m ((c : Thread nD τ).loc main_arg1) (ix3 ⟨t.val / 16, by have := lt64 t; omega⟩ r ⟨t.val / 4 % 4 * 256 + d.val, by omega⟩) := by
  blk_point [iblk, V, idx t]

/-- A block of the latent keys' shared part. -/
theorem iblk2_at (c : Dev nD) (t : Fin cfg0.N) (r : Fin 4096) (d : Fin 128) : (iblk m c 2 t : Vec Ideal S1x4096x128 .bf16) (ix3 0 r d)
    = m ((c : Thread nD τ).loc main_arg2) (ix3 ⟨t.val / 16, by have := lt64 t; omega⟩ r d) := by
  blk_point [iblk, V, idx t]

/-- A block of the latent values. -/
theorem iblk3_at (c : Dev nD) (t : Fin cfg0.N) (r : Fin 4096) (d : Fin 256) : (iblk m c 3 t : Vec Ideal S1x4096x256 .bf16) (ix3 0 r d)
    = m ((c : Thread nD τ).loc main_arg3) (ix3 ⟨t.val / 16, by have := lt64 t; omega⟩ r ⟨t.val / 4 % 4 * 256 + d.val, by omega⟩) := by
  blk_point [iblk, V, idx t]

/-- A block of the context keys' own part. -/
theorem iblk4_at (c : Dev nD) (t : Fin cfg0.N) (r : Fin 256) (d : Fin 256) : (iblk m c 4 t : Vec Ideal S1x256x256 .bf16) (ix3 0 r d)
    = m ((c : Thread nD τ).loc main_arg4) (ix3 ⟨t.val / 16, by have := lt64 t; omega⟩ r ⟨t.val / 4 % 4 * 256 + d.val, by omega⟩) := by
  blk_point [iblk, V, idx t]

/-- A block of the context keys' shared part. -/
theorem iblk5_at (c : Dev nD) (t : Fin cfg0.N) (r : Fin 256) (d : Fin 128) : (iblk m c 5 t : Vec Ideal S1x256x128 .bf16) (ix3 0 r d)
    = m ((c : Thread nD τ).loc main_arg5) (ix3 ⟨t.val / 16, by have := lt64 t; omega⟩ r d) := by
  blk_point [iblk, V, idx t]

/-- A block of the context values. -/
theorem iblk6_at (c : Dev nD) (t : Fin cfg0.N) (r : Fin 256) (d : Fin 256) : (iblk m c 6 t : Vec Ideal S1x256x256 .bf16) (ix3 0 r d)
    = m ((c : Thread nD τ).loc main_arg6) (ix3 ⟨t.val / 16, by have := lt64 t; omega⟩ r ⟨t.val / 4 % 4 * 256 + d.val, by omega⟩) := by
  blk_point [iblk, V, idx t]

/-- The first point of a run stores the transposed keys of its head pair. -/
theorem keys_first (c : Dev nD) (t : Fin cfg0.N) (h0 : t.val % 4 = 0) :
    (outsAt0 m c t.val t.isLt).2.1 = keysOf (iblk m c 1 t) (iblk m c 2 t) ∧ (outsAt0 m c t.val t.isLt).2.2 = keysCOf (iblk m c 4 t) (iblk m c 5 t) := by
  rw [outsAt0_A m c t h0]
  dsimp only
  rw [keysA, keysCA]
  exact ⟨rfl, rfl⟩

/-- The other points keep them. -/
theorem keys_next (c : Dev nD) (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]
  dsimp only [sout0_B_0, sout0_B_1]

/-- The kernel's seven inputs. -/
def insK (c : Dev nD) : Ins where
  q b i d := m ((c : Thread nD τ).loc main_arg0) (ix3 b i d)
  kn b i d := m ((c : Thread nD τ).loc main_arg1) (ix3 b i d)
  kr b i d := m ((c : Thread nD τ).loc main_arg2) (ix3 b i d)
  v b i d := m ((c : Thread nD τ).loc main_arg3) (ix3 b i d)
  knc b i d := m ((c : Thread nD τ).loc main_arg4) (ix3 b i d)
  krc b i d := m ((c : Thread nD τ).loc main_arg5) (ix3 b i d)
  vc b i d := m ((c : Thread nD τ).loc main_arg6) (ix3 b i d)

/-- WHAT THE KEY SCRATCH HOLDS after every point: the transposed keys of the batch and head pair of the point. -/
theorem keys_run (c : Dev nD) : ∀ (n : ℕ) (h : n < cfg0.N), ∃ t : Fin cfg0.N, t.val / 4 = n / 4
    ∧ (outsAt0 m c n h).2.1 = keysOf (iblk m c 1 t) (iblk m c 2 t) ∧ (outsAt0 m c n h).2.2 = keysCOf (iblk m c 4 t) (iblk m c 5 t) := by
  intro n
  induction n with
  | zero => exact fun h => ⟨⟨0, h⟩, rfl, keys_first m c ⟨0, h⟩ rfl⟩
  | succ n ih =>
    intro h
    by_cases h0 : (n + 1) % 4 = 0
    · exact ⟨⟨n + 1, h⟩, rfl, keys_first m c ⟨n + 1, h⟩ h0⟩
    · obtain ⟨t, ht, e⟩ := ih (by omega)
      have e' : (outsAt0 m c (n + 1) h).2 = (outsAt0 m c n (by omega)).2 := keys_next m c ⟨n + 1, h⟩ h0
      rw [e']
      exact ⟨t, by omega, e⟩

/-- The blocks of a point, with the keys of any point of its run. -/
theorem blocks (c : Dev nD) (t t' : Fin cfg0.N) (h : t'.val / 4 = t.val / 4) :
    Blocks (insK m c) ⟨t.val / 16, by have := lt64 t; omega⟩ ⟨t.val / 4 % 4, by omega⟩ ⟨t.val % 4, by omega⟩ (iblk m c 0 t) (iblk m c 1 t') (iblk m c 2 t')
      (iblk m c 3 t) (iblk m c 4 t') (iblk m c 5 t') (iblk m c 6 t) := by
  have e16 : t'.val / 16 = t.val / 16 := by omega
  have h1 := iblk1_at m c t'
  have h2 := iblk2_at m c t'
  have h4 := iblk4_at m c t'
  have h5 := iblk5_at m c t'
  simp only [h, e16] at h1 h2 h4 h5
  exact ⟨iblk0_at m c t, h1, h2, iblk3_at m c t, h4, h5, iblk6_at m c t⟩

/-- After every point the output block is `block` of the point's blocks and of its run's keys. -/
theorem out_run (c : Dev nD) (t : Fin cfg0.N) : ∃ t' : Fin cfg0.N, t'.val / 4 = t.val / 4 ∧ (outsAt0 m c t.val t.isLt).1
    = block (iblk m c 0 t) (keysOf (iblk m c 1 t') (iblk m c 2 t')) (keysCOf (iblk m c 4 t') (iblk m c 5 t')) (iblk m c 3 t) (iblk m c 6 t) := by
  by_cases h0 : t.val % 4 = 0
  · refine ⟨t, rfl, ?_⟩
    rw [outsAt0_A m c t h0]
    dsimp only
    rw [outA, keysA, keysCA]
  · obtain ⟨t', ht, e1, e2⟩ := keys_run m c (t.val - 1) (Nat.lt_of_le_of_lt (Nat.sub_le _ _) t.isLt)
    refine ⟨t', by omega, ?_⟩
    rw [outsAt0_B m c t h0]
    dsimp only
    rw [outB, e1, e2]

end Cert.Attn
-- ==== Proof.Finite.lean ====
/- What the precondition says: every query and every key is a real. -/
module

public import proofs.«01_k».proof.Defs
public import proofs.«01_k».proof.Proof.Array
public import Idealize.ShloMosaic.Lib.KernelVsHost
public import Idealize.ShloMosaic.Lib.ReduceAll

@[expose] public section

set_option maxRecDepth 16384

noncomputable section

open Idealize.ShloMosaic Idealize.ShloMosaic.TcCoe Idealize.SL.Sem

namespace Cert.Attn

/-- The facts the precondition's operations state about their shapes. -/
theorem preFacts : Cert.Pre_finite_logits.Facts where
  bitsLt_bf16_f32 := by decide
  bcast_S_S4x4096x2048 := by decide
  reducesTo_S4x4096x2048_S_d0_1_2 := by decide
  h_S_ := by decide
  bcast_S_S4x4096x1024 := by decide
  reducesTo_S4x4096x1024_S_d0_1_2 := by decide
  bcast_S_S4x4096x128 := by decide
  reducesTo_S4x4096x128_S_d0_1_2 := by decide
  bcast_S_S4x256x1024 := by decide
  reducesTo_S4x256x1024_S_d0_1_2 := by decide
  bcast_S_S4x256x128 := by decide
  reducesTo_S4x256x128_S_d0_1_2 := by decide

/-- Two bits whose conjunction is 1 are both 1. -/
theorem and_one : ∀ a b : BitVec 1, IntOp.andi a b = 1#1 → a = 1#1 ∧ b = 1#1 := by decide

/-- A value less than `+∞` in absolute value is a real. -/
theorem real_of_lt (x : EReal) (h : FloatOps.cmpf (F := Ideal) (φ := .f32) .olt (FloatOps.hostAbsf (F := Ideal) (φ := .f32) x) (FloatOps.ofBits (F := Ideal) .f32 0x7F800000#32) = 1#1) :
    ∃ r : ℝ, x = r := by
  rw [← Ideal.xori_weird_eq_hostAbsf_olt_inf] at h
  by_cases hx : x = ⊤ ∨ x = ⊥
  · have e : FloatOps.weird (F := Ideal) (x : Ideal .f32) = 1#1 := by
      show BitVec.ofBool (decide (x = ⊤ ∨ x = ⊥)) = 1#1
      rw [decide_eq_true hx]; rfl
    rw [e] at h
    exact absurd h (by decide)
  · push Not at hx
    exact ⟨x.toReal, (EReal.coe_toReal hx.1 hx.2).symm⟩

/-- An array all of whose elements are less than `+∞` in absolute value holds reals. -/
theorem real_of_all {s t : Shape} {axes : List (Fin s.rank)} [Subsingleton t.Idx] (x : FVec Ideal s .bf16) (y : FVec Ideal s .f32) (w : t.Idx → BitVec 1)
    (h : s.ReducesTo axes t) (hu : 0 < t.numel) (hb : FTy.bits .bf16 < FTy.bits .f32) (hy : ∀ i, y i = FloatOps.ofBits (F := Ideal) .f32 0x7F800000#32)
    (j : t.Idx) (e : Host.reduce IntOp.andi (cmpf .olt (Host.absf (extf .f32 x hb)) y) w h hu j = 1#1) (i : s.Idx) : ∃ r : ℝ, (x i : EReal) = r := by
  have e1 := Host.reduce_andi_all _ w h hu j e i
  exact real_of_lt (x i) ((congrArg (FloatOps.cmpf (F := Ideal) (φ := .f32) .olt (FloatOps.hostAbsf (F := Ideal) (φ := .f32) (x i))) (hy i).symm).trans e1)

open Cert.KernelIdeal Cert.KernelIdeal.Gen

/-- THE PRECONDITION, READ: the queries and keys are reals. -/
theorem real_ins (m : (ℓ : Loc nD τ sig) → Buf (Elt Ideal) ℓ)
    (h : Cert.Pre_KernelIdeal_finite_logits (hPre_finite_logits := preFacts) m) (c : Dev nD) : (insK m c).Real := by
  have : Subsingleton Cert.Pre_finite_logits.S_.Idx := ⟨fun a b => funext fun k => k.elim0⟩
  have := preFacts
  obtain ⟨h1, h5⟩ := and_one _ _ (congrFun (h c) (Shape.Idx.first preFacts.h_S_))
  obtain ⟨h1, h4⟩ := and_one _ _ h1
  obtain ⟨h1, h3⟩ := and_one _ _ h1
  obtain ⟨h1, h2⟩ := and_one _ _ h1
  exact ⟨fun b i d => real_of_all _ _ _ _ _ _ (fun _ => rfl) _ h1 (ix3 b i d), fun b i d => real_of_all _ _ _ _ _ _ (fun _ => rfl) _ h2 (ix3 b i d),
    fun b i d => real_of_all _ _ _ _ _ _ (fun _ => rfl) _ h3 (ix3 b i d), fun b i d => real_of_all _ _ _ _ _ _ (fun _ => rfl) _ h4 (ix3 b i d),
    fun b i d => real_of_all _ _ _ _ _ _ (fun _ => rfl) _ h5 (ix3 b i d)⟩

end Cert.Attn

end
-- ==== Proof.Final.lean ====
/- The kernel's result array: at every index the attention of the inputs. -/
module

public import proofs.«01_k».proof.Proof.Array

@[expose] public section

set_option maxRecDepth 16384

noncomputable section

open Idealize.ShloMosaic Idealize.ShloMosaic.TcCoe Idealize.SL.Sem

namespace Cert.Attn

open Cert.KernelIdeal Cert.KernelIdeal.Gen

variable (m : (ℓ : Loc nD τ sig) → Buf (Elt Ideal) ℓ)

/-- The attention of every row, heads side by side. -/
def arr (I : Ins) : Vec Ideal S4x4096x1024 .bf16 := fun y =>
  I.attnAt 0 (y 0) ⟨(y 2).val / 128, by have : (y 2).val < 1024 := (y 2).isLt; omega⟩ (y 1) ⟨(y 2).val % 128, by omega⟩

/-- … read at coordinates named otherwise. -/
theorem arr_eq (I : Ins) (y : S4x4096x1024.Idx) (b : Fin 4) (h : Fin 8) (i : Fin 4096) (x : Fin 128) (hb : b.val = (y 0).val) (hh : h.val = (y 2).val / 128)
    (hi : i.val = (y 1).val) (hx : x.val = (y 2).val % 128) : I.attnAt 0 b h i x = arr I y :=
  congr (congr (congr (congrArg (I.attnAt 0) (Fin.ext hb)) (Fin.ext hh)) (Fin.ext hi)) (Fin.ext hx)

/-- POINT: what a point leaves at a block index is the attention at the array index that sits there. -/
theorem point (c : Dev nD) (hI : (insK m c).Real) (t : Fin cfg0.N) (y : S1x1024x256.Idx) (j : S4x4096x1024.Idx)
    (h0 : (j 0).val = t.val / 16) (h1 : (j 1).val = t.val % 4 * 1024 + (y 1).val) (h2 : (j 2).val = t.val / 4 % 4 * 256 + (y 2).val) :
    (outsAt0 m c t.val t.isLt).1 y = arr (insK m c) j := by
  obtain ⟨t', ht, e⟩ := out_run m c t
  have hy : (y 2).val < 256 := (y 2).isLt
  have hy1 : (y 1).val < 1024 := (y 1).isLt
  have ht : t.val < 64 := lt64 t
  rw [e, (blocks m c t t' ‹_›).block hI y ⟨t.val / 4 % 4 * 2 + (y 2).val / 128, by omega⟩ ⟨t.val % 4 * 1024 + (y 1).val, by omega⟩ ⟨(y 2).val % 128, by omega⟩
    rfl rfl rfl]
  refine arr_eq _ _ _ _ _ _ ?_ ?_ ?_ ?_ <;> dsimp only <;> omega

/-- THE KERNEL'S ARRAY: at every index the attention of the inputs. -/
theorem final (c : Dev nD) (hI : (insK m c).Real) : (dats m 0 c).arrAt 7 cfg0.N = arr (insK m c) := by
  refine (dats m 0 c).arrAt_eq_of_covers 7 _ (by decide +kernel) fun t _ y => ?_
  blk_simp
  rw [after0_7]
  refine point m c hI t y _ ?_ ?_ ?_
  all_goals (blk_simp [idx t] <;> try omega)

end Cert.Attn
-- ==== Proof.RefValue.lean ====
/- What the reference computes, one array after another, each at an index. -/
module

public import proofs.«01_k».proof.Proof.Gen.ReferenceIdeal.Run
public import proofs.«01_k».proof.Proof.Weights
public import proofs.«01_k».proof.Proof.Consts

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

/-- The keys as the reference lays them out: latent keys then context keys, each the part of its own head then the part all heads share. -/
def keysT (kn : FVec Ideal S4x4096x1024 .bf16) (kr : FVec Ideal S4x4096x128 .bf16) (knc : FVec Ideal S4x256x1024 .bf16)
    (krc : FVec Ideal S4x256x128 .bf16) : FVec Ideal S4x4352x8x256 .f32 :=
  concatenate S4x4352x8x256 1 [⟨S4x4096x8x256, (concatenate S4x4096x8x256 3 [⟨S4x4096x8x128, (shapeCast _ (extf .f32 kn bitsLt_bf16_f32) shapeCasts_S4x4096x1024_S4x4096x8x128)⟩, ⟨S4x4096x8x128, (broadcastInDim S4x4096x8x128 ![0, 1, 2, 3] bcast_S4x4096x1x128_S4x4096x8x128_0_1_2_3 (broadcastInDim S4x4096x1x128 ![0, 1, 3] bcast_S4x4096x128_S4x4096x1x128_0_1_3 (extf .f32 kr bitsLt_bf16_f32)))⟩] concatenates_S4x4096x8x128_S4x4096x8x128_S4x4096x8x256_d3)⟩, ⟨S4x256x8x256, (concatenate S4x256x8x256 3 [⟨S4x256x8x128, (shapeCast _ (extf .f32 knc bitsLt_bf16_f32) shapeCasts_S4x256x1024_S4x256x8x128)⟩, ⟨S4x256x8x128, (broadcastInDim S4x256x8x128 ![0, 1, 2, 3] bcast_S4x256x1x128_S4x256x8x128_0_1_2_3 (broadcastInDim S4x256x1x128 ![0, 1, 3] bcast_S4x256x128_S4x256x1x128_0_1_3 (extf .f32 krc bitsLt_bf16_f32)))⟩] concatenates_S4x256x8x128_S4x256x8x128_S4x256x8x256_d3)⟩] concatenates_S4x4096x8x256_S4x256x8x256_S4x4352x8x256_d1

/-- The values as the reference lays them out: latent values then context values, head by head. -/
def valsT (v : FVec Ideal S4x4096x1024 .bf16) (vc : FVec Ideal S4x256x1024 .bf16) : FVec Ideal S4x4352x8x128 .f32 :=
  concatenate S4x4352x8x128 1 [⟨S4x4096x8x128, (shapeCast _ (extf .f32 v bitsLt_bf16_f32) shapeCasts_S4x4096x1024_S4x4096x8x128)⟩, ⟨S4x256x8x128, (shapeCast _ (extf .f32 vc bitsLt_bf16_f32) shapeCasts_S4x256x1024_S4x256x8x128)⟩] concatenates_S4x4096x8x128_S4x256x8x128_S4x4352x8x128_d1

/-- The scores: queries against keys, head by head. -/
def scoresT (q : FVec Ideal S4x4096x2048 .bf16) (k : FVec Ideal S4x4352x8x256 .f32) : FVec Ideal S4x8x4096x4352 .f32 :=
  Host.dotGeneral dot_S4x4096x8x256_S4x4352x8x256_S4x8x4096x4352_3_3_1_1_02_02 none (shapeCast _ (extf .f32 q bitsLt_bf16_f32) shapeCasts_S4x4096x2048_S4x4096x8x256) k

/-- The logits: the scores times `ln 2`. -/
def logitsT (s : FVec Ideal S4x8x4096x4352 .f32) : FVec Ideal S4x8x4096x4352 .f32 :=
  mulf s (broadcastInDim S4x8x4096x4352 ![] bcast_S_S4x8x4096x4352 (Host.log (constant S_ .f32 0x40000000#32)))

/-- A row's largest logit. -/
def maxsT (z : FVec Ideal S4x8x4096x4352 .f32) : FVec Ideal S4x8x4096 .f32 :=
  Host.reduce FloatOps.maximumf z (constant S_ .f32 0xFF800000#32) reducesTo_S4x8x4096x4352_S4x8x4096_d3 h_S_

/-- The exponentials of a softmax over the keys: each logit less its row's largest, `M`. -/
def expsT (z : FVec Ideal S4x8x4096x4352 .f32) (M : FVec Ideal S4x8x4096 .f32) : FVec Ideal S4x8x4096x4352 .f32 :=
  Host.exp (subf z (broadcastInDim S4x8x4096x4352 ![0, 1, 2, 3] bcast_S4x8x4096x1_S4x8x4096x4352_0_1_2_3 (broadcastInDim S4x8x4096x1 ![0, 1, 2] bcast_S4x8x4096_S4x8x4096x1_0_1_2 (maximumf (broadcastInDim S4x8x4096 ![] bcast_S_S4x8x4096 (constant S_ .f32 0xFF800000#32)) M))))

/-- The softmax over the keys, from its exponentials. -/
def probsT (e : FVec Ideal S4x8x4096x4352 .f32) : FVec Ideal S4x8x4096x4352 .f32 :=
  extf .f32 (truncf .bf16 (Host.divf e (broadcastInDim S4x8x4096x4352 ![0, 1, 2, 3] bcast_S4x8x4096x1_S4x8x4096x4352_0_1_2_3 (broadcastInDim S4x8x4096x1 ![0, 1, 2] bcast_S4x8x4096_S4x8x4096x1_0_1_2 (Host.reduceAdd e (constant S_ .f32 0x00000000#32) reducesTo_S4x8x4096x4352_S4x8x4096_d3 h_S_)))) bitsLt_bf16_f32) bitsLt_bf16_f32

/-- The result: the values weighted by the probabilities, head by head, heads side by side. -/
def outT (p : FVec Ideal S4x8x4096x4352 .f32) (v : FVec Ideal S4x4352x8x128 .f32) : FVec Ideal S4x4096x1024 .bf16 :=
  truncf .bf16 (shapeCast S4x4096x1024 (transpose S4x4096x8x128 [0, 3, 1, 2] (Host.dotGeneral dot_S4x4352x8x128_S4x8x4096x4352_S4x8x128x4096_1_3_3_2_02_01 none v p) transposes_S4x8x128x4096_S4x4096x8x128_0_3_1_2) shapeCasts_S4x4096x8x128_S4x4096x1024) bitsLt_bf16_f32

/-- The keys at an index. -/
theorem keysT_at (kn : FVec Ideal S4x4096x1024 .bf16) (kr : FVec Ideal S4x4096x128 .bf16) (knc : FVec Ideal S4x256x1024 .bf16)
    (krc : FVec Ideal S4x256x128 .bf16) (b : Fin 4) (k : Fin 4352) (h : Fin 8) (d : Fin 256) :
    keysT kn kr knc krc (ix4 b k h d) = (if hk : k.val < 4096 then
      (if hd : d.val < 128 then kn (ix3 b ⟨k.val, hk⟩ ⟨h.val * 128 + d.val, by omega⟩) else kr (ix3 b ⟨k.val, hk⟩ ⟨d.val - 128, by omega⟩))
      else (if hd : d.val < 128 then knc (ix3 b ⟨k.val - 4096, by omega⟩ ⟨h.val * 128 + d.val, by omega⟩)
        else krc (ix3 b ⟨k.val - 4096, by omega⟩ ⟨d.val - 128, by omega⟩)) : EReal) := by
  pointwise [keysT]

/-- The values at an index. -/
theorem valsT_at (v : FVec Ideal S4x4096x1024 .bf16) (vc : FVec Ideal S4x256x1024 .bf16) (b : Fin 4) (k : Fin 4352) (h : Fin 8) (x : Fin 128) :
    valsT v vc (ix4 b k h x) = (if hk : k.val < 4096 then v (ix3 b ⟨k.val, hk⟩ ⟨h.val * 128 + x.val, by omega⟩)
      else vc (ix3 b ⟨k.val - 4096, by omega⟩ ⟨h.val * 128 + x.val, by omega⟩) : EReal) := by
  pointwise [valsT]

/-- A score. -/
theorem scoresT_at (q : FVec Ideal S4x4096x2048 .bf16) (kk : FVec Ideal S4x4352x8x256 .f32) (b : Fin 4) (h : Fin 8) (i : Fin 4096) (k : Fin 4352) :
    scoresT q kk (ix4 b h i k) = (∑ d : Fin 256, q (ix3 b i ⟨h.val * 256 + d.val, by omega⟩) * kk (ix4 b k h d) : EReal) := by
  pointwise [scoresT]

/-- A logit is the score times `ln 2`. -/
theorem logitsT_at (s : FVec Ideal S4x8x4096x4352 .f32) (b : Fin 4) (h : Fin 8) (i : Fin 4096) (k : Fin 4352) :
    logitsT s (ix4 b h i k) = (s (ix4 b h i k) * ((Real.log 2 : ℝ) : EReal) : EReal) := by
  have e : Ideal.log (Ideal.ofBits .f32 1073741824#32) = ((Real.log 2 : ℝ) : EReal) := by
    rw [Attn.ofBits_two, Ideal.log_coe]; norm_num
  rw [← e]
  pointwise [logitsT]

/-- A row's largest logit, of real logits, is a real. -/
theorem maxsT_at (z : FVec Ideal S4x8x4096x4352 .f32) (b : Fin 4) (h : Fin 8) (i : Fin 4096) (s : Fin 4352 → ℝ)
    (hz : ∀ k, z (ix4 b h i k) = (s k : EReal)) : ∃ M : ℝ, maxsT z (ix3 b h i) = (M : EReal) := by
  have : Nonempty (Fin 4352) := ⟨0⟩
  obtain ⟨M, hM⟩ := Attn.exists_coe_fold_max_bot s
  refine ⟨M, Eq.trans ?_ hM⟩
  have hr : S4x8x4096x4352.Reduces [3] S4x8x4096 := by decide
  refine (Host.reduce_eq_fold_single (FloatOps.maximumf (F := Ideal) (φ := .f32)) z (constant S_ .f32 0xFF800000#32) reducesTo_S4x8x4096x4352_S4x8x4096_d3 hr h_S_ (ix3 b h i)).trans ?_
  have e1 : z ∘ hr.lift (ix3 b h i) = fun k => (s k : EReal) := by
    funext k
    refine Eq.trans (congrArg z ?_) (hz k)
    funext a
    fin_cases a <;> rfl
  have e2 : constant (F := Ideal) S_ .f32 0xFF800000#32 (Shape.Idx.first h_S_) = (⊥ : EReal) := Attn.ofBits_bot
  rw [e1, e2]
  rfl

/-- An exponential. -/
theorem expsT_at (z : FVec Ideal S4x8x4096x4352 .f32) (M : FVec Ideal S4x8x4096 .f32) (b : Fin 4) (h : Fin 8) (i : Fin 4096) (k : Fin 4352) :
    expsT z M (ix4 b h i k) = (Ideal.exp (z (ix4 b h i k) - max (Ideal.ofBits .f32 4286578688#32) (M (ix3 b h i))) : EReal) := by
  pointwise [expsT]

/-- A probability. -/
theorem probsT_at (e : FVec Ideal S4x8x4096x4352 .f32) (b : Fin 4) (h : Fin 8) (i : Fin 4096) (k : Fin 4352) :
    probsT e (ix4 b h i k) = (Ideal.div (e (ix4 b h i k)) (∑ j : Fin 4352, e (ix4 b h i j)) : EReal) := by
  pointwise [probsT]

/-- A result. -/
theorem outT_at (p : FVec Ideal S4x8x4096x4352 .f32) (v : FVec Ideal S4x4352x8x128 .f32) (b : Fin 4) (i : Fin 4096) (x : Fin 1024) :
    outT p v (ix3 b i x) = (∑ k : Fin 4352, v (ix4 b k ⟨x.val / 128, by omega⟩ ⟨x.val % 128, by omega⟩) * p (ix4 b ⟨x.val / 128, by omega⟩ i k) : EReal) := by
  pointwise [outT]

end Cert.ReferenceIdeal.Value

end
-- ==== Proof.RefAttn.lean ====
/- The reference's result array: at every index the attention of its inputs. -/
module

public import proofs.«01_k».proof.Proof.RefValue
public import proofs.«01_k».proof.Proof.Spec

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Attn

variable (m : (ℓ : Loc nD τ sig) → Buf (Elt Ideal) ℓ) (c : Dev nD)

/-- The reference's seven inputs. -/
def insR : Ins where
  q b i d := m ((c : Thread nD τ).loc main_arg0) (ix3 b i d)
  kn b i d := m ((c : Thread nD τ).loc main_arg1) (ix3 b i d)
  kr b i d := m ((c : Thread nD τ).loc main_arg2) (ix3 b i d)
  v b i d := m ((c : Thread nD τ).loc main_arg3) (ix3 b i d)
  knc b i d := m ((c : Thread nD τ).loc main_arg4) (ix3 b i d)
  krc b i d := m ((c : Thread nD τ).loc main_arg5) (ix3 b i d)
  vc b i d := m ((c : Thread nD τ).loc main_arg6) (ix3 b i d)

/-- The logits of the reference's inputs. -/
def logitsR : FVec Ideal S4x8x4096x4352 .f32 :=
  logitsT (scoresT (m ((c : Thread nD τ).loc main_arg0)) (keysT (m ((c : Thread nD τ).loc main_arg1)) (m ((c : Thread nD τ).loc main_arg2))
    (m ((c : Thread nD τ).loc main_arg4)) (m ((c : Thread nD τ).loc main_arg5))))

/-- The reference's result is its stages, one after another. -/
theorem res_eq : res_main_v40 m c = outT (probsT (expsT (logitsR m c) (maxsT (logitsR m c))))
    (valsT (m ((c : Thread nD τ).loc main_arg3)) (m ((c : Thread nD τ).loc main_arg6))) := rfl

/-- A logit is the score times `ln 2`. -/
theorem logitsR_at (b : Fin 4) (h : Fin 8) (i : Fin 4096) (k : Fin 4352) :
    logitsR m c (ix4 b h i k) = ((insR m c).score b h i k * ((Real.log 2 : ℝ) : EReal) : EReal) := by
  refine (logitsT_at _ b h i k).trans (congrArg (· * ((Real.log 2 : ℝ) : EReal)) ?_)
  refine (scoresT_at _ _ b h i k).trans (Finset.sum_congr rfl fun d _ => ?_)
  rw [keysT_at]
  rfl

/-- THE REFERENCE'S ARRAY, at an index: the attention of its inputs. -/
theorem res_at (hI : (insR m c).Real) (b : Fin 4) (i : Fin 4096) (x : Fin 1024) :
    res_main_v40 m c (ix3 b i x) = (insR m c).attnAt 0 b ⟨x.val / 128, by omega⟩ i ⟨x.val % 128, by omega⟩ := by
  rw [res_eq]
  refine (outT_at _ _ b i x).trans ?_
  choose s hs using hI.score b ⟨x.val / 128, by omega⟩ i
  obtain ⟨M, hM⟩ := maxsT_at (logitsR m c) b ⟨x.val / 128, by omega⟩ i (fun k => s k * Real.log 2) fun k => by
    rw [logitsR_at, hs, EReal.coe_mul]
  have he : ∀ k, expsT (logitsR m c) (maxsT (logitsR m c)) (ix4 b ⟨x.val / 128, by omega⟩ i k)
      = Ideal.exp ((insR m c).score b ⟨x.val / 128, by omega⟩ i k * ((Real.log 2 : ℝ) : EReal) - (M : EReal)) := fun k => by
    rw [expsT_at, logitsR_at, hM, ofBits_bot, max_eq_right bot_le]
  rw [← hI.softmax_eq M]
  refine Finset.sum_congr rfl fun k _ => ?_
  rw [valsT_at, probsT_at, he]
  simp only [he]
  rfl

end Cert.ReferenceIdeal.Value

end
-- ==== Proof.Meets.lean ====
/- The kernel meets the reference: on equal inputs whose queries and keys are reals, one array. -/
module

public import proofs.«01_k».proof.Proof.Final
public import proofs.«01_k».proof.Proof.RefAttn

@[expose] public section

noncomputable section

open Idealize.ShloMosaic Idealize.ShloMosaic.TcCoe Idealize.SL.Sem

namespace Cert.Attn

open Cert.ReferenceIdeal Cert.ReferenceIdeal.Gen Cert.ReferenceIdeal.Value

/-- An index of the result, by its coordinates. -/
theorem idx_eq (y : S4x4096x1024.Idx) : y = ix3 (y 0) (y 1) (y 2) := by
  funext a
  fin_cases a <;> rfl

/-- The reference's array is the attention of its inputs, heads side by side: `arr`, as the kernel's is. -/
theorem reference_eq (m : (ℓ : Loc nD τ sig) → Buf (Elt Ideal) ℓ) (c : Dev nD) (hI : (insR m c).Real) :
    res_main_v40 m c = arr (insR m c) := by
  funext y
  rw [idx_eq y]
  exact res_at m c hI (y 0) (y 1) (y 2)

/-- Equal arguments are equal inputs. -/
theorem ins_eq (m : (ℓ : Loc Cert.KernelIdeal.nD Cert.KernelIdeal.τ Cert.KernelIdeal.sig) → Buf (Elt Ideal) ℓ)
    (m' : (ℓ : Loc nD τ sig) → Buf (Elt Ideal) ℓ) (c : Dev nD)
    (h : m' ((c : Thread nD τ).loc main_arg0) = m ((c : Thread Cert.KernelIdeal.nD Cert.KernelIdeal.τ).loc Cert.KernelIdeal.main_arg0)
      ∧ m' ((c : Thread nD τ).loc main_arg1) = m ((c : Thread Cert.KernelIdeal.nD Cert.KernelIdeal.τ).loc Cert.KernelIdeal.main_arg1)
      ∧ m' ((c : Thread nD τ).loc main_arg2) = m ((c : Thread Cert.KernelIdeal.nD Cert.KernelIdeal.τ).loc Cert.KernelIdeal.main_arg2)
      ∧ m' ((c : Thread nD τ).loc main_arg3) = m ((c : Thread Cert.KernelIdeal.nD Cert.KernelIdeal.τ).loc Cert.KernelIdeal.main_arg3)
      ∧ m' ((c : Thread nD τ).loc main_arg4) = m ((c : Thread Cert.KernelIdeal.nD Cert.KernelIdeal.τ).loc Cert.KernelIdeal.main_arg4)
      ∧ m' ((c : Thread nD τ).loc main_arg5) = m ((c : Thread Cert.KernelIdeal.nD Cert.KernelIdeal.τ).loc Cert.KernelIdeal.main_arg5)
      ∧ m' ((c : Thread nD τ).loc main_arg6) = m ((c : Thread Cert.KernelIdeal.nD Cert.KernelIdeal.τ).loc Cert.KernelIdeal.main_arg6)) :
    insR m' c = insK m c := by
  obtain ⟨h0, h1, h2, h3, h4, h5, h6⟩ := h
  unfold insR insK
  congr 1 <;> funext b i d
  exacts [congrFun h0 _, congrFun h1 _, congrFun h2 _, congrFun h3 _, congrFun h4 _, congrFun h5 _, congrFun h6 _]

end Cert.Attn

end
-- ==== Proof.FfnSpec.lean ====
/- The gated MLP of a layer with its residual and final norm, as a formula of its inputs.

   Rows go up to 11264 columns, through a convolution over three neighbouring rows (rows beyond the ends count as zero), and come down
   again: the first 5632 columns gate the other 5632. -/
module

public import proofs.«01_k».proof.Proof.Consts

@[expose] public section

noncomputable section

open Idealize.ShloMosaic

namespace Cert.Ffn

/-- The layer's eight inputs, index by index. -/
structure Ins where
  /-- rows: batch, row, column -/
  h : Fin 4 → Fin 4096 → Fin 2048 → EReal
  /-- weights of the way up, gate columns first -/
  wu : Fin 2048 → Fin 11264 → EReal
  /-- taps of the convolution -/
  cw : Fin 3 → Fin 11264 → EReal
  /-- bias of the convolution -/
  cb : Fin 11264 → EReal
  /-- weights of the way down -/
  wd : Fin 5632 → Fin 2048 → EReal
  /-- residual -/
  x : Fin 4 → Fin 4096 → Fin 2048 → EReal
  /-- gate of the residual, by batch -/
  gt : Fin 4 → Fin 2048 → EReal
  /-- weights of the final norm -/
  gf : Fin 2048 → EReal

/-- `g / (1 + e⁻ᵍ)`. -/
def silu (g : EReal) : EReal := Ideal.div g (1 + Ideal.exp (0 - g))

/-- An exponential is not negative. -/
theorem exp_nonneg (x : EReal) : 0 ≤ Ideal.exp x := by
  induction x using EReal.rec with
  | bot => exact le_refl _
  | coe r => exact EReal.coe_nonneg.2 (Real.exp_pos r).le
  | top => exact le_top

/-- It is `g` times `1 / (1 + e⁻ᵍ)`, infinities included: the divisor is not zero. -/
theorem mul_div_one (g : EReal) : g * Ideal.div 1 (1 + Ideal.exp (-g)) = silu g := by
  have h : (1 : EReal) + Ideal.exp (-g) ≠ 0 := by
    have h0 : 0 ≤ Ideal.exp (-g) := exp_nonneg _
    have : (0 : EReal) < 1 + Ideal.exp (-g) := lt_of_lt_of_le zero_lt_one (le_add_of_nonneg_right h0)
    exact this.ne'
  have e : (0 : EReal) - g = -g := by rw [sub_eq_add_neg, zero_add]
  rw [silu, e, Ideal.div, Ideal.div, if_neg h, if_neg h, one_mul]

namespace Ins

variable (I : Ins)

/-- The rows with a zero row before and after them. -/
def hp (b : Fin 4) (n : ℕ) (k : Fin 2048) : EReal := if h : 1 ≤ n ∧ n ≤ 4096 then I.h b ⟨n - 1, by omega⟩ k else 0

/-- The way up. -/
def u (b : Fin 4) (n : ℕ) (c : Fin 11264) : EReal := ∑ k : Fin 2048, I.hp b n k * I.wu k c

/-- The convolution of row `i`. -/
def conv (b : Fin 4) (i : ℕ) (c : Fin 11264) : EReal :=
  I.u b i c * I.cw 0 c + I.u b (i + 1) c * I.cw 1 c + I.u b (i + 2) c * I.cw 2 c + I.cb c

/-- The gated columns. -/
def act (b : Fin 4) (i : ℕ) (c : Fin 5632) : EReal := silu (I.conv b i ⟨c.val, by omega⟩) * I.conv b i ⟨5632 + c.val, by omega⟩

/-- One column's part of the way down. -/
def term (b : Fin 4) (i : ℕ) (d : Fin 2048) (c : ℕ) : EReal := if h : c < 5632 then I.act b i ⟨c, h⟩ * I.wd ⟨c, h⟩ d else 0

/-- The way down. -/
def ffn (b : Fin 4) (i : ℕ) (d : Fin 2048) : EReal := ∑ c : Fin 5632, I.act b i c * I.wd c d

/-- The residual. -/
def res (b : Fin 4) (i : Fin 4096) (d : Fin 2048) : EReal := I.x b i d + I.gt b d * I.ffn b i.val d

/-- The final norm. -/
def out (b : Fin 4) (i : Fin 4096) (d : Fin 2048) : EReal :=
  I.res b i d * Ideal.rsqrt (Ideal.div (∑ k : Fin 2048, I.res b i k * I.res b i k) (Ideal.ofBits .f32 0x45000000#32) + Ideal.ofBits .f32 0x358637BD#32)
    * I.gf d

/-- The part of the way down that tile `j` of 512 columns adds, in two halves. -/
def tile (b : Fin 4) (i : ℕ) (d : Fin 2048) (j : ℕ) : EReal :=
  (∑ c : Fin 256, I.term b i d (j * 512 + c.val)) + ∑ c : Fin 256, I.term b i d (j * 512 + 256 + c.val)

/-- The tiles up to `n` are the columns up to `512 n`. -/
theorem sum_tile (b : Fin 4) (i : ℕ) (d : Fin 2048) (n : ℕ) :
    ∑ j ∈ Finset.range n, I.tile b i d j = ∑ c ∈ Finset.range (n * 512), I.term b i d c := by
  induction n with
  | zero => simp
  | succ n ih =>
    rw [Finset.sum_range_succ, ih, show (n + 1) * 512 = n * 512 + 256 + 256 by ring, Finset.sum_range_add, Finset.sum_range_add, add_assoc, tile,
      Finset.sum_range (fun x => I.term b i d (n * 512 + x)), Finset.sum_range (fun x => I.term b i d (n * 512 + 256 + x))]

/-- The eleven tiles are the way down. -/
theorem sum_tiles (b : Fin 4) (i : ℕ) (d : Fin 2048) : ∑ j ∈ Finset.range 11, I.tile b i d j = I.ffn b i d := by
  rw [sum_tile, ffn, show 11 * 512 = 5632 by norm_num, Finset.sum_range]
  exact Finset.sum_congr rfl fun c _ => by rw [term, dif_pos c.isLt]

end Ins

end Cert.Ffn

end
-- ==== Proof.FfnStep.lean ====
/- One step of the gated MLP's kernel: what a tile of 512 columns adds to the rows' accumulator.

   The step takes the rows up to the tile's gate and value columns, runs the convolution over three neighbouring rows, gates, and comes down
   again; the value columns go in two halves of 256. -/
module

public import proofs.«01_k».proof.Proof.Gen.Kernel2Ideal.Skeleton
public import proofs.«01_k».proof.Proof.FfnSpec

@[expose] public section

set_option maxRecDepth 65536

noncomputable section

open Idealize.ShloMosaic Idealize.ShloMosaic.TcCoe Idealize.SL.Sem

namespace Cert.Ffn

open Cert.Kernel2Ideal Cert.Kernel2Ideal.Gen

/-- Rows `o` to `o + 511` of the gate columns. -/
def rowsG (g : FVec Ideal S544x512 .f32) (o : ℕ) (h : ∀ a, (![o, 0] : Fin 2 → ℕ) a + S512x512.size a ≤ S544x512.size a) : Vec Ideal S512x512 .f32 :=
  View.ld (Val := Elt Ideal) (e' := .f32) g (Rect.unit (s := S544x512) ![o, 0] S512x512.size h)

/-- Rows `o` to `o + 511` of one half of the value columns. -/
def rowsV (v : FVec Ideal S544x256 .f32) (o : ℕ) (h : ∀ a, (![o, 0] : Fin 2 → ℕ) a + S512x256.size a ≤ S544x256.size a) : Vec Ideal S512x256 .f32 :=
  View.ld (Val := Elt Ideal) (e' := .f32) v (Rect.unit (s := S544x256) ![o, 0] S512x256.size h)

/-- A tap of the gate columns. -/
def tapG (w : Vec Ideal S1x3x512 .f32) (t : ℕ) (h : ∀ a, (![0, t, 0] : Fin 3 → ℕ) a + S1x1x512.size a ≤ S1x3x512.size a) : Vec Ideal S1x1x512 .f32 :=
  View.ld (Val := Elt Ideal) (e' := .f32) w (Rect.unit (s := S1x3x512) ![0, t, 0] S1x1x512.size h)

/-- A tap of one half of the value columns, from column `o` on. -/
def tapV (w : Vec Ideal S1x3x512 .f32) (t o : ℕ) (h : ∀ a, (![0, t, o] : Fin 3 → ℕ) a + S1x1x256.size a ≤ S1x3x512.size a) : Vec Ideal S1x1x256 .f32 :=
  View.ld (Val := Elt Ideal) (e' := .f32) w (Rect.unit (s := S1x3x512) ![0, t, o] S1x1x256.size h)

/-- Half of the value columns' bias. -/
def biasV (w : Vec Ideal S1x1x512 .f32) (o : ℕ) (h : ∀ a, (![0, 0, o] : Fin 3 → ℕ) a + S1x1x256.size a ≤ S1x1x512.size a) : Vec Ideal S1x1x256 .f32 :=
  View.ld (Val := Elt Ideal) (e' := .f32) w (Rect.unit (s := S1x1x512) ![0, 0, o] S1x1x256.size h)

/-- The rows at half of the value columns. -/
def upV (hx : Vec Ideal S544x2048 .bf16) (w : Vec Ideal S1x2048x512 .bf16) (o : ℕ)
    (h : ∀ a, (![0, 0, o] : Fin 3 → ℕ) a + S1x2048x256.size a ≤ S1x2048x512.size a) : FVec Ideal S544x256 .f32 :=
  k0_pay9 hx (View.ld (Val := Elt Ideal) (e' := .bf16) w (Rect.unit (s := S1x2048x512) ![0, 0, o] S1x2048x256.size h))

/-- Half of the weights of the way down. -/
def downV (w : Vec Ideal S1x512x2048 .bf16) (o : ℕ) (h : ∀ a, (![0, o, 0] : Fin 3 → ℕ) a + S1x256x2048.size a ≤ S1x512x2048.size a) :
    Vec Ideal S1x256x2048 .bf16 :=
  View.ld (Val := Elt Ideal) (e' := .bf16) w (Rect.unit (s := S1x512x2048) ![0, o, 0] S1x256x2048.size h)

/-- The gate of a tile, through `silu`. -/
def gate (hx : Vec Ideal S544x2048 .bf16) (x3 : Vec Ideal S1x2048x512 .bf16) (x5 : Vec Ideal S1x3x512 .f32) (x7 : Vec Ideal S1x1x512 .f32) :
    FVec Ideal S512x512 .f32 :=
  k0_pay12 (rowsG (k0_pay8 hx x3) 15 (by decide)) (k0_pay11 (tapG x5 0 (by decide))) (rowsG (k0_pay8 hx x3) 16 (by decide)) (tapG x5 1 (by decide))
    (rowsG (k0_pay8 hx x3) 17 (by decide)) (tapG x5 2 (by decide)) x7

/-- The first half's part of the way down. -/
def half0 (hx : Vec Ideal S544x2048 .bf16) (g : FVec Ideal S512x256 .f32) (x4 : Vec Ideal S1x2048x512 .bf16) (x6 : Vec Ideal S1x3x512 .f32)
    (x8 : Vec Ideal S1x1x512 .f32) (x9 : Vec Ideal S1x512x2048 .bf16) : FVec Ideal S512x2048 .f32 :=
  k0_pay15 g (k0_pay14 (rowsV (upV hx x4 0 (by decide)) 15 (by decide)) (tapV x6 0 0 (by decide)) (rowsV (upV hx x4 0 (by decide)) 16 (by decide)) (tapV x6 1 0 (by decide)))
    (rowsV (upV hx x4 0 (by decide)) 17 (by decide)) (tapV x6 2 0 (by decide)) (biasV x8 0 (by decide)) (downV x9 0 (by decide))

/-- The second half's value columns before the bias. -/
def conv1 (hx : Vec Ideal S544x2048 .bf16) (x4 : Vec Ideal S1x2048x512 .bf16) (x6 : Vec Ideal S1x3x512 .f32) : FVec Ideal S512x256 .f32 :=
  k0_pay17 (rowsV (upV hx x4 256 (by decide)) 15 (by decide)) (tapV x6 0 256 (by decide)) (rowsV (upV hx x4 256 (by decide)) 16 (by decide)) (tapV x6 1 256 (by decide))
    (rowsV (upV hx x4 256 (by decide)) 17 (by decide)) (tapV x6 2 256 (by decide))

/-- The accumulator after a tile. -/
def step (acc : Vec Ideal S512x2048 .f32) (hx : Vec Ideal S544x2048 .bf16) (x3 x4 : Vec Ideal S1x2048x512 .bf16) (x5 x6 : Vec Ideal S1x3x512 .f32)
    (x7 x8 : Vec Ideal S1x1x512 .f32) (x9 : Vec Ideal S1x512x2048 .bf16) : Vec Ideal S512x2048 .f32 :=
  k0_pay1 (half0 hx (k0_pay13 (rowsG (k0_pay8 hx x3) 15 (by decide)) (k0_pay11 (tapG x5 0 (by decide))) (rowsG (k0_pay8 hx x3) 16 (by decide)) (tapG x5 1 (by decide))
    (rowsG (k0_pay8 hx x3) 17 (by decide)) (tapG x5 2 (by decide)) x7) x4 x6 x8 x9)
    (k0_pay16 (gate hx x3 x5 x7)) (conv1 hx x4 x6) (biasV x8 256 (by decide)) (downV x9 256 (by decide)) acc

/-- A column of the block's rows on the way up. -/
def ub (hx : Vec Ideal S544x2048 .bf16) (w : Vec Ideal S1x2048x512 .bf16) (p : Fin 544) (c : Fin 512) : EReal := ∑ k : Fin 2048, hx (ix2 p k) * w (ix3 0 k c)

/-- A column of the block's rows through the convolution. -/
def convb (hx : Vec Ideal S544x2048 .bf16) (w : Vec Ideal S1x2048x512 .bf16) (cw : Vec Ideal S1x3x512 .f32) (cb : Vec Ideal S1x1x512 .f32) (r : Fin 512) (c : Fin 512) : EReal :=
  ub hx w ⟨15 + r.val, by omega⟩ c * cw (ix3 0 0 c) + ub hx w ⟨16 + r.val, by omega⟩ c * cw (ix3 0 1 c) + ub hx w ⟨17 + r.val, by omega⟩ c * cw (ix3 0 2 c) + cb (ix3 0 0 c)

/-- The gate columns at an index. -/
theorem rowsG_at (hx : Vec Ideal S544x2048 .bf16) (x3 : Vec Ideal S1x2048x512 .bf16) (o : ℕ) (h) (ho : o ≤ 32) (r c : Fin 512) :
    rowsG (k0_pay8 hx x3) o h (ix2 r c) = ub hx x3 ⟨o + r.val, by omega⟩ c := by
  pointwise [rowsG, k0_pay8, ub]

/-- The value columns at an index. -/
theorem rowsV_at (hx : Vec Ideal S544x2048 .bf16) (x4 : Vec Ideal S1x2048x512 .bf16) (q : ℕ) (hq) (hq' : q ≤ 256) (o : ℕ) (h) (ho : o ≤ 32) (r : Fin 512) (c : Fin 256) :
    rowsV (upV hx x4 q hq) o h (ix2 r c) = ub hx x4 ⟨o + r.val, by omega⟩ ⟨q + c.val, by omega⟩ := by
  pointwise [rowsV, upV, k0_pay9, ub]

/-- A tap of the gate columns at an index. -/
theorem tapG_at (w : Vec Ideal S1x3x512 .f32) (t : ℕ) (h) (ht : t < 3) (c : Fin 512) : tapG w t h (ix3 0 0 c) = w (ix3 0 ⟨t, ht⟩ c) := by
  pointwise [tapG]

/-- A tap of the value columns at an index. -/
theorem tapV_at (w : Vec Ideal S1x3x512 .f32) (t o : ℕ) (h) (ht : t < 3) (ho : o ≤ 256) (c : Fin 256) : tapV w t o h (ix3 0 0 c) = w (ix3 0 ⟨t, ht⟩ ⟨o + c.val, by omega⟩) := by
  pointwise [tapV]

/-- The value columns' bias at an index. -/
theorem biasV_at (w : Vec Ideal S1x1x512 .f32) (o : ℕ) (h) (ho : o ≤ 256) (c : Fin 256) : biasV w o h (ix3 0 0 c) = w (ix3 0 0 ⟨o + c.val, by omega⟩) := by
  pointwise [biasV]

/-- Weights of the way down at an index. -/
theorem downV_at (w : Vec Ideal S1x512x2048 .bf16) (o : ℕ) (h) (ho : o ≤ 256) (c : Fin 256) (d : Fin 2048) : downV w o h (ix3 0 c d) = w (ix3 0 ⟨o + c.val, by omega⟩ d) := by
  pointwise [downV]

/-- The gate at an index. -/
theorem gate_at (hx : Vec Ideal S544x2048 .bf16) (x3 : Vec Ideal S1x2048x512 .bf16) (x5 : Vec Ideal S1x3x512 .f32) (x7 : Vec Ideal S1x1x512 .f32) (r c : Fin 512) :
    gate hx x3 x5 x7 (ix2 r c) = silu (convb hx x3 x5 x7 r c) := by
  have e : ∀ (G0 G1 G2 : Vec Ideal S512x512 .f32) (T0 T1 T2 : Vec Ideal S1x1x512 .f32), k0_pay12 G0 (k0_pay11 T0) G1 T1 G2 T2 x7 (ix2 r c)
      = silu (G0 (ix2 r c) * T0 (ix3 0 0 c) + G1 (ix2 r c) * T1 (ix3 0 0 c) + G2 (ix2 r c) * T2 (ix3 0 0 c) + x7 (ix3 0 0 c)) := by
    intro G0 G1 G2 T0 T1 T2
    rw [silu, ← Attn.ofBits_one]
    pointwise [k0_pay12, k0_pay11]
  rw [gate, e]
  simp only [rowsG_at _ _ _ _ (by omega : 15 ≤ 32), rowsG_at _ _ _ _ (by omega : 16 ≤ 32), rowsG_at _ _ _ _ (by omega : 17 ≤ 32),
    tapG_at _ _ _ (by omega : 0 < 3), tapG_at _ _ _ (by omega : 1 < 3), tapG_at _ _ _ (by omega : 2 < 3)]
  rfl

/-- The first half at an index. -/
theorem half0_at (hx : Vec Ideal S544x2048 .bf16) (g : FVec Ideal S512x256 .f32) (x4 : Vec Ideal S1x2048x512 .bf16) (x6 : Vec Ideal S1x3x512 .f32)
    (x8 : Vec Ideal S1x1x512 .f32) (x9 : Vec Ideal S1x512x2048 .bf16) (r : Fin 512) (d : Fin 2048) : half0 hx g x4 x6 x8 x9 (ix2 r d)
      = (∑ c : Fin 256, g (ix2 r c) * convb hx x4 x6 x8 r ⟨0 + c.val, by omega⟩ * x9 (ix3 0 ⟨0 + c.val, by omega⟩ d) : EReal) := by
  have e : ∀ (V0 V1 V2 : Vec Ideal S512x256 .f32) (T0 T1 T2 B : Vec Ideal S1x1x256 .f32) (W : Vec Ideal S1x256x2048 .bf16),
      k0_pay15 g (k0_pay14 V0 T0 V1 T1) V2 T2 B W (ix2 r d) = (∑ c : Fin 256, g (ix2 r c) * (V0 (ix2 r c) * T0 (ix3 0 0 c) + V1 (ix2 r c) * T1 (ix3 0 0 c)
        + V2 (ix2 r c) * T2 (ix3 0 0 c) + B (ix3 0 0 c)) * W (ix3 0 c d) : EReal) := by
    intro V0 V1 V2 T0 T1 T2 B W
    pointwise [k0_pay15, k0_pay14]
  rw [half0, e]
  simp only [rowsV_at _ _ _ _ (by omega : 0 ≤ 256) _ _ (by omega : 15 ≤ 32), rowsV_at _ _ _ _ (by omega : 0 ≤ 256) _ _ (by omega : 16 ≤ 32), rowsV_at _ _ _ _ (by omega : 0 ≤ 256) _ _ (by omega : 17 ≤ 32),
    tapV_at _ _ _ _ (by omega : 0 < 3) (by omega : 0 ≤ 256), tapV_at _ _ _ _ (by omega : 1 < 3) (by omega : 0 ≤ 256), tapV_at _ _ _ _ (by omega : 2 < 3) (by omega : 0 ≤ 256),
    biasV_at _ _ _ (by omega : 0 ≤ 256), downV_at _ _ _ (by omega : 0 ≤ 256)]
  rfl

/-- THE STEP at an index. -/
theorem step_at (acc : Vec Ideal S512x2048 .f32) (hx : Vec Ideal S544x2048 .bf16) (x3 x4 : Vec Ideal S1x2048x512 .bf16) (x5 x6 : Vec Ideal S1x3x512 .f32)
    (x7 x8 : Vec Ideal S1x1x512 .f32) (x9 : Vec Ideal S1x512x2048 .bf16) (r : Fin 512) (d : Fin 2048) : step acc hx x3 x4 x5 x6 x7 x8 x9 (ix2 r d)
      = (acc (ix2 r d) + ((∑ c : Fin 256, silu (convb hx x3 x5 x7 r ⟨0 + c.val, by omega⟩) * convb hx x4 x6 x8 r ⟨0 + c.val, by omega⟩ * x9 (ix3 0 ⟨0 + c.val, by omega⟩ d))
        + ∑ c : Fin 256, silu (convb hx x3 x5 x7 r ⟨256 + c.val, by omega⟩) * convb hx x4 x6 x8 r ⟨256 + c.val, by omega⟩ * x9 (ix3 0 ⟨256 + c.val, by omega⟩ d)) : EReal) := by
  have e1 : ∀ (H : FVec Ideal S512x2048 .f32) (G : FVec Ideal S512x512 .f32) (V0 V1 V2 : Vec Ideal S512x256 .f32) (T0 T1 T2 B : Vec Ideal S1x1x256 .f32) (W : Vec Ideal S1x256x2048 .bf16),
      k0_pay1 H (k0_pay16 G) (k0_pay17 V0 T0 V1 T1 V2 T2) B W acc (ix2 r d) = (acc (ix2 r d) + (H (ix2 r d) + ∑ c : Fin 256, G (ix2 r ⟨256 + c.val, by omega⟩)
        * (V0 (ix2 r c) * T0 (ix3 0 0 c) + V1 (ix2 r c) * T1 (ix3 0 0 c) + V2 (ix2 r c) * T2 (ix3 0 0 c) + B (ix3 0 0 c)) * W (ix3 0 c d)) : EReal) := by
    intro H G V0 V1 V2 T0 T1 T2 B W
    pointwise [k0_pay1, k0_pay16, k0_pay17]
  have e2 : ∀ (G0 G1 G2 : Vec Ideal S512x512 .f32) (T : FVec Ideal S512x512 .f32) (T1 T2 : Vec Ideal S1x1x512 .f32) (c : Fin 256),
      k0_pay13 G0 T G1 T1 G2 T2 x7 (ix2 r c) = k0_pay12 G0 T G1 T1 G2 T2 x7 (ix2 r ⟨0 + c.val, by omega⟩) := by
    intro G0 G1 G2 T T1 T2 c
    pointwise [k0_pay13]
  rw [step, conv1, e1, half0_at]
  simp only [e2, gate_at,
    rowsV_at _ _ _ _ (by omega : 256 ≤ 256) _ _ (by omega : 15 ≤ 32), rowsV_at _ _ _ _ (by omega : 256 ≤ 256) _ _ (by omega : 16 ≤ 32), rowsV_at _ _ _ _ (by omega : 256 ≤ 256) _ _ (by omega : 17 ≤ 32),
    tapV_at _ _ _ _ (by omega : 0 < 3) (by omega : 256 ≤ 256), tapV_at _ _ _ _ (by omega : 1 < 3) (by omega : 256 ≤ 256), tapV_at _ _ _ _ (by omega : 2 < 3) (by omega : 256 ≤ 256),
    biasV_at _ _ _ (by omega : 256 ≤ 256), downV_at _ _ _ (by omega : 256 ≤ 256)]
  have e3 : ∀ c : Fin 512, k0_pay12 (rowsG (k0_pay8 hx x3) 15 (by decide)) (k0_pay11 (tapG x5 0 (by decide))) (rowsG (k0_pay8 hx x3) 16 (by decide)) (tapG x5 1 (by decide))
    (rowsG (k0_pay8 hx x3) 17 (by decide)) (tapG x5 2 (by decide)) x7 (ix2 r c) = silu (convb hx x3 x5 x7 r c) := gate_at hx x3 x5 x7 r
  simp only [e3]
  rfl

/-- The last step's output: residual and norm of the accumulator. -/
theorem last_at (x10 : Vec Ideal S1x512x2048 .f32) (x11 : Vec Ideal S1x1x1x1x2048 .f32) (acc : Vec Ideal S512x2048 .f32) (x12 : Vec Ideal S1x2048 .f32)
    (r : Fin 512) (d : Fin 2048) (y : Fin 2048 → EReal) (hy : ∀ d, x10 (ix3 0 r d) + x11 (ix5 0 0 0 0 d) * acc (ix2 r d) = y d) :
    k0_pay2 x10 x11 acc x12 (ix3 0 r d) = (y d * Ideal.rsqrt (Ideal.div (∑ k : Fin 2048, y k * y k) (Ideal.ofBits .f32 0x45000000#32)
      + Ideal.ofBits .f32 0x358637BD#32) * x12 (ix2 0 d) : EReal) := by
  simp only [← hy]
  pointwise [k0_pay2]

end Cert.Ffn

end
-- ==== Proof.FfnRead.lean ====
/- Reading back, within a step, what the step stored in its scratch. -/
module

public import proofs.«01_k».proof.Proof.FfnStep
public import proofs.«01_k».proof.Proof.Gen.Kernel2Ideal.Frame

@[expose] public section

set_option maxRecDepth 65536

noncomputable section

open Idealize.ShloMosaic Idealize.ShloMosaic.TcCoe Idealize.SL.Sem

namespace Cert.Ffn

open Cert.Kernel2Ideal Cert.Kernel2Ideal.Gen

/-- Rows of the gate columns, read back after the store that fills their scratch. -/
theorem readG {κ : Kind} {sp : Space} (w : View sig κ sp S544x512 .f32) (S : FVec Ideal S544x512 .f32) (o : ℕ) (h') (h)
    (ho : ∀ a, (![o, 0] : Fin 2 → ℕ) a + S512x512.size a ≤ S544x512.size a) :
    w.readCov [(⟨Rect.unit (s := S544x512) ![0, 0] S544x512.size h', S⟩ : View.Piece (Elt Ideal) S544x512 .f32)] (Rect.unit (s := S544x512) ![o, 0] S512x512.size h).toLoadRect
      = rowsG S o ho := by
  rw [View.readCov_eq_canon', View.canon_cons_unit_lit' _ _ _ (by decide)]
  rfl

/-- Rows of one half of the value columns, read back after the store that fills the half. -/
theorem readV {κ : Kind} {sp : Space} (w : View sig κ sp S544x512 .f32) (S : FVec Ideal S544x256 .f32) (o q : ℕ) (h') (h)
    (L : List (View.Piece (Elt Ideal) S544x512 .f32)) (ho : ∀ a, (![o, 0] : Fin 2 → ℕ) a + S512x256.size a ≤ S544x256.size a) :
    w.readCov ((⟨Rect.unit (s := S544x512) ![0, q] S544x256.size h', S⟩ : View.Piece (Elt Ideal) S544x512 .f32) :: L) (Rect.unit (s := S544x512) ![o, q] S512x256.size h).toLoadRect
      = rowsV S o ho := by
  rw [View.readCov_eq_canon']
  funext y
  refine Eq.trans (congrArg _ ?_) (View.canon_cons_emb (Rect.unit (s := S544x512) ![0, q] S544x256.size h') S L ((Rect.unit (s := S544x256) ![o, 0] S512x256.size ho).idx y))
  funext a
  apply Fin.ext
  fin_cases a
  · show o + 1 * (y 0).val = 0 + 1 * (o + 1 * (y 0).val)
    omega
  · show q + 1 * (y 1).val = q + 1 * (0 + 1 * (y 1).val)
    omega

/-- A half of the value columns is not touched by the store of the other half. -/
theorem readSkip {κ : Kind} {sp : Space} (w : View sig κ sp S544x512 .f32) (S : FVec Ideal S544x256 .f32) (o : ℕ) (h') (h)
    (L : List (View.Piece (Elt Ideal) S544x512 .f32)) :
    w.readCov ((⟨Rect.unit (s := S544x512) ![0, 256] S544x256.size h', S⟩ : View.Piece (Elt Ideal) S544x512 .f32) :: L) (Rect.unit (s := S544x512) ![o, 0] S512x256.size h).toLoadRect
      = w.readCov L (Rect.unit (s := S544x512) ![o, 0] S512x256.size h).toLoadRect := by
  rw [View.readCov_eq_canon', View.readCov_eq_canon']
  funext y
  exact View.canon_cons_of_not_mem _ L (LoadRect.idx_not_mem_of_disj (decide_eq_true ⟨1, Or.inr (Or.inr (Or.inr (by show 0 + 1 * (256 - 1) < 256; omega)))⟩) y)

/-- A load of a bfloat16 rectangle out of what a run stored is that rectangle of the stored contents. -/
theorem readCov_ld2 {κ : Kind} {sp : Space} {s : Shape} (w : View sig κ sp s .bf16) (r : Rect s)
    (L : List (View.Piece (Elt Ideal) s .bf16)) : w.readCov L r.toLoadRect = View.ld (View.canon L) r := by
  rw [View.readCov_eq_canon']

end Cert.Ffn
-- ==== Proof.FfnA.lean ====
/- The first step of a run. -/
module

public import proofs.«01_k».proof.Proof.FfnStep
public import proofs.«01_k».proof.Proof.FfnRead

@[expose] public section

set_option maxRecDepth 65536

noncomputable section

open Idealize.ShloMosaic Idealize.ShloMosaic.TcCoe Idealize.SL.Sem

namespace Cert.Ffn

open Cert.Kernel2Ideal Cert.Kernel2Ideal.Gen

/-- The rows a run keeps: 512 of its own, the 16 before and the 16 after them, or zeros beyond the ends. -/
def rowsOf (s : ℕ) (x0 : Vec Ideal S1x512x2048 .bf16) (x1 x2 : Vec Ideal S1x16x2048 .bf16) : Vec Ideal S544x2048 .bf16 := fun y =>
  if h : (y 0).val < 16 then (if 0 < s then x1 (ix3 0 ⟨(y 0).val, h⟩ ⟨(y 1).val, (y 1).isLt⟩) else (0 : EReal))
  else if h' : (y 0).val < 528 then x0 (ix3 0 ⟨(y 0).val - 16, by omega⟩ ⟨(y 1).val, (y 1).isLt⟩)
  else (if s < 7 then x2 (ix3 0 ⟨(y 0).val - 528, by have : (y 0).val < 544 := (y 0).isLt; omega⟩ ⟨(y 1).val, (y 1).isLt⟩) else (0 : EReal))

/-- The kernel's test for rows before a run. -/
theorem sgt_eq : ∀ s < 8, Scalar.cmpi .sgt (BitVec.ofNat 32 s) 0#32 = if 0 < s then 1#1 else 0#1 := by decide

/-- The kernel's test for rows after a run. -/
theorem slt_eq : ∀ s < 8, Scalar.cmpi .slt (BitVec.ofNat 32 s) 7#32 = if s < 7 then 1#1 else 0#1 := by decide

/-- The 16 rows before, or zeros. -/
theorem pay5_at (i : grid0.Coords) (v : Vec Ideal S1x16x2048 .bf16) (r : Fin 16) (k : Fin 2048) :
    k0_pay5 i v (ix2 r k) = if 0 < (i 1).val then v (ix3 0 r k) else (0 : EReal) := by
  have hs : (i 1).val < 8 := (i 1).isLt
  unfold k0_pay5
  simp only [sgt_eq _ hs]
  split_ifs <;> pointwise [k0_pay4]

/-- The 16 rows after, or zeros. -/
theorem pay7_at (i : grid0.Coords) (v : Vec Ideal S1x16x2048 .bf16) (r : Fin 16) (k : Fin 2048) :
    k0_pay7 i v (ix2 r k) = if (i 1).val < 7 then v (ix3 0 r k) else (0 : EReal) := by
  have hs : (i 1).val < 8 := (i 1).isLt
  unfold k0_pay7
  simp only [slt_eq _ hs]
  split_ifs <;> pointwise [k0_pay4]

/-- The run's own rows. -/
theorem pay6_at (v : Vec Ideal S1x512x2048 .bf16) (r : Fin 512) (k : Fin 2048) : k0_pay6 v (ix2 r k) = v (ix3 0 r k) := by
  pointwise [k0_pay6]

/-- The first step of a run stores its rows. -/
theorem rows_A (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x3x512 .f32) (harg8 : arg8.IsWhole) (arg9 : Memref sig .tc .vmem S1x3x512 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x1x1x2048 .f32) (harg14 : arg14.IsWhole) (arg15 : Memref sig .tc .vmem S1x2048 .f32) (harg15 : arg15.IsWhole) (arg16 : Memref sig .tc .vmem S1x512x2048 .f32) (harg16 : arg16.IsWhole) (arg17 : Memref sig .tc .vmem S512x2048 .f32) (harg17 : arg17.IsWhole) (arg18 : Memref sig .tc .vmem S544x2048 .bf16) (harg18 : arg18.IsWhole) (arg19 : Memref sig .tc .vmem S544x512 .f32) (harg19 : arg19.IsWhole) (arg20 : Memref sig .tc .vmem S544x512 .f32) (harg20 : arg20.IsWhole) (hc0 : cond0_0 i) (hc1 : ¬cond0_1 i)
    (x0 : Vec Ideal S1x512x2048 .bf16) (x1 : Vec Ideal S1x16x2048 .bf16) (x2 : Vec Ideal S1x16x2048 .bf16) (x3 : Vec Ideal S1x2048x512 .bf16) (x4 : Vec Ideal S1x2048x512 .bf16) (x5 : Vec Ideal S1x3x512 .f32) (x6 : Vec Ideal S1x3x512 .f32) (x7 : Vec Ideal S1x1x512 .f32) (x8 : Vec Ideal S1x1x512 .f32) (x9 : Vec Ideal S1x512x2048 .bf16) (x10 : Vec Ideal S1x512x2048 .f32) (x11 : Vec Ideal S1x1x1x1x2048 .f32) (x12 : Vec Ideal S1x2048 .f32) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 = rowsOf (i 1).val x0 x1 x2 := by
  frame_open
  simp -proj (disch := decide) only [View.read_writes_junk_eq_canon, View.readAt_eq_ld, Memref.IsWhole.read_unread, View.ld_unit_lit']
  funext y
  canon_tiles x h using (View.cover_of_tiledBy _ ![16, 2048] (by sl_kernel_rfl) y)
  · refine ((congrArg _ (eq_ix2 x)).trans (pay7_at i x2 (x 0) (x 1))).trans ?_
    unfold rowsOf
    rw [dif_neg (by omega), dif_neg (by omega)]
    exact if_congr Iff.rfl (congrArg₂ (fun a b => x2 (ix3 0 a b)) (Fin.ext (by dsimp only; omega)) (Fin.ext h1.symm)) rfl
  · refine ((congrArg _ (eq_ix2 x)).trans (pay6_at x0 (x 0) (x 1))).trans ?_
    unfold rowsOf
    rw [dif_neg (by omega), dif_pos (by omega)]
    exact congrArg₂ (fun a b => x0 (ix3 0 a b)) (Fin.ext (by dsimp only; omega)) (Fin.ext h1.symm)
  · refine ((congrArg _ (eq_ix2 x)).trans (pay5_at i x1 (x 0) (x 1))).trans ?_
    unfold rowsOf
    rw [dif_pos (by omega)]
    exact if_congr Iff.rfl (congrArg₂ (fun a b => x1 (ix3 0 a b)) (Fin.ext (by dsimp only; omega)) (Fin.ext h1.symm)) rfl

/-- The first step of a run adds a tile to zeros, from the rows it has just stored. -/
theorem acc_A (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x3x512 .f32) (harg8 : arg8.IsWhole) (arg9 : Memref sig .tc .vmem S1x3x512 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x1x1x2048 .f32) (harg14 : arg14.IsWhole) (arg15 : Memref sig .tc .vmem S1x2048 .f32) (harg15 : arg15.IsWhole) (arg16 : Memref sig .tc .vmem S1x512x2048 .f32) (harg16 : arg16.IsWhole) (arg17 : Memref sig .tc .vmem S512x2048 .f32) (harg17 : arg17.IsWhole) (arg18 : Memref sig .tc .vmem S544x2048 .bf16) (harg18 : arg18.IsWhole) (arg19 : Memref sig .tc .vmem S544x512 .f32) (harg19 : arg19.IsWhole) (arg20 : Memref sig .tc .vmem S544x512 .f32) (harg20 : arg20.IsWhole) (hc0 : cond0_0 i) (hc1 : ¬cond0_1 i)
    (x0 : Vec Ideal S1x512x2048 .bf16) (x1 : Vec Ideal S1x16x2048 .bf16) (x2 : Vec Ideal S1x16x2048 .bf16) (x3 : Vec Ideal S1x2048x512 .bf16) (x4 : Vec Ideal S1x2048x512 .bf16) (x5 : Vec Ideal S1x3x512 .f32) (x6 : Vec Ideal S1x3x512 .f32) (x7 : Vec Ideal S1x1x512 .f32) (x8 : Vec Ideal S1x1x512 .f32) (x9 : Vec Ideal S1x512x2048 .bf16) (x10 : Vec Ideal S1x512x2048 .f32) (x11 : Vec Ideal S1x1x1x1x2048 .f32) (x12 : Vec Ideal S1x2048 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 = step (k0_pay3 (F := Ideal)) (sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12) x3 x4 x5 x6 x7 x8 x9 := by
  frame_open
  simp -proj (disch := decide) only [View.read_writes_junk_eq_canon, View.readAt_eq_ld, Memref.IsWhole.read_unread, ↓View.readCov_cons_toLoadRect, View.readCov_cons_unit_lit', readCov_ld2]
  simp -proj (disch := decide) only [readSkip, readG _ _ _ _ _ (by decide : ∀ a, (![15, 0] : Fin 2 → ℕ) a + S512x512.size a ≤ S544x512.size a),
    readG _ _ _ _ _ (by decide : ∀ a, (![16, 0] : Fin 2 → ℕ) a + S512x512.size a ≤ S544x512.size a), readG _ _ _ _ _ (by decide : ∀ a, (![17, 0] : Fin 2 → ℕ) a + S512x512.size a ≤ S544x512.size a),
    readV _ _ _ _ _ _ _ (by decide : ∀ a, (![15, 0] : Fin 2 → ℕ) a + S512x256.size a ≤ S544x256.size a), readV _ _ _ _ _ _ _ (by decide : ∀ a, (![16, 0] : Fin 2 → ℕ) a + S512x256.size a ≤ S544x256.size a),
    readV _ _ _ _ _ _ _ (by decide : ∀ a, (![17, 0] : Fin 2 → ℕ) a + S512x256.size a ≤ S544x256.size a),
    View.canon_cons_unit_lit', View.ld_unit_lit']
  rfl

end Cert.Ffn
-- ==== Proof.FfnB.lean ====
/- A step in the middle of a run. -/
module

public import proofs.«01_k».proof.Proof.FfnStep
public import proofs.«01_k».proof.Proof.FfnRead

@[expose] public section

set_option maxRecDepth 65536

noncomputable section

open Idealize.ShloMosaic Idealize.ShloMosaic.TcCoe Idealize.SL.Sem

namespace Cert.Ffn

open Cert.Kernel2Ideal Cert.Kernel2Ideal.Gen

/-- A step in the middle of a run adds a tile to the accumulator it finds. -/
theorem acc_B (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x3x512 .f32) (harg8 : arg8.IsWhole) (arg9 : Memref sig .tc .vmem S1x3x512 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x1x1x2048 .f32) (harg14 : arg14.IsWhole) (arg15 : Memref sig .tc .vmem S1x2048 .f32) (harg15 : arg15.IsWhole) (arg16 : Memref sig .tc .vmem S1x512x2048 .f32) (harg16 : arg16.IsWhole) (arg17 : Memref sig .tc .vmem S512x2048 .f32) (harg17 : arg17.IsWhole) (arg18 : Memref sig .tc .vmem S544x2048 .bf16) (harg18 : arg18.IsWhole) (arg19 : Memref sig .tc .vmem S544x512 .f32) (harg19 : arg19.IsWhole) (arg20 : Memref sig .tc .vmem S544x512 .f32) (harg20 : arg20.IsWhole) (hc0 : ¬cond0_0 i) (hc1 : ¬cond0_1 i)
    (x0 : Vec Ideal S1x512x2048 .bf16) (x1 : Vec Ideal S1x16x2048 .bf16) (x2 : Vec Ideal S1x16x2048 .bf16) (x3 : Vec Ideal S1x2048x512 .bf16) (x4 : Vec Ideal S1x2048x512 .bf16) (x5 : Vec Ideal S1x3x512 .f32) (x6 : Vec Ideal S1x3x512 .f32) (x7 : Vec Ideal S1x1x512 .f32) (x8 : Vec Ideal S1x1x512 .f32) (x9 : Vec Ideal S1x512x2048 .bf16) (x10 : Vec Ideal S1x512x2048 .f32) (x11 : Vec Ideal S1x1x1x1x2048 .f32) (x12 : Vec Ideal S1x2048 .f32) (xs0 : Vec Ideal S512x2048 .f32) (xs1 : Vec Ideal S544x2048 .bf16) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 xs0 xs1 = step xs0 xs1 x3 x4 x5 x6 x7 x8 x9 := by
  frame_open
  simp -proj (disch := decide) only [View.read_writes_junk_eq_canon, View.readAt_eq_ld, Memref.IsWhole.read_unread]
  simp -proj (disch := decide) only [readSkip, readG _ _ _ _ _ (by decide : ∀ a, (![15, 0] : Fin 2 → ℕ) a + S512x512.size a ≤ S544x512.size a),
    readG _ _ _ _ _ (by decide : ∀ a, (![16, 0] : Fin 2 → ℕ) a + S512x512.size a ≤ S544x512.size a), readG _ _ _ _ _ (by decide : ∀ a, (![17, 0] : Fin 2 → ℕ) a + S512x512.size a ≤ S544x512.size a),
    readV _ _ _ _ _ _ _ (by decide : ∀ a, (![15, 0] : Fin 2 → ℕ) a + S512x256.size a ≤ S544x256.size a), readV _ _ _ _ _ _ _ (by decide : ∀ a, (![16, 0] : Fin 2 → ℕ) a + S512x256.size a ≤ S544x256.size a),
    readV _ _ _ _ _ _ _ (by decide : ∀ a, (![17, 0] : Fin 2 → ℕ) a + S512x256.size a ≤ S544x256.size a),
    View.canon_cons_unit_lit', View.ld_unit_lit']
  rfl

end Cert.Ffn
-- ==== Proof.FfnC.lean ====
/- The last step of a run. -/
module

public import proofs.«01_k».proof.Proof.FfnStep
public import proofs.«01_k».proof.Proof.FfnRead

@[expose] public section

set_option maxRecDepth 65536

noncomputable section

open Idealize.ShloMosaic Idealize.ShloMosaic.TcCoe Idealize.SL.Sem

namespace Cert.Ffn

open Cert.Kernel2Ideal Cert.Kernel2Ideal.Gen

/-- The last step of a run adds a tile to the accumulator it finds, … -/
theorem acc_C (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x3x512 .f32) (harg8 : arg8.IsWhole) (arg9 : Memref sig .tc .vmem S1x3x512 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x1x1x2048 .f32) (harg14 : arg14.IsWhole) (arg15 : Memref sig .tc .vmem S1x2048 .f32) (harg15 : arg15.IsWhole) (arg16 : Memref sig .tc .vmem S1x512x2048 .f32) (harg16 : arg16.IsWhole) (arg17 : Memref sig .tc .vmem S512x2048 .f32) (harg17 : arg17.IsWhole) (arg18 : Memref sig .tc .vmem S544x2048 .bf16) (harg18 : arg18.IsWhole) (arg19 : Memref sig .tc .vmem S544x512 .f32) (harg19 : arg19.IsWhole) (arg20 : Memref sig .tc .vmem S544x512 .f32) (harg20 : arg20.IsWhole) (hc0 : ¬cond0_0 i) (hc1 : cond0_1 i)
    (x0 : Vec Ideal S1x512x2048 .bf16) (x1 : Vec Ideal S1x16x2048 .bf16) (x2 : Vec Ideal S1x16x2048 .bf16) (x3 : Vec Ideal S1x2048x512 .bf16) (x4 : Vec Ideal S1x2048x512 .bf16) (x5 : Vec Ideal S1x3x512 .f32) (x6 : Vec Ideal S1x3x512 .f32) (x7 : Vec Ideal S1x1x512 .f32) (x8 : Vec Ideal S1x1x512 .f32) (x9 : Vec Ideal S1x512x2048 .bf16) (x10 : Vec Ideal S1x512x2048 .f32) (x11 : Vec Ideal S1x1x1x1x2048 .f32) (x12 : Vec Ideal S1x2048 .f32) (xs0 : Vec Ideal S512x2048 .f32) (xs1 : Vec Ideal S544x2048 .bf16) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 xs0 xs1 = step xs0 xs1 x3 x4 x5 x6 x7 x8 x9 := by
  frame_open
  simp -proj (disch := decide) only [View.read_writes_junk_eq_canon, View.readAt_eq_ld, Memref.IsWhole.read_unread]
  simp -proj (disch := decide) only [readSkip, readG _ _ _ _ _ (by decide : ∀ a, (![15, 0] : Fin 2 → ℕ) a + S512x512.size a ≤ S544x512.size a),
    readG _ _ _ _ _ (by decide : ∀ a, (![16, 0] : Fin 2 → ℕ) a + S512x512.size a ≤ S544x512.size a), readG _ _ _ _ _ (by decide : ∀ a, (![17, 0] : Fin 2 → ℕ) a + S512x512.size a ≤ S544x512.size a),
    readV _ _ _ _ _ _ _ (by decide : ∀ a, (![15, 0] : Fin 2 → ℕ) a + S512x256.size a ≤ S544x256.size a), readV _ _ _ _ _ _ _ (by decide : ∀ a, (![16, 0] : Fin 2 → ℕ) a + S512x256.size a ≤ S544x256.size a),
    readV _ _ _ _ _ _ _ (by decide : ∀ a, (![17, 0] : Fin 2 → ℕ) a + S512x256.size a ≤ S544x256.size a),
    View.canon_cons_unit_lit', View.ld_unit_lit']
  rfl

/-- … and stores the residual and norm of the sum. -/
theorem out_C (c : Dev nD) (i : grid0.Coords) (arg3 : Memref sig .tc .vmem S1x512x2048 .bf16) (harg3 : arg3.IsWhole) (arg4 : Memref sig .tc .vmem S1x16x2048 .bf16) (harg4 : arg4.IsWhole) (arg5 : Memref sig .tc .vmem S1x16x2048 .bf16) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x3x512 .f32) (harg8 : arg8.IsWhole) (arg9 : Memref sig .tc .vmem S1x3x512 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x1x1x2048 .f32) (harg14 : arg14.IsWhole) (arg15 : Memref sig .tc .vmem S1x2048 .f32) (harg15 : arg15.IsWhole) (arg16 : Memref sig .tc .vmem S1x512x2048 .f32) (harg16 : arg16.IsWhole) (arg17 : Memref sig .tc .vmem S512x2048 .f32) (harg17 : arg17.IsWhole) (arg18 : Memref sig .tc .vmem S544x2048 .bf16) (harg18 : arg18.IsWhole) (arg19 : Memref sig .tc .vmem S544x512 .f32) (harg19 : arg19.IsWhole) (arg20 : Memref sig .tc .vmem S544x512 .f32) (harg20 : arg20.IsWhole) (hc0 : ¬cond0_0 i) (hc1 : cond0_1 i)
    (x0 : Vec Ideal S1x512x2048 .bf16) (x1 : Vec Ideal S1x16x2048 .bf16) (x2 : Vec Ideal S1x16x2048 .bf16) (x3 : Vec Ideal S1x2048x512 .bf16) (x4 : Vec Ideal S1x2048x512 .bf16) (x5 : Vec Ideal S1x3x512 .f32) (x6 : Vec Ideal S1x3x512 .f32) (x7 : Vec Ideal S1x1x512 .f32) (x8 : Vec Ideal S1x1x512 .f32) (x9 : Vec Ideal S1x512x2048 .bf16) (x10 : Vec Ideal S1x512x2048 .f32) (x11 : Vec Ideal S1x1x1x1x2048 .f32) (x12 : Vec Ideal S1x2048 .f32) (xs0 : Vec Ideal S512x2048 .f32) (xs1 : Vec Ideal S544x2048 .bf16) :
    out0_C_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 xs0 xs1 = k0_pay2 x10 x11 (step xs0 xs1 x3 x4 x5 x6 x7 x8 x9) x12 := by
  frame_open
  simp -proj (disch := decide) only [View.read_writes_junk_eq_canon, View.readAt_eq_ld, Memref.IsWhole.read_unread, ↓View.readCov_cons_toLoadRect]
  simp -proj (disch := decide) only [readSkip, readG _ _ _ _ _ (by decide : ∀ a, (![15, 0] : Fin 2 → ℕ) a + S512x512.size a ≤ S544x512.size a),
    readG _ _ _ _ _ (by decide : ∀ a, (![16, 0] : Fin 2 → ℕ) a + S512x512.size a ≤ S544x512.size a), readG _ _ _ _ _ (by decide : ∀ a, (![17, 0] : Fin 2 → ℕ) a + S512x512.size a ≤ S544x512.size a),
    readV _ _ _ _ _ _ _ (by decide : ∀ a, (![15, 0] : Fin 2 → ℕ) a + S512x256.size a ≤ S544x256.size a), readV _ _ _ _ _ _ _ (by decide : ∀ a, (![16, 0] : Fin 2 → ℕ) a + S512x256.size a ≤ S544x256.size a),
    readV _ _ _ _ _ _ _ (by decide : ∀ a, (![17, 0] : Fin 2 → ℕ) a + S512x256.size a ≤ S544x256.size a),
    View.canon_cons_unit_lit', View.ld_unit_lit']
  rfl

end Cert.Ffn
-- ==== Proof.FfnArray.lean ====
/- What the gated MLP's kernel leaves in its accumulator, its rows scratch and its output block, point by point.

   Grid point `t` works on batch `t / 88`, run `t / 11 % 8` of 512 rows and tile `t % 11` of 512 columns. -/
module

public import proofs.«01_k».proof.Proof.FfnA
public import proofs.«01_k».proof.Proof.FfnB
public import proofs.«01_k».proof.Proof.FfnC

@[expose] public section

set_option maxRecDepth 65536

noncomputable section

open Idealize.ShloMosaic Idealize.ShloMosaic.TcCoe Idealize.SL.Sem

namespace Cert.Ffn

open Cert.Kernel2Ideal Cert.Kernel2Ideal.Gen

/-- The blocks of the windows over rows, by grid point. -/
theorem idxR : ∀ t : Fin cfg0.N, win0_0.index t = ![t.val / 88, t.val / 11 % 8, 0] ∧ win0_1.index t = ![t.val / 88, t.val / 11 % 8 * 32 - 1, 0]
    ∧ win0_2.index t = ![t.val / 88, min (t.val / 11 % 8 * 32 + 32) 255, 0] ∧ win0_10.index t = ![t.val / 88, t.val / 11 % 8, 0]
    ∧ win0_11.index t = ![1, t.val / 88, 5, 0, 0] ∧ win0_12.index t = ![0, 0] ∧ win0_13.index t = ![t.val / 88, t.val / 11 % 8, 0]
    ∧ (grid0.coords t 1).val = t.val / 11 % 8 :=
  (by decide +kernel : ∀ t : Fin grid0.N, _)

/-- The blocks of the windows over columns, by grid point. -/
theorem idxC : ∀ t : Fin cfg0.N, win0_3.index t = ![1, 0, t.val % 11] ∧ win0_4.index t = ![1, 0, 11 + t.val % 11]
    ∧ win0_5.index t = ![1, 0, t.val % 11] ∧ win0_6.index t = ![1, 0, 11 + t.val % 11]
    ∧ win0_7.index t = ![1, 0, t.val % 11] ∧ win0_8.index t = ![1, 0, 11 + t.val % 11] ∧ win0_9.index t = ![1, t.val % 11, 0] :=
  (by decide +kernel : ∀ t : Fin grid0.N, _)

variable (m : (ℓ : Loc nD τ sig) → Buf (Elt Ideal) ℓ)

/-- There are 352 points. -/
theorem lt352 (t : Fin cfg0.N) : t.val < 352 := Nat.lt_of_lt_of_eq t.isLt N_0

/-- The batch of a point. -/
def bt (t : Fin cfg0.N) : Fin 4 := ⟨t.val / 88, by have := lt352 t; omega⟩

/-- The kernel's eight inputs. -/
def insK (c : Dev nD) : Ins where
  h b i k := m ((c : Thread nD τ).loc main_arg0) (ix3 b i k)
  wu k j := m ((c : Thread nD τ).loc main_arg1) (ix3 1 k j)
  cw t j := m ((c : Thread nD τ).loc main_arg2) (ix3 1 t j)
  cb j := m ((c : Thread nD τ).loc main_arg3) (ix3 1 0 j)
  wd j d := m ((c : Thread nD τ).loc main_arg4) (ix3 1 j d)
  x b i d := m ((c : Thread nD τ).loc main_arg5) (ix3 b i d)
  gt b d := m ((c : Thread nD τ).loc main_arg6) (ix5 1 ⟨b.val, by omega⟩ 5 0 d)
  gf d := m ((c : Thread nD τ).loc main_arg7) (ix2 0 d)

/-- A run's own rows. -/
theorem iblk0_at (c : Dev nD) (t : Fin cfg0.N) (r : Fin 512) (k : Fin 2048) : (iblk m c 0 t : Vec Ideal S1x512x2048 .bf16) (ix3 0 r k)
    = (insK m c).h (bt t) ⟨t.val / 11 % 8 * 512 + r.val, by omega⟩ k := by
  dsimp only [insK, bt]
  blk_point [iblk, V, idxR t]

/-- The 16 rows before a run. -/
theorem iblk1_at (c : Dev nD) (t : Fin cfg0.N) (r : Fin 16) (k : Fin 2048) : (iblk m c 1 t : Vec Ideal S1x16x2048 .bf16) (ix3 0 r k)
    = (insK m c).h (bt t) ⟨(t.val / 11 % 8 * 32 - 1) * 16 + r.val, by omega⟩ k := by
  dsimp only [insK, bt]
  blk_point [iblk, V, idxR t]

/-- The 16 rows after a run. -/
theorem iblk2_at (c : Dev nD) (t : Fin cfg0.N) (r : Fin 16) (k : Fin 2048) : (iblk m c 2 t : Vec Ideal S1x16x2048 .bf16) (ix3 0 r k)
    = (insK m c).h (bt t) ⟨min (t.val / 11 % 8 * 32 + 32) 255 * 16 + r.val, by omega⟩ k := by
  dsimp only [insK, bt]
  blk_point [iblk, V, idxR t]

/-- The gate columns of the way up. -/
theorem iblk3_at (c : Dev nD) (t : Fin cfg0.N) (k : Fin 2048) (j : Fin 512) : (iblk m c 3 t : Vec Ideal S1x2048x512 .bf16) (ix3 0 k j)
    = (insK m c).wu k ⟨t.val % 11 * 512 + j.val, by omega⟩ := by
  dsimp only [insK]
  blk_point [iblk, V, idxC t]

/-- The value columns of the way up. -/
theorem iblk4_at (c : Dev nD) (t : Fin cfg0.N) (k : Fin 2048) (j : Fin 512) : (iblk m c 4 t : Vec Ideal S1x2048x512 .bf16) (ix3 0 k j)
    = (insK m c).wu k ⟨(11 + t.val % 11) * 512 + j.val, by omega⟩ := by
  dsimp only [insK]
  blk_point [iblk, V, idxC t]

/-- The gate columns' taps. -/
theorem iblk5_at (c : Dev nD) (t : Fin cfg0.N) (k : Fin 3) (j : Fin 512) : (iblk m c 5 t : Vec Ideal S1x3x512 .f32) (ix3 0 k j)
    = (insK m c).cw k ⟨t.val % 11 * 512 + j.val, by omega⟩ := by
  dsimp only [insK]
  blk_point [iblk, V, idxC t]

/-- The value columns' taps. -/
theorem iblk6_at (c : Dev nD) (t : Fin cfg0.N) (k : Fin 3) (j : Fin 512) : (iblk m c 6 t : Vec Ideal S1x3x512 .f32) (ix3 0 k j)
    = (insK m c).cw k ⟨(11 + t.val % 11) * 512 + j.val, by omega⟩ := by
  dsimp only [insK]
  blk_point [iblk, V, idxC t]

/-- The gate columns' bias. -/
theorem iblk7_at (c : Dev nD) (t : Fin cfg0.N) (j : Fin 512) : (iblk m c 7 t : Vec Ideal S1x1x512 .f32) (ix3 0 0 j)
    = (insK m c).cb ⟨t.val % 11 * 512 + j.val, by omega⟩ := by
  dsimp only [insK]
  blk_point [iblk, V, idxC t]

/-- The value columns' bias. -/
theorem iblk8_at (c : Dev nD) (t : Fin cfg0.N) (j : Fin 512) : (iblk m c 8 t : Vec Ideal S1x1x512 .f32) (ix3 0 0 j)
    = (insK m c).cb ⟨(11 + t.val % 11) * 512 + j.val, by omega⟩ := by
  dsimp only [insK]
  blk_point [iblk, V, idxC t]

/-- The rows of the way down. -/
theorem iblk9_at (c : Dev nD) (t : Fin cfg0.N) (j : Fin 512) (d : Fin 2048) : (iblk m c 9 t : Vec Ideal S1x512x2048 .bf16) (ix3 0 j d)
    = (insK m c).wd ⟨t.val % 11 * 512 + j.val, by omega⟩ d := by
  dsimp only [insK]
  blk_point [iblk, V, idxC t]

/-- The residual's rows. -/
theorem iblk10_at (c : Dev nD) (t : Fin cfg0.N) (r : Fin 512) (d : Fin 2048) : (iblk m c 10 t : Vec Ideal S1x512x2048 .f32) (ix3 0 r d)
    = (insK m c).x (bt t) ⟨t.val / 11 % 8 * 512 + r.val, by omega⟩ d := by
  dsimp only [insK, bt]
  blk_point [iblk, V, idxR t]

/-- The residual's gate. -/
theorem iblk11_at (c : Dev nD) (t : Fin cfg0.N) (d : Fin 2048) : (iblk m c 11 t : Vec Ideal S1x1x1x1x2048 .f32) (ix5 0 0 0 0 d)
    = (insK m c).gt (bt t) d := by
  dsimp only [insK, bt]
  blk_point [iblk, V, idxR t]

/-- The final norm's weights. -/
theorem iblk12_at (c : Dev nD) (t : Fin cfg0.N) (d : Fin 2048) : (iblk m c 12 t : Vec Ideal S1x2048 .f32) (ix2 0 d)
    = (insK m c).gf d := by
  dsimp only [insK]
  blk_point [iblk, V, idxR t]

/-- A rows scratch that holds the rows around run `s` of batch `b`, one more on either side. -/
def Rows (I : Ins) (b : Fin 4) (s : ℕ) (hx : Vec Ideal S544x2048 .bf16) : Prop :=
  ∀ (n : ℕ) (h : n < 514) (k : Fin 2048), hx (ix2 ⟨15 + n, by omega⟩ k) = I.hp b (s * 512 + n) k

/-- The rows of `h`, at rows named otherwise. -/
theorem hp_of (I : Ins) (b : Fin 4) (n : ℕ) (i : Fin 4096) (k : Fin 2048) (h : n = i.val + 1) : I.h b i k = I.hp b n k := by
  have := i.isLt
  rw [Ins.hp, dif_pos (by omega)]
  exact congrArg (fun a => I.h b a k) (Fin.ext (by dsimp only; omega))

/-- The first point of a run stores its rows. -/
theorem rows_first (c : Dev nD) (t : Fin cfg0.N) :
    Rows (insK m c) (bt t) (t.val / 11 % 8) (rowsOf (grid0.coords t 1).val (iblk m c 0 t) (iblk m c 1 t) (iblk m c 2 t)) := by
  intro n h k
  have e := (idxR t).2.2.2.2.2.2.2
  rw [e]
  unfold rowsOf
  by_cases h0 : 15 + n < 16
  · refine (dif_pos h0).trans ?_
    by_cases hs : 0 < t.val / 11 % 8
    · refine (if_pos hs).trans ((iblk1_at m c t _ _).trans (hp_of _ _ _ _ _ ?_))
      dsimp only [ix2]
      show _ = (t.val / 11 % 8 * 32 - 1) * 16 + (15 + n) + 1
      omega
    · refine (if_neg hs).trans ?_
      rw [Ins.hp, dif_neg (by omega)]
  · refine (dif_neg h0).trans ?_
    by_cases h1 : 15 + n < 528
    · refine (dif_pos h1).trans ((iblk0_at m c t _ _).trans (hp_of _ _ _ _ _ ?_))
      show _ = t.val / 11 % 8 * 512 + (15 + n - 16) + 1
      omega
    · refine (dif_neg h1).trans ?_
      by_cases hs : t.val / 11 % 8 < 7
      · refine (if_pos hs).trans ((iblk2_at m c t _ _).trans (hp_of _ _ _ _ _ ?_))
        show _ = min (t.val / 11 % 8 * 32 + 32) 255 * 16 + (15 + n - 528) + 1
        omega
      · refine (if_neg hs).trans ?_
        rw [Ins.hp, dif_neg (by omega)]

/-- Over a run's rows and columns `o`, `o + 1`, … of the weights, the tile's convolution is the layer's. -/
theorem conv_tile (I : Ins) (b : Fin 4) (s o : ℕ) (ho : o + 512 ≤ 11264) (hx : Vec Ideal S544x2048 .bf16) (hR : Rows I b s hx) (w : Vec Ideal S1x2048x512 .bf16)
    (cw : Vec Ideal S1x3x512 .f32) (cb : Vec Ideal S1x1x512 .f32) (hw : ∀ k (j : Fin 512), w (ix3 0 k j) = I.wu k ⟨o + j.val, by omega⟩)
    (hcw : ∀ k (j : Fin 512), cw (ix3 0 k j) = I.cw k ⟨o + j.val, by omega⟩) (hcb : ∀ j : Fin 512, cb (ix3 0 0 j) = I.cb ⟨o + j.val, by omega⟩)
    (r : Fin 512) (j : Fin 512) : convb hx w cw cb r j = I.conv b (s * 512 + r.val) ⟨o + j.val, by omega⟩ := by
  have e : ∀ (n : ℕ) (h : n < 514), ub hx w ⟨15 + n, by omega⟩ j = I.u b (s * 512 + n) ⟨o + j.val, by omega⟩ := fun n h =>
    Finset.sum_congr rfl fun k _ => congrArg₂ (· * ·) (hR n h k) (hw k j)
  have e0 := e r.val (by omega)
  have e1 := e (1 + r.val) (by omega)
  have e2 := e (2 + r.val) (by omega)
  have a1 : (⟨16 + r.val, by omega⟩ : Fin 544) = ⟨15 + (1 + r.val), by omega⟩ := Fin.ext (by dsimp only; omega)
  have a2 : (⟨17 + r.val, by omega⟩ : Fin 544) = ⟨15 + (2 + r.val), by omega⟩ := Fin.ext (by dsimp only; omega)
  have b1 : s * 512 + (1 + r.val) = s * 512 + r.val + 1 := by omega
  have b2 : s * 512 + (2 + r.val) = s * 512 + r.val + 2 := by omega
  rw [convb, Ins.conv, a1, a2, e0, e1, e2, b1, b2, hcw, hcw, hcw, hcb]

/-- A column's part of the way down, at a column named otherwise. -/
theorem term_of (I : Ins) (b : Fin 4) (i : ℕ) (d : Fin 2048) (n : ℕ) (g v : Fin 11264) (w : Fin 5632) (hg : g.val = n) (hv : v.val = 5632 + n) (hw : w.val = n) :
    silu (I.conv b i g) * I.conv b i v * I.wd w d = I.term b i d n := by
  subst hw
  rw [Ins.term, dif_pos w.isLt, Ins.act]
  exact congrArg (· * I.wd w d) (congrArg₂ (· * ·) (congrArg (fun a => silu (I.conv b i a)) (Fin.ext hg)) (congrArg (I.conv b i) (Fin.ext hv)))

/-- A POINT'S STEP adds its tile. -/
theorem step_tile (c : Dev nD) (t : Fin cfg0.N) (acc : Vec Ideal S512x2048 .f32) (hx : Vec Ideal S544x2048 .bf16) (hR : Rows (insK m c) (bt t) (t.val / 11 % 8) hx)
    (r : Fin 512) (d : Fin 2048) : step acc hx (iblk m c 3 t) (iblk m c 4 t) (iblk m c 5 t) (iblk m c 6 t) (iblk m c 7 t) (iblk m c 8 t) (iblk m c 9 t) (ix2 r d)
      = (acc (ix2 r d) + (insK m c).tile (bt t) (t.val / 11 % 8 * 512 + r.val) d (t.val % 11) : EReal) := by
  have hG := conv_tile (insK m c) (bt t) (t.val / 11 % 8) (t.val % 11 * 512) (by omega) hx hR (iblk m c 3 t) (iblk m c 5 t) (iblk m c 7 t)
    (iblk3_at m c t) (iblk5_at m c t) (iblk7_at m c t) r
  have hV := conv_tile (insK m c) (bt t) (t.val / 11 % 8) ((11 + t.val % 11) * 512) (by omega) hx hR (iblk m c 4 t) (iblk m c 6 t) (iblk m c 8 t)
    (iblk4_at m c t) (iblk6_at m c t) (iblk8_at m c t) r
  refine (step_at _ _ _ _ _ _ _ _ _ r d).trans (congrArg (acc (ix2 r d) + ·) (congrArg₂ (· + ·) ?_ ?_))
  all_goals
    refine Finset.sum_congr rfl fun j _ => ?_
    rw [hG, hV, iblk9_at]
    exact term_of _ _ _ _ _ _ _ _ (by dsimp only; omega) (by dsimp only; omega) (by dsimp only; omega)

end Cert.Ffn
-- ==== Proof.FfnFinal.lean ====
/- The gated MLP's result array: at every index the formula of the inputs.

   By induction over the grid points: after tile `j` of a run the accumulator holds tiles `0` to `j` of the way down. -/
module

public import proofs.«01_k».proof.Proof.FfnArray
public import proofs.«01_k».proof.Proof.Gen.Kernel2Ideal.Value

@[expose] public section

set_option maxRecDepth 65536

noncomputable section

open Idealize.ShloMosaic Idealize.ShloMosaic.TcCoe Idealize.SL.Sem

namespace Cert.Ffn

open Cert.Kernel2Ideal Cert.Kernel2Ideal.Gen

variable (m : (ℓ : Loc nD τ sig) → Buf (Elt Ideal) ℓ)

/-- The accumulator starts from zero. -/
theorem zero_at (r : Fin 512) (d : Fin 2048) : k0_pay3 (F := Ideal) (ix2 r d) = 0 := by
  pointwise [k0_pay3]

/-- What the scratches hold after tile `j` of run `s` of batch `b`: the run's rows, and tiles `0` to `j` of the way down. -/
def After (I : Ins) (b : Fin 4) (s j : ℕ) (acc : Vec Ideal S512x2048 .f32) (hx : Vec Ideal S544x2048 .bf16) : Prop :=
  Rows I b s hx ∧ ∀ (r : Fin 512) (d : Fin 2048), acc (ix2 r d) = ∑ i ∈ Finset.range (j + 1), I.tile b (s * 512 + r.val) d i

/-- The first point of a run. -/
theorem after_first (c : Dev nD) (t : Fin cfg0.N) (h0 : t.val % 11 = 0) :
    After (insK m c) (bt t) (t.val / 11 % 8) (t.val % 11) (outsAt0 m c t.val t.isLt).2.1 (outsAt0 m c t.val t.isLt).2.2 := by
  rw [outsAt0_A m c t h0 (by omega)]
  dsimp only
  rw [acc_A, rows_A]
  refine ⟨rows_first m c t, fun r d => ?_⟩
  rw [step_tile m c t _ _ (rows_first m c t), zero_at, zero_add, h0, zero_add, Finset.sum_range_one]

/-- A step over what the point before left. -/
theorem after_step (c : Dev nD) (t : Fin cfg0.N) (h0 : ¬t.val % 11 = 0) (acc : Vec Ideal S512x2048 .f32) (hx : Vec Ideal S544x2048 .bf16)
    (h : After (insK m c) (bt t) (t.val / 11 % 8) (t.val % 11 - 1) acc hx) : After (insK m c) (bt t) (t.val / 11 % 8) (t.val % 11)
      (step acc hx (iblk m c 3 t) (iblk m c 4 t) (iblk m c 5 t) (iblk m c 6 t) (iblk m c 7 t) (iblk m c 8 t) (iblk m c 9 t)) hx := by
  refine ⟨h.1, fun r d => ?_⟩
  rw [step_tile m c t _ _ h.1, h.2, show t.val % 11 - 1 + 1 = t.val % 11 by omega, Finset.sum_range_succ]

/-- A later point of a run, over the point before. -/
theorem after_next (c : Dev nD) (t : Fin cfg0.N) (h0 : ¬t.val % 11 = 0)
    (h : After (insK m c) (bt t) (t.val / 11 % 8) (t.val % 11 - 1) (outsAt0 m c (t.val - 1) (Nat.lt_of_le_of_lt (Nat.sub_le _ _) t.isLt)).2.1
      (outsAt0 m c (t.val - 1) (Nat.lt_of_le_of_lt (Nat.sub_le _ _) t.isLt)).2.2) :
    After (insK m c) (bt t) (t.val / 11 % 8) (t.val % 11) (outsAt0 m c t.val t.isLt).2.1 (outsAt0 m c t.val t.isLt).2.2 := by
  by_cases h1 : t.val % 11 = 10
  · rw [outsAt0_C m c t h0 h1]
    dsimp only
    rw [acc_C]
    exact after_step m c t h0 _ _ h
  · rw [outsAt0_B m c t h0 h1]
    dsimp only
    rw [acc_B]
    exact after_step m c t h0 _ _ h

/-- The batch and run of the point before, for a point that is not a run's first. -/
theorem before (I : Ins) (n : ℕ) (h : n + 1 < cfg0.N) (h0 : ¬(n + 1) % 11 = 0) (acc : Vec Ideal S512x2048 .f32) (hx : Vec Ideal S544x2048 .bf16)
    (e : After I (bt ⟨n, by omega⟩) (n / 11 % 8) (n % 11) acc hx) : After I (bt ⟨n + 1, h⟩) ((n + 1) / 11 % 8) ((n + 1) % 11 - 1) acc hx := by
  have e1 : bt ⟨n + 1, h⟩ = bt ⟨n, by omega⟩ := Fin.ext (by show (n + 1) / 88 = n / 88; omega)
  rw [e1, show (n + 1) / 11 % 8 = n / 11 % 8 by omega, show (n + 1) % 11 - 1 = n % 11 by omega]
  exact e

/-- WHAT THE SCRATCHES HOLD after every point. -/
theorem after_run (c : Dev nD) : ∀ (n : ℕ) (h : n < cfg0.N),
    After (insK m c) (bt ⟨n, h⟩) (n / 11 % 8) (n % 11) (outsAt0 m c n h).2.1 (outsAt0 m c n h).2.2 := by
  intro n
  induction n with
  | zero => exact fun h => after_first m c ⟨0, h⟩ rfl
  | succ n ih =>
    intro h
    by_cases h0 : (n + 1) % 11 = 0
    · exact after_first m c ⟨n + 1, h⟩ h0
    · exact after_next m c ⟨n + 1, h⟩ h0 (before _ n h h0 _ _ (ih (by omega)))

/-- The output block after a run's last point. -/
theorem out_last (c : Dev nD) (t : Fin cfg0.N) (h1 : t.val % 11 = 10) (r : Fin 512) (d : Fin 2048) :
    (outsAt0 m c t.val t.isLt).1 (ix3 0 r d) = (insK m c).out (bt t) ⟨t.val / 11 % 8 * 512 + r.val, by omega⟩ d := by
  have h0 : ¬t.val % 11 = 0 := by omega
  have h := after_run m c t.val t.isLt
  have e := outsAt0_C m c t h0 h1
  have ea := congrArg (fun x => x.2.1) e
  dsimp only at ea
  rw [acc_C] at ea
  rw [ea] at h
  rw [e]
  dsimp only
  rw [out_C]
  refine (last_at _ _ _ _ r d (fun k => (insK m c).res (bt t) ⟨t.val / 11 % 8 * 512 + r.val, by omega⟩ k) ?_).trans ?_
  · intro k
    rw [h.2, iblk10_at, iblk11_at, h1, Ins.sum_tiles, Ins.res]
  · rw [iblk12_at, Ins.out]

/-- The formula at every index. -/
def arr (I : Ins) : Vec Ideal S4x4096x2048 .f32 := fun y => I.out (y 0) (y 1) (y 2)

/-- … read at coordinates named otherwise. -/
theorem arr_eq (I : Ins) (y : S4x4096x2048.Idx) (b : Fin 4) (i : Fin 4096) (d : Fin 2048) (hb : b.val = (y 0).val) (hi : i.val = (y 1).val)
    (hd : d.val = (y 2).val) : I.out b i d = arr I y :=
  congr (congr (congrArg I.out (Fin.ext hb)) (Fin.ext hi)) (Fin.ext hd)

/-- POINT: what a run's last point leaves at a block index is the formula at the array index that sits there. -/
theorem point (c : Dev nD) (t : Fin cfg0.N) (h1 : t.val % 11 = 10) (y : S1x512x2048.Idx) (j : S4x4096x2048.Idx)
    (e0 : (j 0).val = t.val / 88) (e1 : (j 1).val = t.val / 11 % 8 * 512 + (y 1).val) (e2 : (j 2).val = (y 2).val) :
    (outsAt0 m c t.val t.isLt).1 y = arr (insK m c) j := by
  have hy : y = ix3 0 (y 1) (y 2) := by
    funext a
    fin_cases a
    · exact Fin.ext (by have : (y 0).val < 1 := (y 0).isLt; show (y 0).val = 0; omega)
    · rfl
    · rfl
  refine ((congrArg _ hy).trans (out_last m c t h1 (y 1) (y 2))).trans ?_
  exact arr_eq _ _ _ _ _ e0.symm e1.symm e2.symm

/-- Only a run's last point writes its block back. -/
theorem flush_last : ∀ t : Fin cfg0.N, (cfg0.win 13).flush t = true → t.val % 11 = 10 :=
  (by decide +kernel : ∀ t : Fin grid0.N, _)

/-- THE KERNEL'S ARRAY: at every index the formula of the inputs. -/
theorem final (c : Dev nD) : (dats m 0 c).arrAt 13 cfg0.N = arr (insK m c) := by
  refine (dats m 0 c).arrAt_eq_of_covers 13 _ (by decide +kernel) fun t hf y => ?_
  blk_simp
  rw [after0_13]
  refine point m c t (flush_last t hf) y _ ?_ ?_ ?_
  all_goals (blk_simp [idxR t] <;> try omega)

end Cert.Ffn
-- ==== Proof.FfnRef.lean ====
/- What the reference of the gated MLP computes, one array after another, each at an index; then the whole: the formula of its inputs. -/
module

public import proofs.«01_k».proof.Proof.Gen.Reference2Ideal.Run
public import proofs.«01_k».proof.Proof.FfnSpec

@[expose] public section

set_option maxRecDepth 16384

noncomputable section

open Idealize.ShloMosaic Idealize.ShloMosaic.TcCoe Idealize.SL.Sem

namespace Cert.Reference2Ideal.Value

open Cert.Reference2Ideal Cert.Reference2Ideal.Gen

/-- The way up. -/
def upT (h : FVec Ideal S4x4096x2048 .bf16) (wu : FVec Ideal S2x2048x11264 .bf16) : FVec Ideal S4x4096x11264 .f32 :=
  Host.dotGeneral dot_S4x4096x2048_S2048x11264_S4x4096x11264_2_0_01_1_n_n none (extf .f32 h bitsLt_bf16_f32) (shapeCast _ (extractStridedSlice S1x2048x11264 ![1, 0, 0] (extf .f32 wu bitsLt_bf16_f32) slices_S2x2048x11264_S1x2048x11264_1_0_0) shapeCasts_S1x2048x11264_S2048x11264)

/-- A zero row before and after the rows. -/
def padT (u : FVec Ideal S4x4096x11264 .f32) : FVec Ideal S4x4098x11264 .f32 :=
  pad S4x4098x11264 ![0, 1, 0] ![0, 1, 0] ![0, 0, 0] u (sitofp .f32 (constantI S_ 32 0#32)) pads_S4x4096x11264_S4x4098x11264_000_110_000 h_S_

/-- The convolution. -/
def convT (p : FVec Ideal S4x4098x11264 .f32) (cw : FVec Ideal S2x3x11264 .f32) (cb : FVec Ideal S2x1x11264 .f32) : FVec Ideal S4x4096x11264 .f32 :=
  addf (addf (addf (addf (broadcastInDim S4x4096x11264 ![] bcast_S_S4x4096x11264 (constant S_ .f32 0x00000000#32)) (mulf (extractStridedSlice S4x4096x11264 ![0, 0, 0] p slices_S4x4098x11264_S4x4096x11264_0_0_0) (broadcastInDim S4x4096x11264 ![0, 1, 2] bcast_S1x1x11264_S4x4096x11264_0_1_2 (broadcastInDim S1x1x11264 ![2] bcast_S11264_S1x1x11264_2 (shapeCast _ (extractStridedSlice S1x11264 ![0, 0] (shapeCast _ (extractStridedSlice S1x3x11264 ![1, 0, 0] cw slices_S2x3x11264_S1x3x11264_1_0_0) shapeCasts_S1x3x11264_S3x11264) slices_S3x11264_S1x11264_0_0) shapeCasts_S1x11264_S11264))))) (mulf (extractStridedSlice S4x4096x11264 ![0, 1, 0] p slices_S4x4098x11264_S4x4096x11264_0_1_0) (broadcastInDim S4x4096x11264 ![0, 1, 2] bcast_S1x1x11264_S4x4096x11264_0_1_2 (broadcastInDim S1x1x11264 ![2] bcast_S11264_S1x1x11264_2 (shapeCast _ (extractStridedSlice S1x11264 ![1, 0] (shapeCast _ (extractStridedSlice S1x3x11264 ![1, 0, 0] cw slices_S2x3x11264_S1x3x11264_1_0_0) shapeCasts_S1x3x11264_S3x11264) slices_S3x11264_S1x11264_1_0) shapeCasts_S1x11264_S11264))))) (mulf (extractStridedSlice S4x4096x11264 ![0, 2, 0] p slices_S4x4098x11264_S4x4096x11264_0_2_0) (broadcastInDim S4x4096x11264 ![0, 1, 2] bcast_S1x1x11264_S4x4096x11264_0_1_2 (broadcastInDim S1x1x11264 ![2] bcast_S11264_S1x1x11264_2 (shapeCast _ (extractStridedSlice S1x11264 ![2, 0] (shapeCast _ (extractStridedSlice S1x3x11264 ![1, 0, 0] cw slices_S2x3x11264_S1x3x11264_1_0_0) shapeCasts_S1x3x11264_S3x11264) slices_S3x11264_S1x11264_2_0) shapeCasts_S1x11264_S11264))))) (broadcastInDim S4x4096x11264 ![0, 1, 2] bcast_S1x1x11264_S4x4096x11264_0_1_2 (broadcastInDim S1x1x11264 ![2] bcast_S11264_S1x1x11264_2 (shapeCast _ (extractStridedSlice S1x1x11264 ![1, 0, 0] cb slices_S2x1x11264_S1x1x11264_1_0_0) shapeCasts_S1x1x11264_S11264)))

/-- The gate columns through `silu`, times the value columns. -/
def actT (v : FVec Ideal S4x4096x11264 .f32) : FVec Ideal S4x4096x5632 .f32 :=
  mulf (mulf (extractStridedSlice S4x4096x5632 ![0, 0, 0] v slices_S4x4096x11264_S4x4096x5632_0_0_0) (Host.divf (broadcastInDim S4x4096x5632 ![] bcast_S_S4x4096x5632 (constant S_ .f32 0x3F800000#32)) (addf (broadcastInDim S4x4096x5632 ![] bcast_S_S4x4096x5632 (constant S_ .f32 0x3F800000#32)) (Host.exp (Host.negf (extractStridedSlice S4x4096x5632 ![0, 0, 0] v slices_S4x4096x11264_S4x4096x5632_0_0_0)))))) (extractStridedSlice S4x4096x5632 ![0, 0, 5632] v slices_S4x4096x11264_S4x4096x5632_0_0_5632)

/-- The way down and the residual. -/
def resT (x : FVec Ideal S4x4096x2048 .f32) (mod : FVec Ideal S2x8x6x1x2048 .f32) (a : FVec Ideal S4x4096x5632 .f32) (wd : FVec Ideal S2x5632x2048 .bf16) : FVec Ideal S4x4096x2048 .f32 :=
  addf x (mulf (broadcastInDim S4x4096x2048 ![0, 1, 2] bcast_S4x1x2048_S4x4096x2048_0_1_2 (shapeCast _ (extractStridedSlice S1x4x1x1x2048 ![1, 0, 5, 0, 0] mod slices_S2x8x6x1x2048_S1x4x1x1x2048_1_0_5_0_0) shapeCasts_S1x4x1x1x2048_S4x1x2048)) (Host.dotGeneral dot_S4x4096x5632_S5632x2048_S4x4096x2048_2_0_01_1_n_n none a (shapeCast _ (extractStridedSlice S1x5632x2048 ![1, 0, 0] (extf .f32 wd bitsLt_bf16_f32) slices_S2x5632x2048_S1x5632x2048_1_0_0) shapeCasts_S1x5632x2048_S5632x2048)))

/-- The final norm. -/
def normT (y : FVec Ideal S4x4096x2048 .f32) (gf : FVec Ideal S1x2048 .f32) : FVec Ideal S4x4096x2048 .f32 :=
  mulf (mulf y (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf y y) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (shapeCast _ gf shapeCasts_S1x2048_S2048)))

/-- The way up at an index. -/
theorem upT_at (h : FVec Ideal S4x4096x2048 .bf16) (wu : FVec Ideal S2x2048x11264 .bf16) (b : Fin 4) (i : Fin 4096) (c : Fin 11264) :
    upT h wu (ix3 b i c) = (∑ k : Fin 2048, h (ix3 b i k) * wu (ix3 1 k c) : EReal) := by
  pointwise [upT]

/-- The padded rows at an index. -/
theorem padT_at (u : FVec Ideal S4x4096x11264 .f32) (b : Fin 4) (n : Fin 4098) (c : Fin 11264) :
    padT u (ix3 b n c) = (if h : 1 ≤ n.val ∧ n.val ≤ 4096 then u (ix3 b ⟨n.val - 1, by omega⟩ c) else 0 : EReal) := by
  pointwise [padT]
  have e : FloatOps.sitofp (F := Ideal) .f32 0#32 = (0 : EReal) := by
    show ((((0#32 : BitVec 32).toInt : ℤ) : ℝ) : EReal) = 0
    simp
  rw [e]
  by_cases h : 1 ≤ n.val ∧ n.val ≤ 4096
  · rw [dif_pos h, dif_pos (by omega)]
  · rw [dif_neg h, dif_neg (by omega)]

/-- The convolution at an index. -/
theorem convT_at (p : FVec Ideal S4x4098x11264 .f32) (cw : FVec Ideal S2x3x11264 .f32) (cb : FVec Ideal S2x1x11264 .f32) (b : Fin 4) (i : Fin 4096) (c : Fin 11264) :
    convT p cw cb (ix3 b i c) = (p (ix3 b ⟨i.val, by omega⟩ c) * cw (ix3 1 0 c) + p (ix3 b ⟨i.val + 1, by omega⟩ c) * cw (ix3 1 1 c)
      + p (ix3 b ⟨i.val + 2, by omega⟩ c) * cw (ix3 1 2 c) + cb (ix3 1 0 c) : EReal) := by
  pointwise [convT]
  simp only [Nat.add_comm 1, Nat.add_comm 2]

/-- A gated column. -/
theorem actT_at (v : FVec Ideal S4x4096x11264 .f32) (b : Fin 4) (i : Fin 4096) (c : Fin 5632) :
    actT v (ix3 b i c) = (Ffn.silu (v (ix3 b i ⟨c.val, by omega⟩)) * v (ix3 b i ⟨5632 + c.val, by omega⟩) : EReal) := by
  rw [← Ffn.mul_div_one, ← Attn.ofBits_one]
  pointwise [actT]

/-- The residual at an index. -/
theorem resT_at (x : FVec Ideal S4x4096x2048 .f32) (mod : FVec Ideal S2x8x6x1x2048 .f32) (a : FVec Ideal S4x4096x5632 .f32) (wd : FVec Ideal S2x5632x2048 .bf16)
    (b : Fin 4) (i : Fin 4096) (d : Fin 2048) :
    resT x mod a wd (ix3 b i d) = (x (ix3 b i d) + mod (ix5 1 ⟨b.val, by omega⟩ 5 0 d) * ∑ c : Fin 5632, a (ix3 b i c) * wd (ix3 1 c d) : EReal) := by
  pointwise [resT]

/-- The norm at an index. -/
theorem normT_at (y : FVec Ideal S4x4096x2048 .f32) (gf : FVec Ideal S1x2048 .f32) (b : Fin 4) (i : Fin 4096) (d : Fin 2048) :
    normT y gf (ix3 b i d) = (y (ix3 b i d) * Ideal.rsqrt (Ideal.div (∑ k : Fin 2048, y (ix3 b i k) * y (ix3 b i k)) (Ideal.ofBits .f32 0x45000000#32)
      + Ideal.ofBits .f32 0x358637BD#32) * gf (ix2 0 d) : EReal) := by
  pointwise [normT]

variable (m : (ℓ : Loc nD τ sig) → Buf (Elt Ideal) ℓ) (c : Dev nD)

/-- The reference's eight inputs. -/
def ins : Ffn.Ins where
  h b i k := m ((c.tc : Thread nD τ).loc main_arg0) (ix3 b i k)
  wu k j := m ((c.tc : Thread nD τ).loc main_arg1) (ix3 1 k j)
  cw t j := m ((c.tc : Thread nD τ).loc main_arg2) (ix3 1 t j)
  cb j := m ((c.tc : Thread nD τ).loc main_arg3) (ix3 1 0 j)
  wd j d := m ((c.tc : Thread nD τ).loc main_arg4) (ix3 1 j d)
  x b i d := m ((c.tc : Thread nD τ).loc main_arg5) (ix3 b i d)
  gt b d := m ((c.tc : Thread nD τ).loc main_arg6) (ix5 1 ⟨b.val, by omega⟩ 5 0 d)
  gf d := m ((c.tc : Thread nD τ).loc main_arg7) (ix2 0 d)

/-- The padded rows of the way up are the way up of the padded rows. -/
theorem pad_up (b : Fin 4) (n : Fin 4098) (j : Fin 11264) :
    padT (upT (m ((c.tc : Thread nD τ).loc main_arg0)) (m ((c.tc : Thread nD τ).loc main_arg1))) (ix3 b n j) = (ins m c).u b n.val j := by
  rw [padT_at]
  unfold Ffn.Ins.u Ffn.Ins.hp
  split_ifs with h
  · rw [upT_at]; rfl
  · simp

/-- The reference's result, stage by stage. -/
theorem res_eq : res_main_v61 m c = normT (resT (m ((c.tc : Thread nD τ).loc main_arg5)) (m ((c.tc : Thread nD τ).loc main_arg6))
    (actT (convT (padT (upT (m ((c.tc : Thread nD τ).loc main_arg0)) (m ((c.tc : Thread nD τ).loc main_arg1)))) (m ((c.tc : Thread nD τ).loc main_arg2))
      (m ((c.tc : Thread nD τ).loc main_arg3)))) (m ((c.tc : Thread nD τ).loc main_arg4))) (m ((c.tc : Thread nD τ).loc main_arg7)) := rfl

/-- THE REFERENCE'S RESULT is the formula of its inputs. -/
theorem reference_at (b : Fin 4) (i : Fin 4096) (d : Fin 2048) : res_main_v61 m c (ix3 b i d) = (ins m c).out b i d := by
  have hc : ∀ (j : Fin 11264), convT (padT (upT (m ((c.tc : Thread nD τ).loc main_arg0)) (m ((c.tc : Thread nD τ).loc main_arg1))))
      (m ((c.tc : Thread nD τ).loc main_arg2)) (m ((c.tc : Thread nD τ).loc main_arg3)) (ix3 b i j) = (ins m c).conv b i.val j := by
    intro j
    rw [convT_at, pad_up, pad_up, pad_up]
    rfl
  have hy : ∀ d, resT (m ((c.tc : Thread nD τ).loc main_arg5)) (m ((c.tc : Thread nD τ).loc main_arg6))
      (actT (convT (padT (upT (m ((c.tc : Thread nD τ).loc main_arg0)) (m ((c.tc : Thread nD τ).loc main_arg1)))) (m ((c.tc : Thread nD τ).loc main_arg2))
        (m ((c.tc : Thread nD τ).loc main_arg3)))) (m ((c.tc : Thread nD τ).loc main_arg4)) (ix3 b i d) = (ins m c).res b i d := by
    intro d
    rw [resT_at]
    simp only [actT_at, hc]
    rfl
  rw [res_eq, normT_at]
  simp only [hy]
  rfl

end Cert.Reference2Ideal.Value

end
-- ==== Proof.FfnMeets.lean ====
/- The gated MLP's kernel meets the reference: on equal inputs one array. -/
module

public import proofs.«01_k».proof.Proof.FfnFinal
public import proofs.«01_k».proof.Proof.FfnRef

@[expose] public section

noncomputable section

open Idealize.ShloMosaic Idealize.ShloMosaic.TcCoe Idealize.SL.Sem

namespace Cert.Ffn

open Cert.Reference2Ideal Cert.Reference2Ideal.Gen Cert.Reference2Ideal.Value

/-- The reference's array is the formula of its inputs: `arr`, as the kernel's is. -/
theorem reference_eq (m : (ℓ : Loc nD τ sig) → Buf (Elt Ideal) ℓ) (c : Dev nD) : res_main_v61 m c = arr (ins m c) := by
  funext y
  have hy : y = ix3 (y 0) (y 1) (y 2) := by
    funext a
    fin_cases a <;> rfl
  exact (congrArg _ hy).trans (reference_at m c (y 0) (y 1) (y 2))

/-- Equal arguments are equal inputs. -/
theorem ins_eq (m : (ℓ : Loc Cert.Kernel2Ideal.nD Cert.Kernel2Ideal.τ Cert.Kernel2Ideal.sig) → Buf (Elt Ideal) ℓ)
    (m' : (ℓ : Loc nD τ sig) → Buf (Elt Ideal) ℓ) (c : Dev nD)
    (h : m' ((c : Thread nD τ).loc main_arg0) = m ((c : Thread Cert.Kernel2Ideal.nD Cert.Kernel2Ideal.τ).loc Cert.Kernel2Ideal.main_arg0)
      ∧ m' ((c : Thread nD τ).loc main_arg1) = m ((c : Thread Cert.Kernel2Ideal.nD Cert.Kernel2Ideal.τ).loc Cert.Kernel2Ideal.main_arg1)
      ∧ m' ((c : Thread nD τ).loc main_arg2) = m ((c : Thread Cert.Kernel2Ideal.nD Cert.Kernel2Ideal.τ).loc Cert.Kernel2Ideal.main_arg2)
      ∧ m' ((c : Thread nD τ).loc main_arg3) = m ((c : Thread Cert.Kernel2Ideal.nD Cert.Kernel2Ideal.τ).loc Cert.Kernel2Ideal.main_arg3)
      ∧ m' ((c : Thread nD τ).loc main_arg4) = m ((c : Thread Cert.Kernel2Ideal.nD Cert.Kernel2Ideal.τ).loc Cert.Kernel2Ideal.main_arg4)
      ∧ m' ((c : Thread nD τ).loc main_arg5) = m ((c : Thread Cert.Kernel2Ideal.nD Cert.Kernel2Ideal.τ).loc Cert.Kernel2Ideal.main_arg5)
      ∧ m' ((c : Thread nD τ).loc main_arg6) = m ((c : Thread Cert.Kernel2Ideal.nD Cert.Kernel2Ideal.τ).loc Cert.Kernel2Ideal.main_arg6)
      ∧ m' ((c : Thread nD τ).loc main_arg7) = m ((c : Thread Cert.Kernel2Ideal.nD Cert.Kernel2Ideal.τ).loc Cert.Kernel2Ideal.main_arg7)) :
    ins m' c = insK m c := by
  obtain ⟨h0, h1, h2, h3, h4, h5, h6, h7⟩ := h
  unfold ins insK
  rw [Ins.mk.injEq]
  refine ⟨?_, ?_, ?_, ?_, ?_, ?_, ?_, ?_⟩
  · funext b i k; exact congrFun h0 _
  · funext k j; exact congrFun h1 _
  · funext t j; exact congrFun h2 _
  · funext j; exact congrFun h3 _
  · funext j d; exact congrFun h4 _
  · funext b i d; exact congrFun h5 _
  · funext b d; exact congrFun h6 _
  · funext d; exact congrFun h7 _

end Cert.Ffn

end
-- ==== Proof.OutSpec.lean ====
/- The output projection of a layer with its gated residual, and the normalised, modulated rows of it, as formulas of the inputs.

   Three mixers' columns stand side by side: 1024, 512 and 512 of them. -/
module

public import proofs.«01_k».proof.Proof.Consts

@[expose] public section

noncomputable section

open Idealize.ShloMosaic

namespace Cert.Out

/-- The inputs, index by index. -/
structure Ins where
  /-- the first mixer's rows: batch, row, column -/
  om : Fin 4 → Fin 4096 → Fin 1024 → EReal
  /-- the second's -/
  on : Fin 4 → Fin 4096 → Fin 512 → EReal
  /-- the third's -/
  of : Fin 4 → Fin 4096 → Fin 512 → EReal
  /-- weights of the projection -/
  w : Fin 2048 → Fin 2048 → EReal
  /-- residual -/
  x : Fin 4 → Fin 4096 → Fin 2048 → EReal
  /-- gate of the residual, by batch -/
  gt : Fin 4 → Fin 2048 → EReal
  /-- weights of the norm -/
  g : Fin 2048 → EReal
  /-- scale of the normalised rows, by batch -/
  sc : Fin 4 → Fin 2048 → EReal
  /-- shift of the normalised rows, by batch -/
  sh : Fin 4 → Fin 2048 → EReal

/-- A row `y` through the norm with weights `g`, scaled by `1 + sc` and shifted by `sh`. -/
def norm (y g sc sh : Fin 2048 → EReal) (d : Fin 2048) : EReal :=
  y d * Ideal.rsqrt (Ideal.div (∑ k : Fin 2048, y k * y k) (Ideal.ofBits .f32 0x45000000#32) + Ideal.ofBits .f32 0x358637BD#32) * g d
    * (Ideal.ofBits .f32 0x3F800000#32 + sc d) + sh d

namespace Ins

variable (I : Ins)

/-- The mixers' columns side by side. -/
def row (b : Fin 4) (i : Fin 4096) (k : Fin 2048) : EReal :=
  if h : k.val < 1024 then I.om b i ⟨k.val, h⟩ else if h' : k.val < 1536 then I.on b i ⟨k.val - 1024, by omega⟩ else I.of b i ⟨k.val - 1536, by omega⟩

/-- The projected rows added to the residual through the gate. -/
def res (b : Fin 4) (i : Fin 4096) (d : Fin 2048) : EReal := I.x b i d + I.gt b d * ∑ k : Fin 2048, I.row b i k * I.w k d

/-- … normalised and modulated. -/
def hid (b : Fin 4) (i : Fin 4096) (d : Fin 2048) : EReal := norm (I.res b i) I.g (I.sc b) (I.sh b) d

end Ins

/-- A sum over 2048 columns by the mixers' parts. -/
theorem sum_parts (f : Fin 2048 → EReal) : ∑ k, f k
    = (∑ k : Fin 1024, f ⟨k.val, by omega⟩) + (∑ k : Fin 512, f ⟨1024 + k.val, by omega⟩) + ∑ k : Fin 512, f ⟨1536 + k.val, by omega⟩ := by
  have e1 := Fin.sum_univ_add (a := 1536) (b := 512) f
  have e2 := Fin.sum_univ_add (a := 1024) (b := 512) fun k : Fin 1536 => f (Fin.castAdd 512 k)
  exact e1.trans (congrArg (· + _) e2)

/-- The projection of a row, mixer by mixer. -/
theorem Ins.proj_eq (I : Ins) (b : Fin 4) (i : Fin 4096) (d : Fin 2048) : ∑ k : Fin 2048, I.row b i k * I.w k d
    = (∑ k : Fin 1024, I.om b i k * I.w ⟨k.val, by omega⟩ d) + (∑ k : Fin 512, I.on b i k * I.w ⟨1024 + k.val, by omega⟩ d)
      + ∑ k : Fin 512, I.of b i k * I.w ⟨1536 + k.val, by omega⟩ d := by
  rw [sum_parts]
  refine congrArg₂ (· + ·) (congrArg₂ (· + ·) ?_ ?_) ?_ <;> refine Finset.sum_congr rfl fun k _ => congrArg (· * _) ?_
  · exact dif_pos k.isLt
  · rw [Ins.row, dif_neg (by dsimp only; omega), dif_pos (by dsimp only; omega)]
    exact congrArg (I.on b i) (Fin.ext (by dsimp only; omega))
  · rw [Ins.row, dif_neg (by dsimp only; omega), dif_neg (by dsimp only; omega)]
    exact congrArg (I.of b i) (Fin.ext (by dsimp only; omega))

end Cert.Out

end
-- ==== Proof.OutBlock.lean ====
/- What a grid point of the output projection's kernel leaves in its two output blocks, from its input blocks.

   The point works its 512 rows in two halves of 256, with the same steps. -/
module

public import proofs.«01_k».proof.Proof.Gen.Kernel3Ideal.Frame
public import proofs.«01_k».proof.Proof.OutSpec

@[expose] public section

set_option maxRecDepth 65536

noncomputable section

open Idealize.ShloMosaic Idealize.ShloMosaic.TcCoe Idealize.SL.Sem

namespace Cert.Out

open Cert.Kernel3Ideal Cert.Kernel3Ideal.Gen

/-- The residual at a row and column of the blocks. -/
def resB (x0 : Vec Ideal S1x512x1024 .bf16) (x1 : Vec Ideal S1x512x512 .bf16) (x2 : Vec Ideal S512x512 .bf16) (x3 : Vec Ideal S1x2048x2048 .bf16)
    (x4 : Vec Ideal S1x512x2048 .f32) (x5 : Vec Ideal S1x1x1x1x2048 .f32) (r : Fin 512) (d : Fin 2048) : EReal :=
  x4 (ix3 0 r d) + x5 (ix5 0 0 0 0 d) * ((∑ k : Fin 1024, x0 (ix3 0 r k) * x3 (ix3 0 ⟨k.val, by omega⟩ d))
    + (∑ k : Fin 512, x1 (ix3 0 r k) * x3 (ix3 0 ⟨1024 + k.val, by omega⟩ d)) + ∑ k : Fin 512, x2 (ix2 r k) * x3 (ix3 0 ⟨1536 + k.val, by omega⟩ d))

/-- Rows `o` to `o + 255` of the residual, as the kernel computes them. -/
def half (o : ℕ) (h0 : ∀ a, (![0, o, 0] : Fin 3 → ℕ) a + S1x256x1024.size a ≤ S1x512x1024.size a) (h1 : ∀ a, (![0, o, 0] : Fin 3 → ℕ) a + S1x256x512.size a ≤ S1x512x512.size a)
    (h2 : ∀ a, (![o, 0] : Fin 2 → ℕ) a + S256x512.size a ≤ S512x512.size a) (h4 : ∀ a, (![0, o, 0] : Fin 3 → ℕ) a + S1x256x2048.size a ≤ S1x512x2048.size a)
    (x0 : Vec Ideal S1x512x1024 .bf16) (x1 : Vec Ideal S1x512x512 .bf16) (x2 : Vec Ideal S512x512 .bf16) (x3 : Vec Ideal S1x2048x2048 .bf16)
    (x4 : Vec Ideal S1x512x2048 .f32) (x5 : Vec Ideal S1x1x1x1x2048 .f32) : FVec Ideal S256x2048 .f32 :=
  k0_pay2 (View.ld x0 (Rect.unit (s := S1x512x1024) ![0, o, 0] S1x256x1024.size h0)) (View.ld x3 r0_1) (View.ld x1 (Rect.unit (s := S1x512x512) ![0, o, 0] S1x256x512.size h1))
    (View.ld x3 r0_3) (View.ld x2 (Rect.unit (s := S512x512) ![o, 0] S256x512.size h2)) (View.ld x3 r0_5)
    (View.ld x4 (Rect.unit (s := S1x512x2048) ![0, o, 0] S1x256x2048.size h4)) (View.ld x5 r0_7)

/-- … at an index. -/
theorem half_at (o : ℕ) (h0) (h1) (h2) (h4) (ho : o ≤ 256) (x0 : Vec Ideal S1x512x1024 .bf16) (x1 : Vec Ideal S1x512x512 .bf16) (x2 : Vec Ideal S512x512 .bf16)
    (x3 : Vec Ideal S1x2048x2048 .bf16) (x4 : Vec Ideal S1x512x2048 .f32) (x5 : Vec Ideal S1x1x1x1x2048 .f32) (r : Fin 256) (d : Fin 2048) :
    half o h0 h1 h2 h4 x0 x1 x2 x3 x4 x5 (ix2 r d) = resB x0 x1 x2 x3 x4 x5 ⟨o + r.val, by omega⟩ d := by
  pointwise [half, k0_pay2, resB]

/-- Half of the first output. -/
theorem pay3_at (v : FVec Ideal S256x2048 .f32) (r : Fin 256) (d : Fin 2048) :
    shapeCast S1x256x2048 v shapeCasts_S256x2048_S1x256x2048 (ix3 0 r d) = v (ix2 r d) := by
  pointwise []

/-- Half of the second output. -/
theorem pay4_at (v : FVec Ideal S256x2048 .f32) (x6 : Vec Ideal S1x1x2048 .f32) (x7 x8 : Vec Ideal S1x1x1x1x2048 .f32) (r : Fin 256) (d : Fin 2048) :
    k0_pay4 v x6 x7 x8 (ix3 0 r d) = norm (fun k => v (ix2 r k)) (fun k => x6 (ix3 0 0 k)) (fun k => x7 (ix5 0 0 0 0 k)) (fun k => x8 (ix5 0 0 0 0 k)) d := by
  pointwise [k0_pay4, norm]

/-- An index of a half, by its coordinates. -/
theorem idx_half (x : S1x256x2048.Idx) : x = ix3 0 (x 1) (x 2) := by
  funext a
  fin_cases a
  · exact Fin.ext (by have : (x 0).val < 1 := (x 0).isLt; show (x 0).val = 0; omega)
  · rfl
  · rfl

variable (x0 : Vec Ideal S1x512x1024 .bf16) (x1 : Vec Ideal S1x512x512 .bf16) (x2 : Vec Ideal S512x512 .bf16) (x3 : Vec Ideal S1x2048x2048 .bf16)
  (x4 : Vec Ideal S1x512x2048 .f32) (x5 : Vec Ideal S1x1x1x1x2048 .f32) (x6 : Vec Ideal S1x1x2048 .f32) (x7 x8 : Vec Ideal S1x1x1x1x2048 .f32)

/-- THE FIRST OUTPUT BLOCK. -/
theorem out9_eq : out0_9 x0 x1 x2 x3 x4 x5 x6 x7 x8 = fun y => resB x0 x1 x2 x3 x4 x5 (y 1) (y 2) := by
  have e : out0_9 x0 x1 x2 x3 x4 x5 x6 x7 x8 = View.canon [⟨r0_12, shapeCast S1x256x2048 (half 256 inb_S1x512x1024_S1x256x1024_0_256_0 inb_S1x512x512_S1x256x512_0_256_0
      inb_S512x512_S256x512_256_0 inb_S1x512x2048_S1x256x2048_0_256_0 x0 x1 x2 x3 x4 x5) shapeCasts_S256x2048_S1x256x2048⟩,
    ⟨r0_6, shapeCast S1x256x2048 (half 0 inb_S1x512x1024_S1x256x1024_0_0_0 inb_S1x512x512_S1x256x512_0_0_0
      inb_S512x512_S256x512_0_0 inb_S1x512x2048_S1x256x2048_0_0_0 x0 x1 x2 x3 x4 x5) shapeCasts_S256x2048_S1x256x2048⟩] := rfl
  rw [e]
  funext y
  canon_tiles x h using (cover0_9 _ _ y)
  all_goals
    refine ((congrArg _ (idx_half x)).trans (pay3_at _ (x 1) (x 2))).trans ((half_at _ _ _ _ _ (by omega) x0 x1 x2 x3 x4 x5 (x 1) (x 2)).trans ?_)
    exact congrArg₂ (resB x0 x1 x2 x3 x4 x5) (Fin.ext (by dsimp only; omega)) (Fin.ext (by omega))

/-- THE SECOND OUTPUT BLOCK. -/
theorem out10_eq : out0_10 x0 x1 x2 x3 x4 x5 x6 x7 x8 = fun y => norm (resB x0 x1 x2 x3 x4 x5 (y 1)) (fun k => x6 (ix3 0 0 k)) (fun k => x7 (ix5 0 0 0 0 k))
    (fun k => x8 (ix5 0 0 0 0 k)) (y 2) := by
  have e : out0_10 x0 x1 x2 x3 x4 x5 x6 x7 x8 = View.canon [⟨r0_12, k0_pay4 (half 256 inb_S1x512x1024_S1x256x1024_0_256_0 inb_S1x512x512_S1x256x512_0_256_0
      inb_S512x512_S256x512_256_0 inb_S1x512x2048_S1x256x2048_0_256_0 x0 x1 x2 x3 x4 x5) (View.ld x6 r0_8) (View.ld x7 r0_7) (View.ld x8 r0_7)⟩,
    ⟨r0_6, k0_pay4 (half 0 inb_S1x512x1024_S1x256x1024_0_0_0 inb_S1x512x512_S1x256x512_0_0_0
      inb_S512x512_S256x512_0_0 inb_S1x512x2048_S1x256x2048_0_0_0 x0 x1 x2 x3 x4 x5) (View.ld x6 r0_8) (View.ld x7 r0_7) (View.ld x8 r0_7)⟩] := rfl
  rw [e]
  simp -proj (disch := decide) only [View.ld_unit_lit']
  funext y
  canon_tiles x h using (cover0_10 _ _ y)
  all_goals
    refine ((congrArg _ (idx_half x)).trans (pay4_at _ x6 x7 x8 (x 1) (x 2))).trans ?_
    refine (congrArg (fun f => norm f _ _ _ (x 2)) (funext fun k => half_at _ _ _ _ _ (by omega) x0 x1 x2 x3 x4 x5 (x 1) k)).trans ?_
    exact congrArg₂ (fun a b => norm (resB x0 x1 x2 x3 x4 x5 a) _ _ _ b) (Fin.ext (by dsimp only; omega)) (Fin.ext (by omega))

end Cert.Out

end
-- ==== Proof.OutFinal.lean ====
/- The output projection's two result arrays: at every index the formulas of the inputs.

   Grid point `t` works on batch `t / 8` and run `t % 8` of 512 rows. -/
module

public import proofs.«01_k».proof.Proof.OutBlock
public import proofs.«01_k».proof.Proof.Gen.Kernel3Ideal.Value

@[expose] public section

set_option maxRecDepth 65536

noncomputable section

open Idealize.ShloMosaic Idealize.ShloMosaic.TcCoe Idealize.SL.Sem

namespace Cert.Out

open Cert.Kernel3Ideal Cert.Kernel3Ideal.Gen

/-- The blocks of the windows, by grid point. -/
theorem idx : ∀ t : Fin cfg0.N, win0_0.index t = ![t.val / 8, t.val % 8, 0] ∧ win0_1.index t = ![t.val / 8, t.val % 8, 0]
    ∧ win0_2.index t = ![t.val % 8, t.val / 8] ∧ win0_3.index t = ![1, 0, 0] ∧ win0_4.index t = ![t.val / 8, t.val % 8, 0]
    ∧ win0_5.index t = ![1, t.val / 8, 2, 0, 0] ∧ win0_6.index t = ![1, 0, 0] ∧ win0_7.index t = ![1, t.val / 8, 4, 0, 0]
    ∧ win0_8.index t = ![1, t.val / 8, 3, 0, 0] ∧ win0_9.index t = ![t.val / 8, t.val % 8, 0] ∧ win0_10.index t = ![t.val / 8, t.val % 8, 0] :=
  (by decide +kernel : ∀ t : Fin grid0.N, _)

variable (m : (ℓ : Loc nD τ sig) → Buf (Elt Ideal) ℓ)

/-- There are 32 points. -/
theorem lt32 (t : Fin cfg0.N) : t.val < 32 := Nat.lt_of_lt_of_eq t.isLt N_0

/-- The batch of a point. -/
def bt (t : Fin cfg0.N) : Fin 4 := ⟨t.val / 8, by have := lt32 t; omega⟩

/-- The kernel's inputs. -/
def insK (c : Dev nD) : Ins where
  om b i k := m ((c : Thread nD τ).loc main_arg0) (ix3 b i k)
  on b i k := m ((c : Thread nD τ).loc main_arg1) (ix3 b i k)
  of b i k := m ((c : Thread nD τ).loc main_arg2) (ix2 i ⟨b.val * 512 + k.val, by omega⟩)
  w k d := m ((c : Thread nD τ).loc main_arg3) (ix3 1 k d)
  x b i d := m ((c : Thread nD τ).loc main_arg4) (ix3 b i d)
  gt b d := m ((c : Thread nD τ).loc main_arg6) (ix5 1 ⟨b.val, by omega⟩ 2 0 d)
  g d := m ((c : Thread nD τ).loc main_arg5) (ix3 1 0 d)
  sc b d := m ((c : Thread nD τ).loc main_arg6) (ix5 1 ⟨b.val, by omega⟩ 4 0 d)
  sh b d := m ((c : Thread nD τ).loc main_arg6) (ix5 1 ⟨b.val, by omega⟩ 3 0 d)

/-- A run's rows of the first mixer. -/
theorem iblk0_at (c : Dev nD) (t : Fin cfg0.N) (r : Fin 512) (k : Fin 1024) : (iblk m c 0 t : Vec Ideal S1x512x1024 .bf16) (ix3 0 r k)
    = (insK m c).om (bt t) ⟨t.val % 8 * 512 + r.val, by omega⟩ k := by
  dsimp only [insK, bt]
  blk_point [iblk, V, idx t]

/-- Of the second. -/
theorem iblk1_at (c : Dev nD) (t : Fin cfg0.N) (r : Fin 512) (k : Fin 512) : (iblk m c 1 t : Vec Ideal S1x512x512 .bf16) (ix3 0 r k)
    = (insK m c).on (bt t) ⟨t.val % 8 * 512 + r.val, by omega⟩ k := by
  dsimp only [insK, bt]
  blk_point [iblk, V, idx t]

/-- Of the third, which has its batches side by side. -/
theorem iblk2_at (c : Dev nD) (t : Fin cfg0.N) (r : Fin 512) (k : Fin 512) : (iblk m c 2 t : Vec Ideal S512x512 .bf16) (ix2 r k)
    = (insK m c).of (bt t) ⟨t.val % 8 * 512 + r.val, by omega⟩ k := by
  dsimp only [insK, bt]
  blk_point [iblk, V, idx t]

/-- The weights. -/
theorem iblk3_at (c : Dev nD) (t : Fin cfg0.N) (k d : Fin 2048) : (iblk m c 3 t : Vec Ideal S1x2048x2048 .bf16) (ix3 0 k d) = (insK m c).w k d := by
  dsimp only [insK]
  blk_point [iblk, V, idx t]

/-- The residual. -/
theorem iblk4_at (c : Dev nD) (t : Fin cfg0.N) (r : Fin 512) (d : Fin 2048) : (iblk m c 4 t : Vec Ideal S1x512x2048 .f32) (ix3 0 r d)
    = (insK m c).x (bt t) ⟨t.val % 8 * 512 + r.val, by omega⟩ d := by
  dsimp only [insK, bt]
  blk_point [iblk, V, idx t]

/-- The gate. -/
theorem iblk5_at (c : Dev nD) (t : Fin cfg0.N) (d : Fin 2048) : (iblk m c 5 t : Vec Ideal S1x1x1x1x2048 .f32) (ix5 0 0 0 0 d) = (insK m c).gt (bt t) d := by
  have := lt32 t
  dsimp only [insK, bt]
  blk_point [iblk, V, idx t]

/-- The norm's weights. -/
theorem iblk6_at (c : Dev nD) (t : Fin cfg0.N) (d : Fin 2048) : (iblk m c 6 t : Vec Ideal S1x1x2048 .f32) (ix3 0 0 d) = (insK m c).g d := by
  dsimp only [insK]
  blk_point [iblk, V, idx t]

/-- The scale. -/
theorem iblk7_at (c : Dev nD) (t : Fin cfg0.N) (d : Fin 2048) : (iblk m c 7 t : Vec Ideal S1x1x1x1x2048 .f32) (ix5 0 0 0 0 d) = (insK m c).sc (bt t) d := by
  have := lt32 t
  dsimp only [insK, bt]
  blk_point [iblk, V, idx t]

/-- The shift. -/
theorem iblk8_at (c : Dev nD) (t : Fin cfg0.N) (d : Fin 2048) : (iblk m c 8 t : Vec Ideal S1x1x1x1x2048 .f32) (ix5 0 0 0 0 d) = (insK m c).sh (bt t) d := by
  have := lt32 t
  dsimp only [insK, bt]
  blk_point [iblk, V, idx t]

/-- A point's residual is the formula at its rows. -/
theorem resB_eq (c : Dev nD) (t : Fin cfg0.N) (r : Fin 512) (d : Fin 2048) :
    resB (iblk m c 0 t) (iblk m c 1 t) (iblk m c 2 t) (iblk m c 3 t) (iblk m c 4 t) (iblk m c 5 t) r d
      = (insK m c).res (bt t) ⟨t.val % 8 * 512 + r.val, by omega⟩ d := by
  rw [resB, Ins.res, Ins.proj_eq, iblk4_at, iblk5_at]
  simp only [iblk0_at, iblk1_at, iblk2_at, iblk3_at]

/-- The residual at every index. -/
def arrRes (I : Ins) : Vec Ideal S4x4096x2048 .f32 := fun y => I.res (y 0) (y 1) (y 2)

/-- The normalised, modulated rows at every index. -/
def arrHid (I : Ins) : Vec Ideal S4x4096x2048 .bf16 := fun y => I.hid (y 0) (y 1) (y 2)

/-- A formula read at coordinates named otherwise. -/
theorem at_eq (f : Fin 4 → Fin 4096 → Fin 2048 → EReal) (y : S4x4096x2048.Idx) (b : Fin 4) (i : Fin 4096) (d : Fin 2048) (hb : (y 0).val = b.val)
    (hi : (y 1).val = i.val) (hd : (y 2).val = d.val) : f b i d = f (y 0) (y 1) (y 2) :=
  congr (congr (congrArg f (Fin.ext hb.symm)) (Fin.ext hi.symm)) (Fin.ext hd.symm)

/-- POINT, first output: what a point leaves at a block index is the formula at the array index that sits there. -/
theorem point9 (c : Dev nD) (t : Fin cfg0.N) (y : S1x512x2048.Idx) (j : S4x4096x2048.Idx)
    (e0 : (j 0).val = t.val / 8) (e1 : (j 1).val = t.val % 8 * 512 + (y 1).val) (e2 : (j 2).val = (y 2).val) :
    out0_9 (iblk m c 0 t) (iblk m c 1 t) (iblk m c 2 t) (iblk m c 3 t) (iblk m c 4 t) (iblk m c 5 t) (iblk m c 6 t) (iblk m c 7 t) (iblk m c 8 t) y
      = arrRes (insK m c) j := by
  rw [out9_eq]
  exact (resB_eq m c t (y 1) (y 2)).trans (at_eq _ _ _ _ _ e0 e1 e2)

/-- POINT, second output. -/
theorem point10 (c : Dev nD) (t : Fin cfg0.N) (y : S1x512x2048.Idx) (j : S4x4096x2048.Idx)
    (e0 : (j 0).val = t.val / 8) (e1 : (j 1).val = t.val % 8 * 512 + (y 1).val) (e2 : (j 2).val = (y 2).val) :
    out0_10 (iblk m c 0 t) (iblk m c 1 t) (iblk m c 2 t) (iblk m c 3 t) (iblk m c 4 t) (iblk m c 5 t) (iblk m c 6 t) (iblk m c 7 t) (iblk m c 8 t) y
      = arrHid (insK m c) j := by
  rw [out10_eq]
  simp only [iblk6_at, iblk7_at, iblk8_at]
  refine (congrArg (fun f => norm f _ _ _ (y 2)) (funext fun d => resB_eq m c t (y 1) d)).trans ?_
  exact at_eq (insK m c).hid _ _ _ _ e0 e1 e2

/-- THE FIRST RESULT ARRAY: at every index the formula of the inputs. -/
theorem final9 (c : Dev nD) : (dats m 0 c).arrAt 9 cfg0.N = arrRes (insK m c) := by
  refine (dats m 0 c).arrAt_eq_of_covers 9 _ (by decide +kernel) fun t hf y => ?_
  blk_simp
  rw [after0_9]
  refine point9 m c t y _ ?_ ?_ ?_
  all_goals (blk_simp [idx t] <;> try omega)

/-- THE SECOND RESULT ARRAY: at every index the formula of the inputs. -/
theorem final10 (c : Dev nD) : (dats m 0 c).arrAt 10 cfg0.N = arrHid (insK m c) := by
  refine (dats m 0 c).arrAt_eq_of_covers 10 _ (by decide +kernel) fun t hf y => ?_
  blk_simp
  rw [after0_10]
  refine point10 m c t y _ ?_ ?_ ?_
  all_goals (blk_simp [idx t] <;> try omega)

end Cert.Out

end
-- ==== Proof.OutRef.lean ====
/- What the reference of the output projection computes: the formulas of its inputs. -/
module

public import proofs.«01_k».proof.Proof.Gen.Reference3Ideal.Run
public import proofs.«01_k».proof.Proof.OutSpec

@[expose] public section

set_option maxRecDepth 16384

noncomputable section

open Idealize.ShloMosaic Idealize.ShloMosaic.TcCoe Idealize.SL.Sem

namespace Cert.Reference3Ideal.Value

open Cert.Reference3Ideal Cert.Reference3Ideal.Gen

/-- The mixers' columns side by side. -/
def rowT (om : FVec Ideal S4x4096x1024 .bf16) (on : FVec Ideal S4x4096x512 .bf16) (of : FVec Ideal S4096x2048 .bf16) : FVec Ideal S4x4096x2048 .f32 :=
  concatenate S4x4096x2048 2 [⟨S4x4096x1024, extf .f32 om bitsLt_bf16_f32⟩, ⟨S4x4096x512, extf .f32 on bitsLt_bf16_f32⟩,
    ⟨S4x4096x512, transpose S4x4096x512 [1, 0, 2] (shapeCast _ (extf .f32 of bitsLt_bf16_f32) shapeCasts_S4096x2048_S4096x4x512) transposes_S4096x4x512_S4x4096x512_1_0_2⟩]
    concatenates_S4x4096x1024_S4x4096x512_S4x4096x512_S4x4096x2048_d2

/-- The residual. -/
def resT (r : FVec Ideal S4x4096x2048 .f32) (w : FVec Ideal S2x2048x2048 .bf16) (x : FVec Ideal S4x4096x2048 .f32) (mod : FVec Ideal S2x8x6x1x2048 .f32) :
    FVec Ideal S4x4096x2048 .f32 :=
  addf x (mulf (broadcastInDim S4x4096x2048 ![0, 1, 2] bcast_S4x1x2048_S4x4096x2048_0_1_2 (shapeCast _ (extractStridedSlice S1x4x1x1x2048 ![1, 0, 2, 0, 0] mod
      slices_S2x8x6x1x2048_S1x4x1x1x2048_1_0_2_0_0) shapeCasts_S1x4x1x1x2048_S4x1x2048))
    (Host.dotGeneral dot_S4x4096x2048_S2048x2048_S4x4096x2048_2_0_01_1_n_n none r (shapeCast _ (extractStridedSlice S1x2048x2048 ![1, 0, 0] (extf .f32 w bitsLt_bf16_f32)
      slices_S2x2048x2048_S1x2048x2048_1_0_0) shapeCasts_S1x2048x2048_S2048x2048)))

/-- The norm and the modulation. -/
def hidT (y : FVec Ideal S4x4096x2048 .f32) (g : FVec Ideal S2x1x2048 .f32) (mod : FVec Ideal S2x8x6x1x2048 .f32) : FVec Ideal S4x4096x2048 .bf16 :=
  truncf .bf16 (addf (mulf (mulf (mulf y (broadcastInDim S4x4096x2048 ![0, 1, 2] bcast_S4x4096x1_S4x4096x2048_0_1_2 (Host.rsqrt (addf (Host.divf
      (broadcastInDim S4x4096x1 ![0, 1] bcast_S4x4096_S4x4096x1_0_1 (Host.reduceAdd (mulf y y) (constant S_ .f32 0x00000000#32) reducesTo_S4x4096x2048_S4x4096_d2 h_S_))
      (broadcastInDim S4x4096x1 ![] bcast_S_S4x4096x1 (constant S_ .f32 0x45000000#32))) (broadcastInDim S4x4096x1 ![] bcast_S_S4x4096x1 (constant S_ .f32 0x358637BD#32))))))
    (broadcastInDim S4x4096x2048 ![0, 1, 2] bcast_S1x1x2048_S4x4096x2048_0_1_2 (broadcastInDim S1x1x2048 ![2] bcast_S2048_S1x1x2048_2 (shapeCast _
      (extractStridedSlice S1x1x2048 ![1, 0, 0] g slices_S2x1x2048_S1x1x2048_1_0_0) shapeCasts_S1x1x2048_S2048))))
    (broadcastInDim S4x4096x2048 ![0, 1, 2] bcast_S4x1x2048_S4x4096x2048_0_1_2 (addf (broadcastInDim S4x1x2048 ![] bcast_S_S4x1x2048 (constant S_ .f32 0x3F800000#32))
      (shapeCast _ (extractStridedSlice S1x4x1x1x2048 ![1, 0, 4, 0, 0] mod slices_S2x8x6x1x2048_S1x4x1x1x2048_1_0_4_0_0) shapeCasts_S1x4x1x1x2048_S4x1x2048))))
    (broadcastInDim S4x4096x2048 ![0, 1, 2] bcast_S4x1x2048_S4x4096x2048_0_1_2 (shapeCast _ (extractStridedSlice S1x4x1x1x2048 ![1, 0, 3, 0, 0] mod
      slices_S2x8x6x1x2048_S1x4x1x1x2048_1_0_3_0_0) shapeCasts_S1x4x1x1x2048_S4x1x2048))) bitsLt_bf16_f32

/-- A column of the mixers' rows. -/
theorem rowT_at (om : FVec Ideal S4x4096x1024 .bf16) (on : FVec Ideal S4x4096x512 .bf16) (of : FVec Ideal S4096x2048 .bf16) (b : Fin 4) (i : Fin 4096) (k : Fin 2048) :
    rowT om on of (ix3 b i k) = (if h : k.val < 1024 then om (ix3 b i ⟨k.val, h⟩) else if h' : k.val < 1536 then on (ix3 b i ⟨k.val - 1024, by omega⟩)
      else of (ix2 i ⟨b.val * 512 + (k.val - 1536), by omega⟩) : EReal) := by
  pointwise [rowT]
  by_cases h : k.val < 1024
  · rw [dif_pos h, dif_pos h]
  · rw [dif_neg h, dif_neg h]
    by_cases h' : k.val < 1536
    · rw [dif_pos (by omega), dif_pos h']
    · rw [dif_neg (by omega), dif_neg h']
      exact congrArg (fun a => of (ix2 i a)) (Fin.ext (by dsimp only; omega))

/-- The residual at an index. -/
theorem resT_at (r : FVec Ideal S4x4096x2048 .f32) (w : FVec Ideal S2x2048x2048 .bf16) (x : FVec Ideal S4x4096x2048 .f32) (mod : FVec Ideal S2x8x6x1x2048 .f32)
    (b : Fin 4) (i : Fin 4096) (d : Fin 2048) : resT r w x mod (ix3 b i d)
      = (x (ix3 b i d) + mod (ix5 1 ⟨b.val, by omega⟩ 2 0 d) * ∑ k : Fin 2048, r (ix3 b i k) * w (ix3 1 k d) : EReal) := by
  pointwise [resT]

/-- The normalised, modulated rows at an index. -/
theorem hidT_at (y : FVec Ideal S4x4096x2048 .f32) (g : FVec Ideal S2x1x2048 .f32) (mod : FVec Ideal S2x8x6x1x2048 .f32) (b : Fin 4) (i : Fin 4096) (d : Fin 2048) :
    hidT y g mod (ix3 b i d) = (y (ix3 b i d) * Ideal.rsqrt (Ideal.div (∑ k : Fin 2048, y (ix3 b i k) * y (ix3 b i k)) (Ideal.ofBits .f32 0x45000000#32)
      + Ideal.ofBits .f32 0x358637BD#32) * g (ix3 1 0 d) * (Ideal.ofBits .f32 0x3F800000#32 + mod (ix5 1 ⟨b.val, by omega⟩ 4 0 d))
      + mod (ix5 1 ⟨b.val, by omega⟩ 3 0 d) : EReal) := by
  pointwise [hidT]

variable (m : (ℓ : Loc nD τ sig) → Buf (Elt Ideal) ℓ) (c : Dev nD)

/-- The reference's inputs. -/
def ins : Out.Ins where
  om b i k := m ((c.tc : Thread nD τ).loc main_arg0) (ix3 b i k)
  on b i k := m ((c.tc : Thread nD τ).loc main_arg1) (ix3 b i k)
  of b i k := m ((c.tc : Thread nD τ).loc main_arg2) (ix2 i ⟨b.val * 512 + k.val, by omega⟩)
  w k d := m ((c.tc : Thread nD τ).loc main_arg3) (ix3 1 k d)
  x b i d := m ((c.tc : Thread nD τ).loc main_arg4) (ix3 b i d)
  gt b d := m ((c.tc : Thread nD τ).loc main_arg6) (ix5 1 ⟨b.val, by omega⟩ 2 0 d)
  g d := m ((c.tc : Thread nD τ).loc main_arg5) (ix3 1 0 d)
  sc b d := m ((c.tc : Thread nD τ).loc main_arg6) (ix5 1 ⟨b.val, by omega⟩ 4 0 d)
  sh b d := m ((c.tc : Thread nD τ).loc main_arg6) (ix5 1 ⟨b.val, by omega⟩ 3 0 d)

/-- The reference's first result: the residual. -/
def resM : FVec Ideal S4x4096x2048 .f32 :=
  resT (rowT (m ((c.tc : Thread nD τ).loc main_arg0)) (m ((c.tc : Thread nD τ).loc main_arg1)) (m ((c.tc : Thread nD τ).loc main_arg2)))
    (m ((c.tc : Thread nD τ).loc main_arg3)) (m ((c.tc : Thread nD τ).loc main_arg4)) (m ((c.tc : Thread nD τ).loc main_arg6))

/-- Its second result comes from the first. -/
theorem res_eq : res_main_v40 m c = hidT (resM m c) (m ((c.tc : Thread nD τ).loc main_arg5)) (m ((c.tc : Thread nD τ).loc main_arg6)) := rfl

/-- THE FIRST RESULT is the formula of the inputs. -/
theorem res_at (b : Fin 4) (i : Fin 4096) (d : Fin 2048) : resM m c (ix3 b i d) = (ins m c).res b i d := by
  rw [resM, resT_at]
  simp only [rowT_at]
  rfl

/-- THE SECOND RESULT is the formula of the inputs. -/
theorem hid_at (b : Fin 4) (i : Fin 4096) (d : Fin 2048) : res_main_v40 m c (ix3 b i d) = (ins m c).hid b i d := by
  rw [res_eq, hidT_at]
  simp only [res_at]
  rfl

end Cert.Reference3Ideal.Value

end
-- ==== Proof.OutMeets.lean ====
/- The output projection's kernel meets the reference: on equal inputs the same two arrays. -/
module

public import proofs.«01_k».proof.Proof.OutFinal
public import proofs.«01_k».proof.Proof.OutRef

@[expose] public section

noncomputable section

open Idealize.ShloMosaic Idealize.ShloMosaic.TcCoe Idealize.SL.Sem

namespace Cert.Out

open Cert.Reference3Ideal Cert.Reference3Ideal.Gen Cert.Reference3Ideal.Value

/-- An index of a result, by its coordinates. -/
theorem idx_out (y : S4x4096x2048.Idx) : y = ix3 (y 0) (y 1) (y 2) := by
  funext a
  fin_cases a <;> rfl

/-- The reference's first array is the formula of its inputs: `arrRes`, as the kernel's is. -/
theorem resM_eq (m : (ℓ : Loc nD τ sig) → Buf (Elt Ideal) ℓ) (c : Dev nD) : resM m c = arrRes (ins m c) := by
  funext y
  exact (congrArg _ (idx_out y)).trans (res_at m c (y 0) (y 1) (y 2))

/-- Its second is `arrHid`. -/
theorem hidM_eq (m : (ℓ : Loc nD τ sig) → Buf (Elt Ideal) ℓ) (c : Dev nD) : res_main_v40 m c = arrHid (ins m c) := by
  funext y
  exact (congrArg _ (idx_out y)).trans (hid_at m c (y 0) (y 1) (y 2))

/-- Equal arguments are equal inputs. -/
theorem ins_eq (m : (ℓ : Loc Cert.Kernel3Ideal.nD Cert.Kernel3Ideal.τ Cert.Kernel3Ideal.sig) → Buf (Elt Ideal) ℓ)
    (m' : (ℓ : Loc nD τ sig) → Buf (Elt Ideal) ℓ) (c : Dev nD)
    (h : m' ((c : Thread nD τ).loc main_arg0) = m ((c : Thread Cert.Kernel3Ideal.nD Cert.Kernel3Ideal.τ).loc Cert.Kernel3Ideal.main_arg0)
      ∧ m' ((c : Thread nD τ).loc main_arg1) = m ((c : Thread Cert.Kernel3Ideal.nD Cert.Kernel3Ideal.τ).loc Cert.Kernel3Ideal.main_arg1)
      ∧ m' ((c : Thread nD τ).loc main_arg2) = m ((c : Thread Cert.Kernel3Ideal.nD Cert.Kernel3Ideal.τ).loc Cert.Kernel3Ideal.main_arg2)
      ∧ m' ((c : Thread nD τ).loc main_arg3) = m ((c : Thread Cert.Kernel3Ideal.nD Cert.Kernel3Ideal.τ).loc Cert.Kernel3Ideal.main_arg3)
      ∧ m' ((c : Thread nD τ).loc main_arg4) = m ((c : Thread Cert.Kernel3Ideal.nD Cert.Kernel3Ideal.τ).loc Cert.Kernel3Ideal.main_arg4)
      ∧ m' ((c : Thread nD τ).loc main_arg5) = m ((c : Thread Cert.Kernel3Ideal.nD Cert.Kernel3Ideal.τ).loc Cert.Kernel3Ideal.main_arg5)
      ∧ m' ((c : Thread nD τ).loc main_arg6) = m ((c : Thread Cert.Kernel3Ideal.nD Cert.Kernel3Ideal.τ).loc Cert.Kernel3Ideal.main_arg6)) :
    ins m' c = insK m c := by
  obtain ⟨h0, h1, h2, h3, h4, h5, h6⟩ := h
  unfold ins insK
  rw [Ins.mk.injEq]
  refine ⟨?_, ?_, ?_, ?_, ?_, ?_, ?_, ?_, ?_⟩
  · funext b i k; exact congrFun h0 _
  · funext b i k; exact congrFun h1 _
  · funext b i k; exact congrFun h2 _
  · funext k d; exact congrFun h3 _
  · funext b i d; exact congrFun h4 _
  · funext b d; exact congrFun h6 _
  · funext d; exact congrFun h5 _
  · funext b d; exact congrFun h6 _
  · funext b d; exact congrFun h6 _

end Cert.Out

end
-- ==== Proof.InpSpec.lean ====
/- The input projections of a layer's rows: every row is normalised and modulated, and goes through the projections on its own, so
   the formulas are those of one row. -/
module

public import proofs.«01_k».proof.Proof.OutSpec

@[expose] public section

noncomputable section

open Idealize.ShloMosaic

namespace Cert.Inp

/-- A latent `y` through the norm with weights `g`. -/
def rms (y g : Fin 512 → EReal) (j : Fin 512) : EReal :=
  y j * Ideal.rsqrt (Ideal.div (∑ k : Fin 512, y k * y k) (Ideal.ofBits .f32 0x44000000#32) + Ideal.ofBits .f32 0x358637BD#32) * g j

/-- The lane half a head away. -/
def partner (e : Fin 128) : Fin 128 := ⟨(e.val + 64) % 128, by omega⟩

/-- The rotation of a head's rotary lanes. -/
def rot (r cos sin : Fin 128 → EReal) (e : Fin 128) : EReal := r e * cos e + r (partner e) * sin e

/-- What a row's results depend on: the row, the weights, and the row's angles. -/
structure Row where
  /-- the row -/
  x : Fin 2048 → EReal
  /-- weights of the norm -/
  g : Fin 2048 → EReal
  /-- scale of the normalised row -/
  sc : Fin 2048 → EReal
  /-- shift of the normalised row -/
  sh : Fin 2048 → EReal
  /-- to the latents: the queries' 512 and the keys' and values' 512 -/
  wl : Fin 2048 → Fin 1024 → EReal
  /-- to the other mixers: 512 columns of queries, keys, values and Fourier rows each -/
  wm : Fin 2048 → Fin 2048 → EReal
  /-- to the shared rotary lanes of the keys -/
  wr : Fin 2048 → Fin 128 → EReal
  /-- weights of the queries' latent norm -/
  gq : Fin 512 → EReal
  /-- weights of the keys' and values' latent norm -/
  gkv : Fin 512 → EReal
  /-- from the latent to the queries -/
  wq : Fin 512 → Fin 2048 → EReal
  /-- from the latent to the keys and the values -/
  wkv : Fin 512 → Fin 2048 → EReal
  /-- cosines -/
  cos : Fin 128 → EReal
  /-- sines -/
  sin : Fin 128 → EReal

namespace Row

variable (R : Row)

/-- The row normalised and modulated. -/
def h (k : Fin 2048) : EReal := Out.norm R.x R.g R.sc R.sh k

/-- The latents. -/
def lat (j : Fin 1024) : EReal := ∑ k : Fin 2048, R.h k * R.wl k j

/-- The queries' latent, normalised. -/
def cq (j : Fin 512) : EReal := rms (fun i => R.lat ⟨i.val, by omega⟩) R.gq j

/-- The keys' and values' latent, normalised. -/
def ckv (j : Fin 512) : EReal := rms (fun i => R.lat ⟨512 + i.val, by omega⟩) R.gkv j

/-- The queries before the rotation, with the score's scale and `log2 e`. -/
def q0 (d : Fin 2048) : EReal := (∑ j : Fin 512, R.cq j * R.wq j d) * Ideal.ofBits .f32 0x3DD53B95#32

/-- The queries: of a head's 256 columns the last 128 are rotated. -/
def q (d : Fin 2048) : EReal :=
  if d.val % 256 < 128 then R.q0 d
  else rot (fun e => R.q0 ⟨d.val / 256 * 256 + (e.val + 128), by omega⟩) R.cos R.sin ⟨d.val % 256 - 128, by omega⟩

/-- The keys' own lanes and the values. -/
def kv (d : Fin 2048) : EReal := ∑ j : Fin 512, R.ckv j * R.wkv j d

/-- The keys' own lanes. -/
def k (d : Fin 1024) : EReal := R.kv ⟨d.val, by omega⟩

/-- The values. -/
def v (d : Fin 1024) : EReal := R.kv ⟨1024 + d.val, by omega⟩

/-- The shared rotary lanes of the keys. -/
def kr (e : Fin 128) : EReal := rot (fun a => ∑ k : Fin 2048, R.h k * R.wr k a) R.cos R.sin e

/-- The other mixers' columns. -/
def mix (j : Fin 2048) : EReal := ∑ k : Fin 2048, R.h k * R.wm k j

/-- The neighbourhood attention's queries, with the score's scale and `log2 e`. -/
def qn (j : Fin 512) : EReal := R.mix ⟨j.val, by omega⟩ * Ideal.ofBits .f32 0x3E0293EE#32

/-- Its keys. -/
def kn (j : Fin 512) : EReal := R.mix ⟨512 + j.val, by omega⟩

/-- Its values. -/
def vn (j : Fin 512) : EReal := R.mix ⟨1024 + j.val, by omega⟩

/-- The Fourier rows. -/
def f (j : Fin 512) : EReal := R.mix ⟨1536 + j.val, by omega⟩

end Row

end Cert.Inp

end
-- ==== Proof.InpHalf.lean ====
/- What a grid point of the input projection's kernel computes from half a block of rows: each stage at an index. -/
module

public import proofs.«01_k».proof.Proof.Gen.Kernel4Ideal.Frame
public import proofs.«01_k».proof.Proof.InpSpec

@[expose] public section

set_option maxRecDepth 65536

noncomputable section

open Idealize.ShloMosaic Idealize.ShloMosaic.TcCoe Idealize.SL.Sem

namespace Cert.Inp

open Cert.Kernel4Ideal Cert.Kernel4Ideal.Gen

/-- The normalised, modulated rows. -/
theorem pay1_at (v0 : Vec Ideal S1x256x2048 .f32) (g : Vec Ideal S1x1x2048 .f32) (sc sh : Vec Ideal S1x1x1x1x2048 .f32) (r : Fin 256) (k : Fin 2048) :
    k0_pay1 v0 g sc sh (ix2 r k) = Out.norm (fun k => v0 (ix3 0 r k)) (fun k => g (ix3 0 0 k)) (fun k => sc (ix5 0 0 0 0 k)) (fun k => sh (ix5 0 0 0 0 k)) k := by
  pointwise [k0_pay1, Out.norm]

/-- 512 columns of a projection, scaled. -/
def scaled (h : FVec Ideal S256x2048 .bf16) (w : Vec Ideal S1x2048x512 .bf16) : FVec Ideal S1x256x512 .bf16 :=
  shapeCast S1x256x512 (truncf .bf16 (mulf (matmul (φ₂ := .bf16) dot_S256x2048_S2048x512_S256x512_1_0_0_1_n_n none h (shapeCast S2048x512 w shapeCasts_S1x2048x512_S2048x512)
    (constant S256x512 .f32 0x00000000#32)) (broadcast S256x512 (Scalar.ofBits .f32 0x3E0293EE#32))) bitsLt_bf16_f32) shapeCasts_S256x512_S1x256x512

/-- … at an index. -/
theorem scaled_at (h : FVec Ideal S256x2048 .bf16) (w : Vec Ideal S1x2048x512 .bf16) (r : Fin 256) (j : Fin 512) :
    scaled h w (ix3 0 r j) = (∑ k : Fin 2048, h (ix2 r k) * w (ix3 0 k j)) * Ideal.ofBits .f32 0x3E0293EE#32 := by
  pointwise [scaled]

/-- 512 columns of a projection. -/
theorem pay4_at (h : FVec Ideal S256x2048 .bf16) (w : Vec Ideal S1x2048x512 .bf16) (r : Fin 256) (j : Fin 512) :
    k0_pay4 h w (ix3 0 r j) = ∑ k : Fin 2048, h (ix2 r k) * w (ix3 0 k j) := by
  pointwise [k0_pay4]

/-- … stored with the batches side by side. -/
theorem pay6_at (h : FVec Ideal S256x2048 .bf16) (w : Vec Ideal S1x2048x512 .bf16) (r : Fin 256) (j : Fin 512) :
    k0_pay6 h w (ix2 r j) = ∑ k : Fin 2048, h (ix2 r k) * w (ix3 0 k j) := by
  pointwise [k0_pay6]

/-- The queries before the rotation. -/
theorem pay8_at (h : FVec Ideal S256x2048 .bf16) (w : Vec Ideal S1x2048x512 .bf16) (g : Vec Ideal S1x1x512 .f32) (wq : Vec Ideal S1x512x2048 .bf16) (r : Fin 256)
    (d : Fin 2048) : k0_pay8 h (k0_pay7 w) g wq (ix2 r d)
      = (∑ j : Fin 512, rms (fun j => ∑ k : Fin 2048, h (ix2 r k) * w (ix3 0 k j)) (fun j => g (ix3 0 0 j)) j * wq (ix3 0 j d)) * Ideal.ofBits .f32 0x3DD53B95#32 := by
  pointwise [k0_pay8, k0_pay7, rms]

/-- The keys' and values' latent, normalised. -/
theorem pay63_at (h : FVec Ideal S256x2048 .bf16) (w : Vec Ideal S1x2048x512 .bf16) (g : Vec Ideal S1x1x512 .f32) (r : Fin 256) (j : Fin 512) :
    k0_pay63 h w g (ix2 r j) = rms (fun j => ∑ k : Fin 2048, h (ix2 r k) * w (ix3 0 k j)) (fun j => g (ix3 0 0 j)) j := by
  pointwise [k0_pay63, rms]

/-- 1024 columns of keys or values. -/
theorem pay64_at (c : FVec Ideal S256x512 .bf16) (w : Vec Ideal S1x512x1024 .bf16) (r : Fin 256) (d : Fin 1024) :
    k0_pay64 c w (ix3 0 r d) = ∑ j : Fin 512, c (ix2 r j) * w (ix3 0 j d) := by
  pointwise [k0_pay64]

/-- The rotation of 128 lanes. -/
def turn (u cos sin : FVec Ideal S256x128 .f32) : FVec Ideal S256x128 .f32 := addf (mulf u cos) (mulf (dynamicRotate 1 64#32 none u rotates_S256x128_d1) sin)

/-- … at an index. -/
theorem turn_at (u cos sin : FVec Ideal S256x128 .f32) (r : Fin 256) (e : Fin 128) :
    turn u cos sin (ix2 r e) = rot (fun a => u (ix2 r a)) (fun a => cos (ix2 r a)) (fun a => sin (ix2 r a)) e := by
  pointwise [turn, rot, partner]
  refine congrArg (fun a => _ + u (ix2 r a) * _) (Fin.ext ?_)
  show (e.val + 128 - 64) % 128 = (e.val + 64) % 128
  omega

/-- 128 of the queries' columns that are not rotated. -/
def nope (n : ℕ) (hs : S256x2048.Slices ![0, n] S256x128) (v : FVec Ideal S256x2048 .f32) : FVec Ideal S1x256x128 .bf16 :=
  shapeCast S1x256x128 (truncf .bf16 (extractStridedSlice S256x128 ![0, n] v hs) bitsLt_bf16_f32) shapeCasts_S256x128_S1x256x128

/-- … at an index. -/
theorem nope_at (n : ℕ) (hs) (hn : n + 128 ≤ 2048) (v : FVec Ideal S256x2048 .f32) (r : Fin 256) (e : Fin 128) :
    nope n hs v (ix3 0 r e) = v (ix2 r ⟨n + e.val, by omega⟩) := by
  pointwise [nope]

/-- 128 lanes before the rotation. -/
theorem lanes_at (n : ℕ) (hs : S256x2048.Slices ![0, n] S256x128) (hn : n + 128 ≤ 2048) (v : FVec Ideal S256x2048 .f32) (r : Fin 256) (e : Fin 128) :
    extractStridedSlice S256x128 ![0, n] v hs (ix2 r e) = v (ix2 r ⟨n + e.val, by omega⟩) := by
  pointwise []

/-- A rotation stored. -/
def stored (u : FVec Ideal S256x128 .f32) : FVec Ideal S1x256x128 .bf16 := shapeCast S1x256x128 (truncf .bf16 u bitsLt_bf16_f32) shapeCasts_S256x128_S1x256x128

/-- … at an index. -/
theorem stored_at (u : FVec Ideal S256x128 .f32) (r : Fin 256) (e : Fin 128) : stored u (ix3 0 r e) = u (ix2 r e) := by
  pointwise [stored]

/-- 128 of the queries' columns, rotated. -/
def rope (n : ℕ) (hs : S256x2048.Slices ![0, n] S256x128) (cos sin : FVec Ideal S256x128 .f32) (v : FVec Ideal S256x2048 .f32) : FVec Ideal S1x256x128 .bf16 :=
  stored (turn (extractStridedSlice S256x128 ![0, n] v hs) cos sin)

/-- … at an index. -/
theorem rope_at (n : ℕ) (hs) (hn : n + 128 ≤ 2048) (cos sin : FVec Ideal S256x128 .f32) (v : FVec Ideal S256x2048 .f32) (r : Fin 256) (e : Fin 128) :
    rope n hs cos sin v (ix3 0 r e) = rot (fun a => v (ix2 r ⟨n + a.val, by omega⟩)) (fun a => cos (ix2 r a)) (fun a => sin (ix2 r a)) e := by
  rw [rope, stored_at, turn_at]
  exact congrArg (fun f => rot f _ _ e) (funext fun a => lanes_at n hs hn v r a)

/-- The keys' shared lanes before the rotation. -/
def keyLanes (h : FVec Ideal S256x2048 .bf16) (w : Vec Ideal S1x2048x128 .bf16) : FVec Ideal S256x128 .f32 :=
  matmul (φ₂ := .bf16) dot_S256x2048_S2048x128_S256x128_1_0_0_1_n_n none h (shapeCast S2048x128 w shapeCasts_S1x2048x128_S2048x128)
    (constant S256x128 .f32 0x00000000#32)

/-- … at an index. -/
theorem keyLanes_at (h : FVec Ideal S256x2048 .bf16) (w : Vec Ideal S1x2048x128 .bf16) (r : Fin 256) (e : Fin 128) :
    keyLanes h w (ix2 r e) = ∑ k : Fin 2048, h (ix2 r k) * w (ix3 0 k e) := by
  pointwise [keyLanes]

end Cert.Inp

end
-- ==== Proof.InpBlock.lean ====
/- What a grid point of the input projection's kernel leaves in its eight output blocks, from its input blocks.

   The point works its 512 rows in two halves of 256, with the same steps. -/
module

public import proofs.«01_k».proof.Proof.InpHalf

@[expose] public section

set_option maxRecDepth 65536

noncomputable section

open Idealize.ShloMosaic Idealize.ShloMosaic.TcCoe Idealize.SL.Sem

namespace Cert.Inp

open Cert.Kernel4Ideal Cert.Kernel4Ideal.Gen

/-- A point's input blocks. -/
structure Blk where
  /-- the rows -/
  x0 : Vec Ideal S1x512x2048 .f32
  /-- the norm's weights -/
  x1 : Vec Ideal S1x1x2048 .f32
  /-- the scale -/
  x2 : Vec Ideal S1x1x1x1x2048 .f32
  /-- the shift -/
  x3 : Vec Ideal S1x1x1x1x2048 .f32
  /-- weights to the latents -/
  x4 : Vec Ideal S1x2048x1024 .bf16
  /-- weights to the other mixers -/
  x5 : Vec Ideal S1x2048x2048 .bf16
  /-- weights to the keys' shared lanes -/
  x6 : Vec Ideal S1x2048x128 .bf16
  /-- weights of the queries' latent norm -/
  x7 : Vec Ideal S1x1x512 .f32
  /-- weights of the keys' and values' latent norm -/
  x8 : Vec Ideal S1x1x512 .f32
  /-- weights from the latent to the queries -/
  x9 : Vec Ideal S1x512x2048 .bf16
  /-- weights from the latent to the keys and values -/
  x10 : Vec Ideal S1x512x2048 .bf16
  /-- cosines -/
  x11 : Vec Ideal S512x128 .f32
  /-- sines -/
  x12 : Vec Ideal S512x128 .f32

variable (B : Blk)

/-- A row of the blocks. -/
def rowB (r : Fin 512) : Row where
  x k := B.x0 (ix3 0 r k)
  g k := B.x1 (ix3 0 0 k)
  sc k := B.x2 (ix5 0 0 0 0 k)
  sh k := B.x3 (ix5 0 0 0 0 k)
  wl k j := B.x4 (ix3 0 k j)
  wm k j := B.x5 (ix3 0 k j)
  wr k a := B.x6 (ix3 0 k a)
  gq j := B.x7 (ix3 0 0 j)
  gkv j := B.x8 (ix3 0 0 j)
  wq j d := B.x9 (ix3 0 j d)
  wkv j d := B.x10 (ix3 0 j d)
  cos a := B.x11 (ix2 r a)
  sin a := B.x12 (ix2 r a)

/-- 256 rows from row `o` on are in the block. -/
abbrev InX (o : ℕ) : Prop := ∀ a, (![0, o, 0] : Fin 3 → ℕ) a + S1x256x2048.size a ≤ S1x512x2048.size a

/-- Rows `o` to `o + 255`, normalised and modulated. -/
def hB (o : ℕ) (h0 : InX o) : FVec Ideal S256x2048 .bf16 :=
  k0_pay1 (View.ld B.x0 (Rect.unit (s := S1x512x2048) ![0, o, 0] S1x256x2048.size h0)) (View.ld B.x1 r0_1) (View.ld B.x2 r0_2) (View.ld B.x3 r0_2)

/-- … at an index. -/
theorem hB_at (o : ℕ) (h0) (ho : o ≤ 256) (r : Fin 256) (k : Fin 2048) : hB B o h0 (ix2 r k) = (rowB B ⟨o + r.val, by omega⟩).h k := by
  pointwise [hB, k0_pay1, rowB, Row.h, Out.norm]

/-- The columns of the weights that a step loads. -/
theorem ld4_0 (x : Vec Ideal S1x2048x1024 .bf16) (k : Fin 2048) (j : Fin 512) : (View.ld x r0_10 : Vec Ideal S1x2048x512 .bf16) (ix3 0 k j) = x (ix3 0 k ⟨j.val, by omega⟩) := by
  pointwise []

/-- … -/
theorem ld4_512 (x : Vec Ideal S1x2048x1024 .bf16) (k : Fin 2048) (j : Fin 512) : (View.ld x r0_29 : Vec Ideal S1x2048x512 .bf16) (ix3 0 k j) = x (ix3 0 k ⟨512 + j.val, by omega⟩) := by
  pointwise []

/-- … -/
theorem ld5_0 (x : Vec Ideal S1x2048x2048 .bf16) (k : Fin 2048) (j : Fin 512) : (View.ld x r0_3 : Vec Ideal S1x2048x512 .bf16) (ix3 0 k j) = x (ix3 0 k ⟨j.val, by omega⟩) := by
  pointwise []

/-- … -/
theorem ld5_512 (x : Vec Ideal S1x2048x2048 .bf16) (k : Fin 2048) (j : Fin 512) : (View.ld x r0_5 : Vec Ideal S1x2048x512 .bf16) (ix3 0 k j) = x (ix3 0 k ⟨512 + j.val, by omega⟩) := by
  pointwise []

/-- … -/
theorem ld5_1024 (x : Vec Ideal S1x2048x2048 .bf16) (k : Fin 2048) (j : Fin 512) : (View.ld x r0_6 : Vec Ideal S1x2048x512 .bf16) (ix3 0 k j) = x (ix3 0 k ⟨1024 + j.val, by omega⟩) := by
  pointwise []

/-- … -/
theorem ld5_1536 (x : Vec Ideal S1x2048x2048 .bf16) (k : Fin 2048) (j : Fin 512) : (View.ld x r0_7 : Vec Ideal S1x2048x512 .bf16) (ix3 0 k j) = x (ix3 0 k ⟨1536 + j.val, by omega⟩) := by
  pointwise []

/-- … -/
theorem ld6 (x : Vec Ideal S1x2048x128 .bf16) (k : Fin 2048) (j : Fin 128) : (View.ld x r0_33 : Vec Ideal S1x2048x128 .bf16) (ix3 0 k j) = x (ix3 0 k j) := by
  pointwise []

/-- … -/
theorem ld7 (x : Vec Ideal S1x1x512 .f32) (j : Fin 512) : (View.ld x r0_11 : Vec Ideal S1x1x512 .f32) (ix3 0 0 j) = x (ix3 0 0 j) := by
  pointwise []

/-- … -/
theorem ld9 (x : Vec Ideal S1x512x2048 .bf16) (j : Fin 512) (d : Fin 2048) : (View.ld x r0_12 : Vec Ideal S1x512x2048 .bf16) (ix3 0 j d) = x (ix3 0 j d) := by
  pointwise []

/-- … -/
theorem ld10_0 (x : Vec Ideal S1x512x2048 .bf16) (j : Fin 512) (d : Fin 1024) : (View.ld x r0_30 : Vec Ideal S1x512x1024 .bf16) (ix3 0 j d) = x (ix3 0 j ⟨d.val, by omega⟩) := by
  pointwise []

/-- … -/
theorem ld10_1024 (x : Vec Ideal S1x512x2048 .bf16) (j : Fin 512) (d : Fin 1024) : (View.ld x r0_32 : Vec Ideal S1x512x1024 .bf16) (ix3 0 j d) = x (ix3 0 j ⟨1024 + d.val, by omega⟩) := by
  pointwise []

/-- The angles' rows `o` to `o + 255`. -/
def ang (x : Vec Ideal S512x128 .f32) (o : ℕ) (h2 : ∀ a, (![o, 0] : Fin 2 → ℕ) a + S256x128.size a ≤ S512x128.size a) : FVec Ideal S256x128 .f32 :=
  View.ld x (Rect.unit (s := S512x128) ![o, 0] S256x128.size h2)

/-- … at an index. -/
theorem ang_at (x : Vec Ideal S512x128 .f32) (o : ℕ) (h2) (ho : o ≤ 256) (r : Fin 256) (e : Fin 128) : ang x o h2 (ix2 r e) = x (ix2 ⟨o + r.val, by omega⟩ e) := by
  pointwise [ang]

/-- Equal factors have equal sums of products. -/
theorem dot_congr {n : ℕ} {f f' w w' : Fin n → EReal} (hf : ∀ k, f k = f' k) (hw : ∀ k, w k = w' k) : ∑ k, f k * w k = ∑ k, f' k * w' k :=
  Finset.sum_congr rfl fun k _ => congrArg₂ (· * ·) (hf k) (hw k)

/-- Equal rows and weights have equal norms. -/
theorem rms_congr {f f' w w' : Fin 512 → EReal} (hf : ∀ k, f k = f' k) (hw : ∀ k, w k = w' k) (j : Fin 512) : rms f w j = rms f' w' j :=
  congrArg₂ (fun a b => rms a b j) (funext hf) (funext hw)

/-- The queries before the rotation. -/
def qB (o : ℕ) (h0 : InX o) : FVec Ideal S256x2048 .f32 := k0_pay8 (hB B o h0) (k0_pay7 (View.ld B.x4 r0_10)) (View.ld B.x7 r0_11) (View.ld B.x9 r0_12)

/-- … at an index. -/
theorem qB_at (o : ℕ) (h0) (ho : o ≤ 256) (r : Fin 256) (d : Fin 2048) : qB B o h0 (ix2 r d) = (rowB B ⟨o + r.val, by omega⟩).q0 d := by
  rw [qB, pay8_at]
  unfold Row.q0
  exact congrArg₂ (· * ·) (dot_congr (fun j => rms_congr (fun i => dot_congr (fun k => hB_at B o h0 ho r k) (fun k => ld4_0 _ k i)) (fun i => ld7 _ i) j) (fun j => ld9 _ j d)) rfl

/-- The keys' and values' latent, normalised. -/
def ckvB (o : ℕ) (h0 : InX o) : FVec Ideal S256x512 .bf16 := k0_pay63 (hB B o h0) (View.ld B.x4 r0_29) (View.ld B.x8 r0_11)

/-- … at an index. -/
theorem ckvB_at (o : ℕ) (h0) (ho : o ≤ 256) (r : Fin 256) (j : Fin 512) : ckvB B o h0 (ix2 r j) = (rowB B ⟨o + r.val, by omega⟩).ckv j := by
  rw [ckvB, pay63_at]
  unfold Row.ckv
  exact rms_congr (fun i => dot_congr (fun k => hB_at B o h0 ho r k) (fun k => ld4_512 _ k i)) (fun i => ld7 _ i) j

/-- Half of each output, at an index: the keys' own lanes. -/
theorem k_at (o : ℕ) (h0) (ho : o ≤ 256) (r : Fin 256) (d : Fin 1024) : k0_pay64 (ckvB B o h0) (View.ld B.x10 r0_30) (ix3 0 r d) = (rowB B ⟨o + r.val, by omega⟩).k d := by
  rw [pay64_at]
  unfold Row.k Row.kv
  exact dot_congr (fun j => ckvB_at B o h0 ho r j) (fun j => ld10_0 _ j d)

/-- The values. -/
theorem v_at (o : ℕ) (h0) (ho : o ≤ 256) (r : Fin 256) (d : Fin 1024) : k0_pay64 (ckvB B o h0) (View.ld B.x10 r0_32) (ix3 0 r d) = (rowB B ⟨o + r.val, by omega⟩).v d := by
  rw [pay64_at]
  unfold Row.v Row.kv
  exact dot_congr (fun j => ckvB_at B o h0 ho r j) (fun j => ld10_1024 _ j d)

/-- The keys' shared lanes. -/
theorem kr_at (o : ℕ) (h0) (h2) (ho : o ≤ 256) (r : Fin 256) (e : Fin 128) :
    stored (turn (keyLanes (hB B o h0) (View.ld B.x6 r0_33)) (ang B.x11 o h2) (ang B.x12 o h2)) (ix3 0 r e) = (rowB B ⟨o + r.val, by omega⟩).kr e := by
  rw [stored_at, turn_at]
  unfold Row.kr
  have e1 : (fun a => keyLanes (hB B o h0) (View.ld B.x6 r0_33) (ix2 r a)) = fun a => ∑ k : Fin 2048, (rowB B ⟨o + r.val, by omega⟩).h k * (rowB B ⟨o + r.val, by omega⟩).wr k a :=
    funext fun a => (keyLanes_at _ _ r a).trans (dot_congr (fun k => hB_at B o h0 ho r k) (fun k => ld6 _ k a))
  rw [e1]
  exact congrArg₂ (fun a b => rot _ a b e) (funext fun a => ang_at _ o h2 ho r a) (funext fun a => ang_at _ o h2 ho r a)

/-- The neighbourhood attention's queries. -/
theorem qn_at (o : ℕ) (h0) (ho : o ≤ 256) (r : Fin 256) (j : Fin 512) : scaled (hB B o h0) (View.ld B.x5 r0_3) (ix3 0 r j) = (rowB B ⟨o + r.val, by omega⟩).qn j := by
  rw [scaled_at]
  unfold Row.qn Row.mix
  exact congrArg₂ (· * ·) (dot_congr (fun k => hB_at B o h0 ho r k) (fun k => ld5_0 _ k j)) rfl

/-- Its keys. -/
theorem kn_at (o : ℕ) (h0) (ho : o ≤ 256) (r : Fin 256) (j : Fin 512) : k0_pay4 (hB B o h0) (View.ld B.x5 r0_5) (ix3 0 r j) = (rowB B ⟨o + r.val, by omega⟩).kn j := by
  rw [pay4_at]
  unfold Row.kn Row.mix
  exact dot_congr (fun k => hB_at B o h0 ho r k) (fun k => ld5_512 _ k j)

/-- Its values. -/
theorem vn_at (o : ℕ) (h0) (ho : o ≤ 256) (r : Fin 256) (j : Fin 512) : k0_pay4 (hB B o h0) (View.ld B.x5 r0_6) (ix3 0 r j) = (rowB B ⟨o + r.val, by omega⟩).vn j := by
  rw [pay4_at]
  unfold Row.vn Row.mix
  exact dot_congr (fun k => hB_at B o h0 ho r k) (fun k => ld5_1024 _ k j)

/-- The Fourier rows. -/
theorem f_at (o : ℕ) (h0) (ho : o ≤ 256) (r : Fin 256) (j : Fin 512) : k0_pay6 (hB B o h0) (View.ld B.x5 r0_7) (ix2 r j) = (rowB B ⟨o + r.val, by omega⟩).f j := by
  rw [pay6_at]
  unfold Row.f Row.mix
  exact dot_congr (fun k => hB_at B o h0 ho r k) (fun k => ld5_1536 _ k j)

/-- An index of half a block of 512 columns, by its coordinates. -/
theorem idx_512 (x : S1x256x512.Idx) : x = ix3 0 (x 1) (x 2) := by
  funext a
  fin_cases a
  · exact Fin.ext (by have : (x 0).val < 1 := (x 0).isLt; show (x 0).val = 0; omega)
  · rfl
  · rfl

/-- An index of half a block of 1024 columns, by its coordinates. -/
theorem idx_1024 (x : S1x256x1024.Idx) : x = ix3 0 (x 1) (x 2) := by
  funext a
  fin_cases a
  · exact Fin.ext (by have : (x 0).val < 1 := (x 0).isLt; show (x 0).val = 0; omega)
  · rfl
  · rfl

/-- An index of half a block of 128 columns, by its coordinates. -/
theorem idx_128 (x : S1x256x128.Idx) : x = ix3 0 (x 1) (x 2) := by
  funext a
  fin_cases a
  · exact Fin.ext (by have : (x 0).val < 1 := (x 0).isLt; show (x 0).val = 0; omega)
  · rfl
  · rfl

/-- THE KEYS' OWN LANES. -/
theorem out14_eq : out0_14 B.x0 B.x1 B.x2 B.x3 B.x4 B.x5 B.x6 B.x7 B.x8 B.x9 B.x10 B.x11 B.x12 = fun y => (rowB B (y 1)).k (y 2) := by
  have e : out0_14 B.x0 B.x1 B.x2 B.x3 B.x4 B.x5 B.x6 B.x7 B.x8 B.x9 B.x10 B.x11 B.x12 = View.canon [⟨r0_55, k0_pay64 (ckvB B 256 inb_S1x512x2048_S1x256x2048_0_256_0) (View.ld B.x10 r0_30)⟩,
    ⟨r0_31, k0_pay64 (ckvB B 0 inb_S1x512x2048_S1x256x2048_0_0_0) (View.ld B.x10 r0_30)⟩] := rfl
  rw [e]
  funext y
  canon_tiles x h using (cover0_14 _ _ y)
  all_goals
    refine ((congrArg _ (idx_1024 x)).trans (k_at B _ _ (by omega) (x 1) (x 2))).trans ?_
    exact congrArg₂ (fun a b => (rowB B a).k b) (Fin.ext (by dsimp only; omega)) (Fin.ext (by omega))

/-- THE VALUES. -/
theorem out15_eq : out0_15 B.x0 B.x1 B.x2 B.x3 B.x4 B.x5 B.x6 B.x7 B.x8 B.x9 B.x10 B.x11 B.x12 = fun y => (rowB B (y 1)).v (y 2) := by
  have e : out0_15 B.x0 B.x1 B.x2 B.x3 B.x4 B.x5 B.x6 B.x7 B.x8 B.x9 B.x10 B.x11 B.x12 = View.canon [⟨r0_55, k0_pay64 (ckvB B 256 inb_S1x512x2048_S1x256x2048_0_256_0) (View.ld B.x10 r0_32)⟩,
    ⟨r0_31, k0_pay64 (ckvB B 0 inb_S1x512x2048_S1x256x2048_0_0_0) (View.ld B.x10 r0_32)⟩] := rfl
  rw [e]
  funext y
  canon_tiles x h using (cover0_15 _ _ y)
  all_goals
    refine ((congrArg _ (idx_1024 x)).trans (v_at B _ _ (by omega) (x 1) (x 2))).trans ?_
    exact congrArg₂ (fun a b => (rowB B a).v b) (Fin.ext (by dsimp only; omega)) (Fin.ext (by omega))

/-- THE KEYS' SHARED LANES. -/
theorem out16_eq : out0_16 B.x0 B.x1 B.x2 B.x3 B.x4 B.x5 B.x6 B.x7 B.x8 B.x9 B.x10 B.x11 B.x12 = fun y => (rowB B (y 1)).kr (y 2) := by
  have e : out0_16 B.x0 B.x1 B.x2 B.x3 B.x4 B.x5 B.x6 B.x7 B.x8 B.x9 B.x10 B.x11 B.x12 = View.canon [⟨r0_56, stored (turn (keyLanes (hB B 256 inb_S1x512x2048_S1x256x2048_0_256_0) (View.ld B.x6 r0_33)) (ang B.x11 256 inb_S512x128_S256x128_256_0) (ang B.x12 256 inb_S512x128_S256x128_256_0))⟩,
    ⟨r0_34, stored (turn (keyLanes (hB B 0 inb_S1x512x2048_S1x256x2048_0_0_0) (View.ld B.x6 r0_33)) (ang B.x11 0 inb_S512x128_S256x128_0_0) (ang B.x12 0 inb_S512x128_S256x128_0_0))⟩] := rfl
  rw [e]
  funext y
  canon_tiles x h using (cover0_16 _ _ y)
  all_goals
    refine ((congrArg _ (idx_128 x)).trans (kr_at B _ _ _ (by omega) (x 1) (x 2))).trans ?_
    exact congrArg₂ (fun a b => (rowB B a).kr b) (Fin.ext (by dsimp only; omega)) (Fin.ext (by omega))

/-- THE NEIGHBOURHOOD ATTENTION'S QUERIES. -/
theorem out17_eq : out0_17 B.x0 B.x1 B.x2 B.x3 B.x4 B.x5 B.x6 B.x7 B.x8 B.x9 B.x10 B.x11 B.x12 = fun y => (rowB B (y 1)).qn (y 2) := by
  have e : out0_17 B.x0 B.x1 B.x2 B.x3 B.x4 B.x5 B.x6 B.x7 B.x8 B.x9 B.x10 B.x11 B.x12 = View.canon [⟨r0_36, scaled (hB B 256 inb_S1x512x2048_S1x256x2048_0_256_0) (View.ld B.x5 r0_3)⟩,
    ⟨r0_4, scaled (hB B 0 inb_S1x512x2048_S1x256x2048_0_0_0) (View.ld B.x5 r0_3)⟩] := rfl
  rw [e]
  funext y
  canon_tiles x h using (cover0_17 _ _ y)
  all_goals
    refine ((congrArg _ (idx_512 x)).trans (qn_at B _ _ (by omega) (x 1) (x 2))).trans ?_
    exact congrArg₂ (fun a b => (rowB B a).qn b) (Fin.ext (by dsimp only; omega)) (Fin.ext (by omega))

/-- ITS KEYS. -/
theorem out18_eq : out0_18 B.x0 B.x1 B.x2 B.x3 B.x4 B.x5 B.x6 B.x7 B.x8 B.x9 B.x10 B.x11 B.x12 = fun y => (rowB B (y 1)).kn (y 2) := by
  have e : out0_18 B.x0 B.x1 B.x2 B.x3 B.x4 B.x5 B.x6 B.x7 B.x8 B.x9 B.x10 B.x11 B.x12 = View.canon [⟨r0_36, k0_pay4 (hB B 256 inb_S1x512x2048_S1x256x2048_0_256_0) (View.ld B.x5 r0_5)⟩,
    ⟨r0_4, k0_pay4 (hB B 0 inb_S1x512x2048_S1x256x2048_0_0_0) (View.ld B.x5 r0_5)⟩] := rfl
  rw [e]
  funext y
  canon_tiles x h using (cover0_18 _ _ y)
  all_goals
    refine ((congrArg _ (idx_512 x)).trans (kn_at B _ _ (by omega) (x 1) (x 2))).trans ?_
    exact congrArg₂ (fun a b => (rowB B a).kn b) (Fin.ext (by dsimp only; omega)) (Fin.ext (by omega))

/-- ITS VALUES. -/
theorem out19_eq : out0_19 B.x0 B.x1 B.x2 B.x3 B.x4 B.x5 B.x6 B.x7 B.x8 B.x9 B.x10 B.x11 B.x12 = fun y => (rowB B (y 1)).vn (y 2) := by
  have e : out0_19 B.x0 B.x1 B.x2 B.x3 B.x4 B.x5 B.x6 B.x7 B.x8 B.x9 B.x10 B.x11 B.x12 = View.canon [⟨r0_36, k0_pay4 (hB B 256 inb_S1x512x2048_S1x256x2048_0_256_0) (View.ld B.x5 r0_6)⟩,
    ⟨r0_4, k0_pay4 (hB B 0 inb_S1x512x2048_S1x256x2048_0_0_0) (View.ld B.x5 r0_6)⟩] := rfl
  rw [e]
  funext y
  canon_tiles x h using (cover0_19 _ _ y)
  all_goals
    refine ((congrArg _ (idx_512 x)).trans (vn_at B _ _ (by omega) (x 1) (x 2))).trans ?_
    exact congrArg₂ (fun a b => (rowB B a).vn b) (Fin.ext (by dsimp only; omega)) (Fin.ext (by omega))

/-- THE FOURIER ROWS. -/
theorem out20_eq : out0_20 B.x0 B.x1 B.x2 B.x3 B.x4 B.x5 B.x6 B.x7 B.x8 B.x9 B.x10 B.x11 B.x12 = fun y => (rowB B (y 0)).f (y 1) := by
  have e : out0_20 B.x0 B.x1 B.x2 B.x3 B.x4 B.x5 B.x6 B.x7 B.x8 B.x9 B.x10 B.x11 B.x12 = View.canon [⟨r0_37, k0_pay6 (hB B 256 inb_S1x512x2048_S1x256x2048_0_256_0) (View.ld B.x5 r0_7)⟩,
    ⟨r0_8, k0_pay6 (hB B 0 inb_S1x512x2048_S1x256x2048_0_0_0) (View.ld B.x5 r0_7)⟩] := rfl
  rw [e]
  funext y
  canon_tiles x h using (cover0_20 _ _ y)
  all_goals
    refine ((congrArg _ (eq_ix2 x)).trans (f_at B _ _ (by omega) (x 0) (x 1))).trans ?_
    exact congrArg₂ (fun a b => (rowB B a).f b) (Fin.ext (by dsimp only; omega)) (Fin.ext (by omega))

end Cert.Inp

end
-- ==== Proof.InpQueries.lean ====
/- The queries' output block of the input projection's kernel, which a grid point stores by tiles of 256 rows and 128 columns. -/
module

public import proofs.«01_k».proof.Proof.InpBlock

@[expose] public section

set_option maxRecDepth 65536

noncomputable section

open Idealize.ShloMosaic Idealize.ShloMosaic.TcCoe Idealize.SL.Sem

namespace Cert.Inp

open Cert.Kernel4Ideal Cert.Kernel4Ideal.Gen

/-- A formula of the queries before the rotation, as one of all the queries. -/
theorem q_nope (R : Row) (n : ℕ) (hn : n % 256 = 0) (hn' : n + 128 ≤ 2048) (e : Fin 128) : R.q0 ⟨n + e.val, by omega⟩ = R.q ⟨n + e.val, by omega⟩ :=
  (if_pos (by dsimp only; omega)).symm

/-- … and for the rotated ones. -/
theorem q_rope (R : Row) (n : ℕ) (hn : n % 256 = 128) (hn' : n + 128 ≤ 2048) (e : Fin 128) :
    rot (fun a => R.q0 ⟨n + a.val, by omega⟩) R.cos R.sin e = R.q ⟨n + e.val, by omega⟩ := by
  refine Eq.trans ?_ (if_neg (by dsimp only; omega)).symm
  refine congrArg₂ (fun f a => rot f R.cos R.sin a) (funext fun a => congrArg R.q0 (Fin.ext ?_)) (Fin.ext ?_)
  · dsimp only; omega
  · dsimp only; omega

variable (B : Blk)

/-- A tile of a head's columns that are not rotated. -/
theorem tile_nope (o : ℕ) (h0) (ho : o ≤ 256) (n : ℕ) (hs) (hn : n % 256 = 0) (hn' : n + 128 ≤ 2048) (r : Fin 256) (e : Fin 128) :
    nope n hs (qB B o h0) (ix3 0 r e) = (rowB B ⟨o + r.val, by omega⟩).q ⟨n + e.val, by omega⟩ := by
  rw [nope_at n hs hn', qB_at B o h0 ho, q_nope _ n hn hn']

/-- A tile of a head's rotated columns. -/
theorem tile_rope (o : ℕ) (h0) (h2) (ho : o ≤ 256) (n : ℕ) (hs) (hn : n % 256 = 128) (hn' : n + 128 ≤ 2048) (r : Fin 256) (e : Fin 128) :
    rope n hs (ang B.x11 o h2) (ang B.x12 o h2) (qB B o h0) (ix3 0 r e) = (rowB B ⟨o + r.val, by omega⟩).q ⟨n + e.val, by omega⟩ := by
  rw [rope_at n hs hn', ← q_rope _ n hn hn']
  simp only [qB_at B o h0 ho, ang_at _ o h2 ho]
  rfl

/-- THE QUERIES. -/
theorem out13_eq : out0_13 B.x0 B.x1 B.x2 B.x3 B.x4 B.x5 B.x6 B.x7 B.x8 B.x9 B.x10 B.x11 B.x12 = fun y => (rowB B (y 1)).q (y 2) := by
  have e : out0_13 B.x0 B.x1 B.x2 B.x3 B.x4 B.x5 B.x6 B.x7 B.x8 B.x9 B.x10 B.x11 B.x12 = View.canon [⟨r0_54, rope 1920 slices_S256x2048_o0_1920_S256x128 (ang B.x11 256 inb_S512x128_S256x128_256_0) (ang B.x12 256 inb_S512x128_S256x128_256_0) (qB B 256 inb_S1x512x2048_S1x256x2048_0_256_0)⟩,
    ⟨r0_53, nope 1792 slices_S256x2048_o0_1792_S256x128 (qB B 256 inb_S1x512x2048_S1x256x2048_0_256_0)⟩,
    ⟨r0_52, rope 1664 slices_S256x2048_o0_1664_S256x128 (ang B.x11 256 inb_S512x128_S256x128_256_0) (ang B.x12 256 inb_S512x128_S256x128_256_0) (qB B 256 inb_S1x512x2048_S1x256x2048_0_256_0)⟩,
    ⟨r0_51, nope 1536 slices_S256x2048_o0_1536_S256x128 (qB B 256 inb_S1x512x2048_S1x256x2048_0_256_0)⟩,
    ⟨r0_50, rope 1408 slices_S256x2048_o0_1408_S256x128 (ang B.x11 256 inb_S512x128_S256x128_256_0) (ang B.x12 256 inb_S512x128_S256x128_256_0) (qB B 256 inb_S1x512x2048_S1x256x2048_0_256_0)⟩,
    ⟨r0_49, nope 1280 slices_S256x2048_o0_1280_S256x128 (qB B 256 inb_S1x512x2048_S1x256x2048_0_256_0)⟩,
    ⟨r0_48, rope 1152 slices_S256x2048_o0_1152_S256x128 (ang B.x11 256 inb_S512x128_S256x128_256_0) (ang B.x12 256 inb_S512x128_S256x128_256_0) (qB B 256 inb_S1x512x2048_S1x256x2048_0_256_0)⟩,
    ⟨r0_47, nope 1024 slices_S256x2048_o0_1024_S256x128 (qB B 256 inb_S1x512x2048_S1x256x2048_0_256_0)⟩,
    ⟨r0_46, rope 896 slices_S256x2048_o0_896_S256x128 (ang B.x11 256 inb_S512x128_S256x128_256_0) (ang B.x12 256 inb_S512x128_S256x128_256_0) (qB B 256 inb_S1x512x2048_S1x256x2048_0_256_0)⟩,
    ⟨r0_45, nope 768 slices_S256x2048_o0_768_S256x128 (qB B 256 inb_S1x512x2048_S1x256x2048_0_256_0)⟩,
    ⟨r0_44, rope 640 slices_S256x2048_o0_640_S256x128 (ang B.x11 256 inb_S512x128_S256x128_256_0) (ang B.x12 256 inb_S512x128_S256x128_256_0) (qB B 256 inb_S1x512x2048_S1x256x2048_0_256_0)⟩,
    ⟨r0_43, nope 512 slices_S256x2048_o0_512_S256x128 (qB B 256 inb_S1x512x2048_S1x256x2048_0_256_0)⟩,
    ⟨r0_42, rope 384 slices_S256x2048_o0_384_S256x128 (ang B.x11 256 inb_S512x128_S256x128_256_0) (ang B.x12 256 inb_S512x128_S256x128_256_0) (qB B 256 inb_S1x512x2048_S1x256x2048_0_256_0)⟩,
    ⟨r0_41, nope 256 slices_S256x2048_o0_256_S256x128 (qB B 256 inb_S1x512x2048_S1x256x2048_0_256_0)⟩,
    ⟨r0_40, rope 128 slices_S256x2048_o0_128_S256x128 (ang B.x11 256 inb_S512x128_S256x128_256_0) (ang B.x12 256 inb_S512x128_S256x128_256_0) (qB B 256 inb_S1x512x2048_S1x256x2048_0_256_0)⟩,
    ⟨r0_39, nope 0 slices_S256x2048_o0_0_S256x128 (qB B 256 inb_S1x512x2048_S1x256x2048_0_256_0)⟩,
    ⟨r0_28, rope 1920 slices_S256x2048_o0_1920_S256x128 (ang B.x11 0 inb_S512x128_S256x128_0_0) (ang B.x12 0 inb_S512x128_S256x128_0_0) (qB B 0 inb_S1x512x2048_S1x256x2048_0_0_0)⟩,
    ⟨r0_27, nope 1792 slices_S256x2048_o0_1792_S256x128 (qB B 0 inb_S1x512x2048_S1x256x2048_0_0_0)⟩,
    ⟨r0_26, rope 1664 slices_S256x2048_o0_1664_S256x128 (ang B.x11 0 inb_S512x128_S256x128_0_0) (ang B.x12 0 inb_S512x128_S256x128_0_0) (qB B 0 inb_S1x512x2048_S1x256x2048_0_0_0)⟩,
    ⟨r0_25, nope 1536 slices_S256x2048_o0_1536_S256x128 (qB B 0 inb_S1x512x2048_S1x256x2048_0_0_0)⟩,
    ⟨r0_24, rope 1408 slices_S256x2048_o0_1408_S256x128 (ang B.x11 0 inb_S512x128_S256x128_0_0) (ang B.x12 0 inb_S512x128_S256x128_0_0) (qB B 0 inb_S1x512x2048_S1x256x2048_0_0_0)⟩,
    ⟨r0_23, nope 1280 slices_S256x2048_o0_1280_S256x128 (qB B 0 inb_S1x512x2048_S1x256x2048_0_0_0)⟩,
    ⟨r0_22, rope 1152 slices_S256x2048_o0_1152_S256x128 (ang B.x11 0 inb_S512x128_S256x128_0_0) (ang B.x12 0 inb_S512x128_S256x128_0_0) (qB B 0 inb_S1x512x2048_S1x256x2048_0_0_0)⟩,
    ⟨r0_21, nope 1024 slices_S256x2048_o0_1024_S256x128 (qB B 0 inb_S1x512x2048_S1x256x2048_0_0_0)⟩,
    ⟨r0_20, rope 896 slices_S256x2048_o0_896_S256x128 (ang B.x11 0 inb_S512x128_S256x128_0_0) (ang B.x12 0 inb_S512x128_S256x128_0_0) (qB B 0 inb_S1x512x2048_S1x256x2048_0_0_0)⟩,
    ⟨r0_19, nope 768 slices_S256x2048_o0_768_S256x128 (qB B 0 inb_S1x512x2048_S1x256x2048_0_0_0)⟩,
    ⟨r0_18, rope 640 slices_S256x2048_o0_640_S256x128 (ang B.x11 0 inb_S512x128_S256x128_0_0) (ang B.x12 0 inb_S512x128_S256x128_0_0) (qB B 0 inb_S1x512x2048_S1x256x2048_0_0_0)⟩,
    ⟨r0_17, nope 512 slices_S256x2048_o0_512_S256x128 (qB B 0 inb_S1x512x2048_S1x256x2048_0_0_0)⟩,
    ⟨r0_16, rope 384 slices_S256x2048_o0_384_S256x128 (ang B.x11 0 inb_S512x128_S256x128_0_0) (ang B.x12 0 inb_S512x128_S256x128_0_0) (qB B 0 inb_S1x512x2048_S1x256x2048_0_0_0)⟩,
    ⟨r0_15, nope 256 slices_S256x2048_o0_256_S256x128 (qB B 0 inb_S1x512x2048_S1x256x2048_0_0_0)⟩,
    ⟨r0_14, rope 128 slices_S256x2048_o0_128_S256x128 (ang B.x11 0 inb_S512x128_S256x128_0_0) (ang B.x12 0 inb_S512x128_S256x128_0_0) (qB B 0 inb_S1x512x2048_S1x256x2048_0_0_0)⟩,
    ⟨r0_13, nope 0 slices_S256x2048_o0_0_S256x128 (qB B 0 inb_S1x512x2048_S1x256x2048_0_0_0)⟩] := rfl
  rw [e]
  funext y
  canon_tiles x h using (cover0_13 _ _ _ _ _ _ _ _ _ _ _ _ _ _ _ _ _ _ _ _ _ _ _ _ _ _ _ _ _ _ _ _ y)
  all_goals
    refine ((congrArg _ (idx_128 x)).trans (by
      first
      | exact tile_nope B _ _ (by omega) _ _ (by omega) (by omega) (x 1) (x 2)
      | exact tile_rope B _ _ _ (by omega) _ _ (by omega) (by omega) (x 1) (x 2))).trans ?_
    exact congrArg₂ (fun a b => (rowB B a).q b) (Fin.ext (by dsimp only; omega)) (Fin.ext (by dsimp only; omega))

end Cert.Inp

end
-- ==== Proof.InpFinal.lean ====
/- The input projection's eight result arrays: at every index the formulas of the inputs.

   Grid point `t` works on batch `t / 8` and run `t % 8` of 512 rows. -/
module

public import proofs.«01_k».proof.Proof.InpQueries
public import proofs.«01_k».proof.Proof.Gen.Kernel4Ideal.Value

@[expose] public section

set_option maxRecDepth 65536

noncomputable section

open Idealize.ShloMosaic Idealize.ShloMosaic.TcCoe Idealize.SL.Sem

namespace Cert.Inp

open Cert.Kernel4Ideal Cert.Kernel4Ideal.Gen

/-- The blocks of the input windows, by grid point. -/
theorem idx : ∀ t : Fin cfg0.N, win0_0.index t = ![t.val / 8, t.val % 8, 0] ∧ win0_1.index t = ![1, 0, 0]
    ∧ win0_2.index t = ![1, t.val / 8, 1, 0, 0] ∧ win0_3.index t = ![1, t.val / 8, 0, 0, 0] ∧ win0_4.index t = ![1, 0, 0]
    ∧ win0_5.index t = ![1, 0, 0] ∧ win0_6.index t = ![1, 0, 0] ∧ win0_7.index t = ![1, 0, 0] ∧ win0_8.index t = ![1, 0, 0]
    ∧ win0_9.index t = ![1, 0, 0] ∧ win0_10.index t = ![1, 0, 0] ∧ win0_11.index t = ![t.val % 8, 0] ∧ win0_12.index t = ![t.val % 8, 0] :=
  (by decide +kernel : ∀ t : Fin grid0.N, _)

/-- The blocks of the output windows. -/
theorem idxOut : ∀ t : Fin cfg0.N, win0_13.index t = ![t.val / 8, t.val % 8, 0] ∧ win0_14.index t = ![t.val / 8, t.val % 8, 0]
    ∧ win0_15.index t = ![t.val / 8, t.val % 8, 0] ∧ win0_16.index t = ![t.val / 8, t.val % 8, 0] ∧ win0_17.index t = ![t.val / 8, t.val % 8, 0]
    ∧ win0_18.index t = ![t.val / 8, t.val % 8, 0] ∧ win0_19.index t = ![t.val / 8, t.val % 8, 0] ∧ win0_20.index t = ![t.val % 8, t.val / 8] :=
  (by decide +kernel : ∀ t : Fin grid0.N, _)

variable (m : (ℓ : Loc nD τ sig) → Buf (Elt Ideal) ℓ)

/-- There are 32 points. -/
theorem lt32 (t : Fin cfg0.N) : t.val < 32 := Nat.lt_of_lt_of_eq t.isLt N_0

/-- The batch of a point. -/
def bt (t : Fin cfg0.N) : Fin 4 := ⟨t.val / 8, by have := lt32 t; omega⟩

/-- Row `i` of batch `b` of the kernel's inputs. -/
def rowK (c : Dev nD) (b : Fin 4) (i : Fin 4096) : Row where
  x k := m ((c : Thread nD τ).loc main_arg0) (ix3 b i k)
  g k := m ((c : Thread nD τ).loc main_arg1) (ix3 1 0 k)
  sc k := m ((c : Thread nD τ).loc main_arg2) (ix5 1 ⟨b.val, by omega⟩ 1 0 k)
  sh k := m ((c : Thread nD τ).loc main_arg2) (ix5 1 ⟨b.val, by omega⟩ 0 0 k)
  wl k j := m ((c : Thread nD τ).loc main_arg3) (ix3 1 k j)
  wm k j := m ((c : Thread nD τ).loc main_arg4) (ix3 1 k j)
  wr k a := m ((c : Thread nD τ).loc main_arg5) (ix3 1 k a)
  gq j := m ((c : Thread nD τ).loc main_arg6) (ix3 1 0 j)
  gkv j := m ((c : Thread nD τ).loc main_arg7) (ix3 1 0 j)
  wq j d := m ((c : Thread nD τ).loc main_arg8) (ix3 1 j d)
  wkv j d := m ((c : Thread nD τ).loc main_arg9) (ix3 1 j d)
  cos a := m ((c : Thread nD τ).loc main_arg10) (ix2 i a)
  sin a := m ((c : Thread nD τ).loc main_arg11) (ix2 i a)

/-- A run's rows. -/
theorem iblk0_at (c : Dev nD) (t : Fin cfg0.N) (r : Fin 512) (k : Fin 2048) : (iblk m c 0 t : Vec Ideal S1x512x2048 .f32) (ix3 0 r k)
    = (rowK m c (bt t) ⟨t.val % 8 * 512 + r.val, by omega⟩).x k := by
  have := lt32 t
  dsimp only [rowK, bt]
  blk_point [iblk, V, idx t]

/-- The norm's weights. -/
theorem iblk1_at (c : Dev nD) (t : Fin cfg0.N) (i : Fin 4096) (k : Fin 2048) : (iblk m c 1 t : Vec Ideal S1x1x2048 .f32) (ix3 0 0 k)
    = (rowK m c (bt t) i).g k := by
  have := lt32 t
  dsimp only [rowK, bt]
  blk_point [iblk, V, idx t]

/-- The scale. -/
theorem iblk2_at (c : Dev nD) (t : Fin cfg0.N) (i : Fin 4096) (k : Fin 2048) : (iblk m c 2 t : Vec Ideal S1x1x1x1x2048 .f32) (ix5 0 0 0 0 k)
    = (rowK m c (bt t) i).sc k := by
  have := lt32 t
  dsimp only [rowK, bt]
  blk_point [iblk, V, idx t]

/-- The shift. -/
theorem iblk3_at (c : Dev nD) (t : Fin cfg0.N) (i : Fin 4096) (k : Fin 2048) : (iblk m c 3 t : Vec Ideal S1x1x1x1x2048 .f32) (ix5 0 0 0 0 k)
    = (rowK m c (bt t) i).sh k := by
  have := lt32 t
  dsimp only [rowK, bt]
  blk_point [iblk, V, idx t]

/-- The weights to the latents. -/
theorem iblk4_at (c : Dev nD) (t : Fin cfg0.N) (i : Fin 4096) (k : Fin 2048) (j : Fin 1024) : (iblk m c 4 t : Vec Ideal S1x2048x1024 .bf16) (ix3 0 k j)
    = (rowK m c (bt t) i).wl k j := by
  have := lt32 t
  dsimp only [rowK, bt]
  blk_point [iblk, V, idx t]

/-- To the other mixers. -/
theorem iblk5_at (c : Dev nD) (t : Fin cfg0.N) (i : Fin 4096) (k j : Fin 2048) : (iblk m c 5 t : Vec Ideal S1x2048x2048 .bf16) (ix3 0 k j)
    = (rowK m c (bt t) i).wm k j := by
  have := lt32 t
  dsimp only [rowK, bt]
  blk_point [iblk, V, idx t]

/-- To the keys' shared lanes. -/
theorem iblk6_at (c : Dev nD) (t : Fin cfg0.N) (i : Fin 4096) (k : Fin 2048) (a : Fin 128) : (iblk m c 6 t : Vec Ideal S1x2048x128 .bf16) (ix3 0 k a)
    = (rowK m c (bt t) i).wr k a := by
  have := lt32 t
  dsimp only [rowK, bt]
  blk_point [iblk, V, idx t]

/-- The weights of the queries' latent norm. -/
theorem iblk7_at (c : Dev nD) (t : Fin cfg0.N) (i : Fin 4096) (j : Fin 512) : (iblk m c 7 t : Vec Ideal S1x1x512 .f32) (ix3 0 0 j)
    = (rowK m c (bt t) i).gq j := by
  have := lt32 t
  dsimp only [rowK, bt]
  blk_point [iblk, V, idx t]

/-- Of the keys' and values' latent norm. -/
theorem iblk8_at (c : Dev nD) (t : Fin cfg0.N) (i : Fin 4096) (j : Fin 512) : (iblk m c 8 t : Vec Ideal S1x1x512 .f32) (ix3 0 0 j)
    = (rowK m c (bt t) i).gkv j := by
  have := lt32 t
  dsimp only [rowK, bt]
  blk_point [iblk, V, idx t]

/-- The weights to the queries. -/
theorem iblk9_at (c : Dev nD) (t : Fin cfg0.N) (i : Fin 4096) (j : Fin 512) (d : Fin 2048) : (iblk m c 9 t : Vec Ideal S1x512x2048 .bf16) (ix3 0 j d)
    = (rowK m c (bt t) i).wq j d := by
  have := lt32 t
  dsimp only [rowK, bt]
  blk_point [iblk, V, idx t]

/-- To the keys and values. -/
theorem iblk10_at (c : Dev nD) (t : Fin cfg0.N) (i : Fin 4096) (j : Fin 512) (d : Fin 2048) : (iblk m c 10 t : Vec Ideal S1x512x2048 .bf16) (ix3 0 j d)
    = (rowK m c (bt t) i).wkv j d := by
  have := lt32 t
  dsimp only [rowK, bt]
  blk_point [iblk, V, idx t]

/-- The rows' cosines. -/
theorem iblk11_at (c : Dev nD) (t : Fin cfg0.N) (r : Fin 512) (a : Fin 128) : (iblk m c 11 t : Vec Ideal S512x128 .f32) (ix2 r a)
    = (rowK m c (bt t) ⟨t.val % 8 * 512 + r.val, by omega⟩).cos a := by
  have := lt32 t
  dsimp only [rowK, bt]
  blk_point [iblk, V, idx t]

/-- The rows' sines. -/
theorem iblk12_at (c : Dev nD) (t : Fin cfg0.N) (r : Fin 512) (a : Fin 128) : (iblk m c 12 t : Vec Ideal S512x128 .f32) (ix2 r a)
    = (rowK m c (bt t) ⟨t.val % 8 * 512 + r.val, by omega⟩).sin a := by
  have := lt32 t
  dsimp only [rowK, bt]
  blk_point [iblk, V, idx t]

/-- A point's input blocks. -/
def blk (c : Dev nD) (t : Fin cfg0.N) : Blk :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t⟩

/-- A row of a point's blocks is a row of the inputs. -/
theorem rowB_eq (c : Dev nD) (t : Fin cfg0.N) (r : Fin 512) : rowB (blk m c t) r = rowK m c (bt t) ⟨t.val % 8 * 512 + r.val, by omega⟩ := by
  refine Row.mk.injEq .. |>.mpr ?_
  refine ⟨?_, ?_, ?_, ?_, ?_, ?_, ?_, ?_, ?_, ?_, ?_, ?_, ?_⟩
  · exact funext fun k => iblk0_at m c t r k
  · exact funext fun k => iblk1_at m c t 0 k
  · exact funext fun k => iblk2_at m c t 0 k
  · exact funext fun k => iblk3_at m c t 0 k
  · exact funext fun k => funext fun j => iblk4_at m c t 0 k j
  · exact funext fun k => funext fun j => iblk5_at m c t 0 k j
  · exact funext fun k => funext fun j => iblk6_at m c t 0 k j
  · exact funext fun k => iblk7_at m c t 0 k
  · exact funext fun k => iblk8_at m c t 0 k
  · exact funext fun k => funext fun j => iblk9_at m c t 0 k j
  · exact funext fun k => funext fun j => iblk10_at m c t 0 k j
  · exact funext fun k => iblk11_at m c t r k
  · exact funext fun k => iblk12_at m c t r k

/-- A formula of a row of a point's blocks, read at an array's coordinates. -/
theorem point_eq {n : ℕ} (f : Row → Fin n → EReal) (c : Dev nD) (t : Fin cfg0.N) (r : Fin 512) (d : Fin n) (b : Fin 4) (i : Fin 4096) (d' : Fin n)
    (eb : b.val = t.val / 8) (ei : i.val = t.val % 8 * 512 + r.val) (ed : d'.val = d.val) : f (rowB (blk m c t) r) d = f (rowK m c b i) d' := by
  rw [rowB_eq, show b = bt t from Fin.ext eb, show i = ⟨t.val % 8 * 512 + r.val, by omega⟩ from Fin.ext ei, show d' = d from Fin.ext ed]

/-- THE QUERIES at every index. -/
def arrQ (R : Fin 4 → Fin 4096 → Row) : Vec Ideal S4x4096x2048 .bf16 := fun y => (R (y 0) (y 1)).q (y 2)

/-- What a point leaves of them at a block index is the formula at the array index that sits there. -/
theorem point13 (c : Dev nD) (t : Fin cfg0.N) (y : S1x512x2048.Idx) (j : S4x4096x2048.Idx)
    (e0 : (j 0).val = t.val / 8) (e1 : (j 1).val = t.val % 8 * 512 + (y 1).val) (e2 : (j 2).val = (y 2).val) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = arrQ (rowK m c) j :=
  (congrFun (out13_eq (blk m c t)) y).trans (point_eq m Row.q c t (y 1) (y 2) (j 0) (j 1) (j 2) e0 e1 e2)

/-- THE QUERIES: their result array has at every index the formula of the inputs. -/
theorem final13 (c : Dev nD) : (dats m 0 c).arrAt 13 cfg0.N = arrQ (rowK m c) := by
  refine (dats m 0 c).arrAt_eq_of_covers 13 _ (by decide +kernel) fun t hf y => ?_
  blk_simp
  rw [after0_13]
  refine point13 m c t y _ ?_ ?_ ?_
  all_goals (blk_simp [idxOut t] <;> try omega)

/-- THE KEYS' OWN LANES at every index. -/
def arrK (R : Fin 4 → Fin 4096 → Row) : Vec Ideal S4x4096x1024 .bf16 := fun y => (R (y 0) (y 1)).k (y 2)

/-- What a point leaves of them at a block index is the formula at the array index that sits there. -/
theorem point14 (c : Dev nD) (t : Fin cfg0.N) (y : S1x512x1024.Idx) (j : S4x4096x1024.Idx)
    (e0 : (j 0).val = t.val / 8) (e1 : (j 1).val = t.val % 8 * 512 + (y 1).val) (e2 : (j 2).val = (y 2).val) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = arrK (rowK m c) j :=
  (congrFun (out14_eq (blk m c t)) y).trans (point_eq m Row.k c t (y 1) (y 2) (j 0) (j 1) (j 2) e0 e1 e2)

/-- THE KEYS' OWN LANES: their result array has at every index the formula of the inputs. -/
theorem final14 (c : Dev nD) : (dats m 0 c).arrAt 14 cfg0.N = arrK (rowK m c) := by
  refine (dats m 0 c).arrAt_eq_of_covers 14 _ (by decide +kernel) fun t hf y => ?_
  blk_simp
  rw [after0_14]
  refine point14 m c t y _ ?_ ?_ ?_
  all_goals (blk_simp [idxOut t] <;> try omega)

/-- THE VALUES at every index. -/
def arrV (R : Fin 4 → Fin 4096 → Row) : Vec Ideal S4x4096x1024 .bf16 := fun y => (R (y 0) (y 1)).v (y 2)

/-- What a point leaves of them at a block index is the formula at the array index that sits there. -/
theorem point15 (c : Dev nD) (t : Fin cfg0.N) (y : S1x512x1024.Idx) (j : S4x4096x1024.Idx)
    (e0 : (j 0).val = t.val / 8) (e1 : (j 1).val = t.val % 8 * 512 + (y 1).val) (e2 : (j 2).val = (y 2).val) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = arrV (rowK m c) j :=
  (congrFun (out15_eq (blk m c t)) y).trans (point_eq m Row.v c t (y 1) (y 2) (j 0) (j 1) (j 2) e0 e1 e2)

/-- THE VALUES: their result array has at every index the formula of the inputs. -/
theorem final15 (c : Dev nD) : (dats m 0 c).arrAt 15 cfg0.N = arrV (rowK m c) := by
  refine (dats m 0 c).arrAt_eq_of_covers 15 _ (by decide +kernel) fun t hf y => ?_
  blk_simp
  rw [after0_15]
  refine point15 m c t y _ ?_ ?_ ?_
  all_goals (blk_simp [idxOut t] <;> try omega)

/-- THE KEYS' SHARED LANES at every index. -/
def arrKr (R : Fin 4 → Fin 4096 → Row) : Vec Ideal S4x4096x128 .bf16 := fun y => (R (y 0) (y 1)).kr (y 2)

/-- What a point leaves of them at a block index is the formula at the array index that sits there. -/
theorem point16 (c : Dev nD) (t : Fin cfg0.N) (y : S1x512x128.Idx) (j : S4x4096x128.Idx)
    (e0 : (j 0).val = t.val / 8) (e1 : (j 1).val = t.val % 8 * 512 + (y 1).val) (e2 : (j 2).val = (y 2).val) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = arrKr (rowK m c) j :=
  (congrFun (out16_eq (blk m c t)) y).trans (point_eq m Row.kr c t (y 1) (y 2) (j 0) (j 1) (j 2) e0 e1 e2)

/-- THE KEYS' SHARED LANES: their result array has at every index the formula of the inputs. -/
theorem final16 (c : Dev nD) : (dats m 0 c).arrAt 16 cfg0.N = arrKr (rowK m c) := by
  refine (dats m 0 c).arrAt_eq_of_covers 16 _ (by decide +kernel) fun t hf y => ?_
  blk_simp
  rw [after0_16]
  refine point16 m c t y _ ?_ ?_ ?_
  all_goals (blk_simp [idxOut t] <;> try omega)

/-- THE NEIGHBOURHOOD ATTENTION'S QUERIES at every index. -/
def arrQn (R : Fin 4 → Fin 4096 → Row) : Vec Ideal S4x4096x512 .bf16 := fun y => (R (y 0) (y 1)).qn (y 2)

/-- What a point leaves of them at a block index is the formula at the array index that sits there. -/
theorem point17 (c : Dev nD) (t : Fin cfg0.N) (y : S1x512x512.Idx) (j : S4x4096x512.Idx)
    (e0 : (j 0).val = t.val / 8) (e1 : (j 1).val = t.val % 8 * 512 + (y 1).val) (e2 : (j 2).val = (y 2).val) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = arrQn (rowK m c) j :=
  (congrFun (out17_eq (blk m c t)) y).trans (point_eq m Row.qn c t (y 1) (y 2) (j 0) (j 1) (j 2) e0 e1 e2)

/-- THE NEIGHBOURHOOD ATTENTION'S QUERIES: their result array has at every index the formula of the inputs. -/
theorem final17 (c : Dev nD) : (dats m 0 c).arrAt 17 cfg0.N = arrQn (rowK m c) := by
  refine (dats m 0 c).arrAt_eq_of_covers 17 _ (by decide +kernel) fun t hf y => ?_
  blk_simp
  rw [after0_17]
  refine point17 m c t y _ ?_ ?_ ?_
  all_goals (blk_simp [idxOut t] <;> try omega)

/-- ITS KEYS at every index. -/
def arrKn (R : Fin 4 → Fin 4096 → Row) : Vec Ideal S4x4096x512 .bf16 := fun y => (R (y 0) (y 1)).kn (y 2)

/-- What a point leaves of them at a block index is the formula at the array index that sits there. -/
theorem point18 (c : Dev nD) (t : Fin cfg0.N) (y : S1x512x512.Idx) (j : S4x4096x512.Idx)
    (e0 : (j 0).val = t.val / 8) (e1 : (j 1).val = t.val % 8 * 512 + (y 1).val) (e2 : (j 2).val = (y 2).val) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = arrKn (rowK m c) j :=
  (congrFun (out18_eq (blk m c t)) y).trans (point_eq m Row.kn c t (y 1) (y 2) (j 0) (j 1) (j 2) e0 e1 e2)

/-- ITS KEYS: their result array has at every index the formula of the inputs. -/
theorem final18 (c : Dev nD) : (dats m 0 c).arrAt 18 cfg0.N = arrKn (rowK m c) := by
  refine (dats m 0 c).arrAt_eq_of_covers 18 _ (by decide +kernel) fun t hf y => ?_
  blk_simp
  rw [after0_18]
  refine point18 m c t y _ ?_ ?_ ?_
  all_goals (blk_simp [idxOut t] <;> try omega)

/-- ITS VALUES at every index. -/
def arrVn (R : Fin 4 → Fin 4096 → Row) : Vec Ideal S4x4096x512 .bf16 := fun y => (R (y 0) (y 1)).vn (y 2)

/-- What a point leaves of them at a block index is the formula at the array index that sits there. -/
theorem point19 (c : Dev nD) (t : Fin cfg0.N) (y : S1x512x512.Idx) (j : S4x4096x512.Idx)
    (e0 : (j 0).val = t.val / 8) (e1 : (j 1).val = t.val % 8 * 512 + (y 1).val) (e2 : (j 2).val = (y 2).val) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = arrVn (rowK m c) j :=
  (congrFun (out19_eq (blk m c t)) y).trans (point_eq m Row.vn c t (y 1) (y 2) (j 0) (j 1) (j 2) e0 e1 e2)

/-- ITS VALUES: their result array has at every index the formula of the inputs. -/
theorem final19 (c : Dev nD) : (dats m 0 c).arrAt 19 cfg0.N = arrVn (rowK m c) := by
  refine (dats m 0 c).arrAt_eq_of_covers 19 _ (by decide +kernel) fun t hf y => ?_
  blk_simp
  rw [after0_19]
  refine point19 m c t y _ ?_ ?_ ?_
  all_goals (blk_simp [idxOut t] <;> try omega)

/-- THE FOURIER ROWS at every index, the batches side by side. -/
def arrF (R : Fin 4 → Fin 4096 → Row) : Vec Ideal S4096x2048 .bf16 := fun y =>
  (R ⟨(y 1).val / 512, by have := (y 1).isLt; change (y 1).val < 2048 at this; omega⟩ (y 0)).f ⟨(y 1).val % 512, by omega⟩

/-- What a point leaves of them. -/
theorem point20 (c : Dev nD) (t : Fin cfg0.N) (y : S512x512.Idx) (j : S4096x2048.Idx)
    (e0 : (j 0).val = t.val % 8 * 512 + (y 0).val) (e1 : (j 1).val = t.val / 8 * 512 + (y 1).val) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = arrF (rowK m c) j := by
  have h : (y 1).val < 512 := (y 1).isLt
  exact (congrFun (out20_eq (blk m c t)) y).trans (point_eq m Row.f c t (y 0) (y 1) _ (j 0) _ (by dsimp only; omega) e0 (by dsimp only; omega))

/-- THE FOURIER ROWS: their result array has at every index the formula of the inputs. -/
theorem final20 (c : Dev nD) : (dats m 0 c).arrAt 20 cfg0.N = arrF (rowK m c) := by
  refine (dats m 0 c).arrAt_eq_of_covers 20 _ (by decide +kernel) fun t hf y => ?_
  blk_simp
  rw [after0_20]
  refine point20 m c t y _ ?_ ?_
  all_goals (blk_simp [idxOut t] <;> try omega)

end Cert.Inp

end
-- ==== Proof.InpSteps.lean ====
/- The steps of the input projection's reference, each at an index. -/
module

public import proofs.«01_k».proof.Proof.Gen.Reference4Ideal.Run
public import proofs.«01_k».proof.Proof.InpSpec

@[expose] public section

set_option maxRecDepth 16384

noncomputable section

open Idealize.ShloMosaic Idealize.ShloMosaic.TcCoe Idealize.SL.Sem

namespace Cert.Reference4Ideal.Value

open Cert.Reference4Ideal Cert.Reference4Ideal.Gen Cert.Inp

/-- The norm and the modulation. -/
def hT (y : FVec Ideal S4x4096x2048 .f32) (g : FVec Ideal S2x1x2048 .f32) (mod : FVec Ideal S2x8x6x1x2048 .f32) : FVec Ideal S4x4096x2048 .f32 :=
  addf (mulf (mulf (mulf y (broadcastInDim S4x4096x2048 ![0, 1, 2] bcast_S4x4096x1_S4x4096x2048_0_1_2 (Host.rsqrt (addf (Host.divf
      (broadcastInDim S4x4096x1 ![0, 1] bcast_S4x4096_S4x4096x1_0_1 (Host.reduceAdd (mulf y y) (constant S_ .f32 0x00000000#32) reducesTo_S4x4096x2048_S4x4096_d2 h_S_))
      (broadcastInDim S4x4096x1 ![] bcast_S_S4x4096x1 (constant S_ .f32 0x45000000#32))) (broadcastInDim S4x4096x1 ![] bcast_S_S4x4096x1 (constant S_ .f32 0x358637BD#32))))))
    (broadcastInDim S4x4096x2048 ![0, 1, 2] bcast_S1x1x2048_S4x4096x2048_0_1_2 (broadcastInDim S1x1x2048 ![2] bcast_S2048_S1x1x2048_2 (shapeCast _
      (extractStridedSlice S1x1x2048 ![1, 0, 0] g slices_S2x1x2048_S1x1x2048_1_0_0) shapeCasts_S1x1x2048_S2048))))
    (broadcastInDim S4x4096x2048 ![0, 1, 2] bcast_S4x1x2048_S4x4096x2048_0_1_2 (addf (broadcastInDim S4x1x2048 ![] bcast_S_S4x1x2048 (constant S_ .f32 0x3F800000#32))
      (shapeCast _ (extractStridedSlice S1x4x1x1x2048 ![1, 0, 1, 0, 0] mod slices_S2x8x6x1x2048_S1x4x1x1x2048_1_0_1_0_0) shapeCasts_S1x4x1x1x2048_S4x1x2048))))
    (broadcastInDim S4x4096x2048 ![0, 1, 2] bcast_S4x1x2048_S4x4096x2048_0_1_2 (shapeCast _ (extractStridedSlice S1x4x1x1x2048 ![1, 0, 0, 0, 0] mod
      slices_S2x8x6x1x2048_S1x4x1x1x2048_1_0_0_0_0) shapeCasts_S1x4x1x1x2048_S4x1x2048))

/-- … at an index. -/
theorem hT_at (y : FVec Ideal S4x4096x2048 .f32) (g : FVec Ideal S2x1x2048 .f32) (mod : FVec Ideal S2x8x6x1x2048 .f32) (b : Fin 4) (i : Fin 4096) (d : Fin 2048) :
    hT y g mod (ix3 b i d) = Out.norm (fun k => y (ix3 b i k)) (fun k => g (ix3 1 0 k)) (fun k => mod (ix5 1 ⟨b.val, by omega⟩ 1 0 k))
      (fun k => mod (ix5 1 ⟨b.val, by omega⟩ 0 0 k)) d := by
  pointwise [hT, Out.norm]

/-- The latents. -/
def latT (h : FVec Ideal S4x4096x2048 .f32) (w : FVec Ideal S2x2048x1024 .bf16) : FVec Ideal S4x4096x1024 .f32 :=
  Host.dotGeneral dot_S4x4096x2048_S2048x1024_S4x4096x1024_2_0_01_1_n_n none h (shapeCast _ (extractStridedSlice S1x2048x1024 ![1, 0, 0] (extf .f32 w bitsLt_bf16_f32)
    slices_S2x2048x1024_S1x2048x1024_1_0_0) shapeCasts_S1x2048x1024_S2048x1024)

/-- … at an index. -/
theorem latT_at (h : FVec Ideal S4x4096x2048 .f32) (w : FVec Ideal S2x2048x1024 .bf16) (b : Fin 4) (i : Fin 4096) (j : Fin 1024) :
    latT h w (ix3 b i j) = ∑ k : Fin 2048, h (ix3 b i k) * w (ix3 1 k j) := by
  pointwise [latT]

/-- The keys' shared lanes before the rotation. -/
def krT (h : FVec Ideal S4x4096x2048 .f32) (w : FVec Ideal S2x2048x128 .bf16) : FVec Ideal S4x4096x128 .f32 :=
  Host.dotGeneral dot_S4x4096x2048_S2048x128_S4x4096x128_2_0_01_1_n_n none h (shapeCast _ (extractStridedSlice S1x2048x128 ![1, 0, 0] (extf .f32 w bitsLt_bf16_f32)
    slices_S2x2048x128_S1x2048x128_1_0_0) shapeCasts_S1x2048x128_S2048x128)

/-- … at an index. -/
theorem krT_at (h : FVec Ideal S4x4096x2048 .f32) (w : FVec Ideal S2x2048x128 .bf16) (b : Fin 4) (i : Fin 4096) (j : Fin 128) :
    krT h w (ix3 b i j) = ∑ k : Fin 2048, h (ix3 b i k) * w (ix3 1 k j) := by
  pointwise [krT]

/-- The other mixers' columns. -/
def mixT (h : FVec Ideal S4x4096x2048 .f32) (w : FVec Ideal S2x2048x2048 .bf16) : FVec Ideal S4x4096x2048 .f32 :=
  Host.dotGeneral dot_S4x4096x2048_S2048x2048_S4x4096x2048_2_0_01_1_n_n none h (shapeCast _ (extractStridedSlice S1x2048x2048 ![1, 0, 0] (extf .f32 w bitsLt_bf16_f32)
    slices_S2x2048x2048_S1x2048x2048_1_0_0) shapeCasts_S1x2048x2048_S2048x2048)

/-- … at an index. -/
theorem mixT_at (h : FVec Ideal S4x4096x2048 .f32) (w : FVec Ideal S2x2048x2048 .bf16) (b : Fin 4) (i : Fin 4096) (j : Fin 2048) :
    mixT h w (ix3 b i j) = ∑ k : Fin 2048, h (ix3 b i k) * w (ix3 1 k j) := by
  pointwise [mixT]

/-- A latent's norm. -/
def nrmT (x : FVec Ideal S4x4096x512 .f32) (g : FVec Ideal S2x1x512 .f32) : FVec Ideal S4x4096x512 .f32 :=
  mulf (mulf x (broadcastInDim S4x4096x512 ![0, 1, 2] bcast_S4x4096x1_S4x4096x512_0_1_2 (Host.rsqrt (addf (Host.divf (broadcastInDim S4x4096x1 ![0, 1]
      bcast_S4x4096_S4x4096x1_0_1 (Host.reduceAdd (mulf x x) (constant S_ .f32 0x00000000#32) reducesTo_S4x4096x512_S4x4096_d2 h_S_))
      (broadcastInDim S4x4096x1 ![] bcast_S_S4x4096x1 (constant S_ .f32 0x44000000#32))) (broadcastInDim S4x4096x1 ![] bcast_S_S4x4096x1 (constant S_ .f32 0x358637BD#32))))))
    (broadcastInDim S4x4096x512 ![0, 1, 2] bcast_S1x1x512_S4x4096x512_0_1_2 (broadcastInDim S1x1x512 ![2] bcast_S512_S1x1x512_2 (shapeCast _
      (extractStridedSlice S1x1x512 ![1, 0, 0] g slices_S2x1x512_S1x1x512_1_0_0) shapeCasts_S1x1x512_S512)))

/-- … at an index. -/
theorem nrmT_at (x : FVec Ideal S4x4096x512 .f32) (g : FVec Ideal S2x1x512 .f32) (b : Fin 4) (i : Fin 4096) (j : Fin 512) :
    nrmT x g (ix3 b i j) = rms (fun k => x (ix3 b i k)) (fun k => g (ix3 1 0 k)) j := by
  pointwise [nrmT, rms]

/-- From a latent to 2048 columns. -/
def upT (x : FVec Ideal S4x4096x512 .f32) (w : FVec Ideal S2x512x2048 .bf16) : FVec Ideal S4x4096x2048 .f32 :=
  Host.dotGeneral dot_S4x4096x512_S512x2048_S4x4096x2048_2_0_01_1_n_n none x (shapeCast _ (extractStridedSlice S1x512x2048 ![1, 0, 0] (extf .f32 w bitsLt_bf16_f32)
    slices_S2x512x2048_S1x512x2048_1_0_0) shapeCasts_S1x512x2048_S512x2048)

/-- … at an index. -/
theorem upT_at (x : FVec Ideal S4x4096x512 .f32) (w : FVec Ideal S2x512x2048 .bf16) (b : Fin 4) (i : Fin 4096) (d : Fin 2048) :
    upT x w (ix3 b i d) = ∑ k : Fin 512, x (ix3 b i k) * w (ix3 1 k d) := by
  pointwise [upT]

/-- Columns of the latents: the queries'. -/
def cqT (x : FVec Ideal S4x4096x1024 .f32) : FVec Ideal S4x4096x512 .f32 := extractStridedSlice S4x4096x512 ![0, 0, 0] x slices_S4x4096x1024_S4x4096x512_0_0_0

/-- … at an index. -/
theorem cqT_at (x : FVec Ideal S4x4096x1024 .f32) (b : Fin 4) (i : Fin 4096) (j : Fin 512) : cqT x (ix3 b i j) = x (ix3 b i ⟨j.val, by omega⟩) := by
  pointwise [cqT]

/-- The keys' and values'. -/
def ckvT (x : FVec Ideal S4x4096x1024 .f32) : FVec Ideal S4x4096x512 .f32 := extractStridedSlice S4x4096x512 ![0, 0, 512] x slices_S4x4096x1024_S4x4096x512_0_0_512

/-- … at an index. -/
theorem ckvT_at (x : FVec Ideal S4x4096x1024 .f32) (b : Fin 4) (i : Fin 4096) (j : Fin 512) : ckvT x (ix3 b i j) = x (ix3 b i ⟨512 + j.val, by omega⟩) := by
  pointwise [ckvT]

/-- The queries by heads, scaled. -/
def qsT (q : FVec Ideal S4x4096x2048 .f32) : FVec Ideal S4x4096x8x256 .f32 :=
  shapeCast _ (mulf q (broadcastInDim S4x4096x2048 ![] bcast_S_S4x4096x2048 (constant S_ .f32 0x3DD53B95#32))) shapeCasts_S4x4096x2048_S4x4096x8x256

/-- … at an index. -/
theorem qsT_at (q : FVec Ideal S4x4096x2048 .f32) (b : Fin 4) (i : Fin 4096) (n : Fin 8) (e : Fin 256) :
    qsT q (ix4 b i n e) = q (ix3 b i ⟨n.val * 256 + e.val, by omega⟩) * Ideal.ofBits .f32 0x3DD53B95#32 := by
  pointwise [qsT]

/-- The heads' rotary lanes. -/
def qrT (q : FVec Ideal S4x4096x8x256 .f32) : FVec Ideal S4x4096x8x128 .f32 := extractStridedSlice S4x4096x8x128 ![0, 0, 0, 128] q slices_S4x4096x8x256_S4x4096x8x128_0_0_0_128

/-- … at an index. -/
theorem qrT_at (q : FVec Ideal S4x4096x8x256 .f32) (b : Fin 4) (i : Fin 4096) (n : Fin 8) (e : Fin 128) :
    qrT q (ix4 b i n e) = q (ix4 b i n ⟨128 + e.val, by omega⟩) := by
  pointwise [qrT]

/-- The lanes 64 away, in every head. -/
def swapT (q : FVec Ideal S4x4096x8x128 .f32) : FVec Ideal S4x4096x8x128 .f32 :=
  concatenate S4x4096x8x128 3 [⟨S4x4096x8x64, extractStridedSlice S4x4096x8x64 ![0, 0, 0, 64] q slices_S4x4096x8x128_S4x4096x8x64_0_0_0_64⟩,
    ⟨S4x4096x8x64, extractStridedSlice S4x4096x8x64 ![0, 0, 0, 0] q slices_S4x4096x8x128_S4x4096x8x64_0_0_0_0⟩] concatenates_S4x4096x8x64_S4x4096x8x64_S4x4096x8x128_d3

/-- … at an index. -/
theorem swapT_at (q : FVec Ideal S4x4096x8x128 .f32) (b : Fin 4) (i : Fin 4096) (n : Fin 8) (e : Fin 128) :
    swapT q (ix4 b i n e) = q (ix4 b i n (partner e)) := by
  pointwise [swapT]
  by_cases h : e.val < 64
  · rw [dif_pos h]
    exact congrArg (fun a => q (ix4 b i n a)) (Fin.ext (by simp only [partner]; omega))
  · rw [dif_neg h]
    exact congrArg (fun a => q (ix4 b i n a)) (Fin.ext (by simp only [partner]; omega))

/-- An angle's row, for every batch and head. -/
def angT (a : FVec Ideal S4096x128 .f32) : FVec Ideal S4x4096x8x128 .f32 :=
  broadcastInDim S4x4096x8x128 ![0, 1, 2, 3] bcast_S1x4096x1x128_S4x4096x8x128_0_1_2_3 (broadcastInDim S1x4096x1x128 ![1, 2, 3] bcast_S4096x1x128_S1x4096x1x128_1_2_3
    (broadcastInDim S4096x1x128 ![0, 2] bcast_S4096x128_S4096x1x128_0_2 a))

/-- … at an index. -/
theorem angT_at (a : FVec Ideal S4096x128 .f32) (b : Fin 4) (i : Fin 4096) (n : Fin 8) (e : Fin 128) : angT a (ix4 b i n e) = a (ix2 i e) := by
  pointwise [angT]

/-- The heads' rotary lanes, rotated. -/
def turnT (q : FVec Ideal S4x4096x8x128 .f32) (cos sin : FVec Ideal S4096x128 .f32) : FVec Ideal S4x4096x8x128 .f32 :=
  addf (mulf q (angT cos)) (mulf (swapT q) (angT sin))

/-- … at an index. -/
theorem turnT_at (q : FVec Ideal S4x4096x8x128 .f32) (cos sin : FVec Ideal S4096x128 .f32) (b : Fin 4) (i : Fin 4096) (n : Fin 8) (e : Fin 128) :
    turnT q cos sin (ix4 b i n e) = rot (fun a => q (ix4 b i n a)) (fun a => cos (ix2 i a)) (fun a => sin (ix2 i a)) e := by
  have h : turnT q cos sin (ix4 b i n e) = (q (ix4 b i n e) * angT cos (ix4 b i n e) + swapT q (ix4 b i n e) * angT sin (ix4 b i n e) : EReal) := rfl
  rw [h, angT_at, angT_at, swapT_at]
  rfl

/-- A head's own lanes. -/
def ownT (q : FVec Ideal S4x4096x8x256 .f32) : FVec Ideal S4x4096x8x128 .f32 := extractStridedSlice S4x4096x8x128 ![0, 0, 0, 0] q slices_S4x4096x8x256_S4x4096x8x128_0_0_0_0

/-- … at an index. -/
theorem ownT_at (q : FVec Ideal S4x4096x8x256 .f32) (b : Fin 4) (i : Fin 4096) (n : Fin 8) (e : Fin 128) :
    ownT q (ix4 b i n e) = q (ix4 b i n ⟨e.val, by omega⟩) := by
  pointwise [ownT]

/-- A head's own lanes and its rotated ones side by side. -/
def catT (u r : FVec Ideal S4x4096x8x128 .f32) : FVec Ideal S4x4096x8x256 .f32 :=
  concatenate S4x4096x8x256 3 [⟨S4x4096x8x128, u⟩, ⟨S4x4096x8x128, r⟩] concatenates_S4x4096x8x128_S4x4096x8x128_S4x4096x8x256_d3

/-- … at an index. -/
theorem catT_at (u r : FVec Ideal S4x4096x8x128 .f32) (b : Fin 4) (i : Fin 4096) (n : Fin 8) (e : Fin 256) :
    catT u r (ix4 b i n e) = (if h : e.val < 128 then u (ix4 b i n ⟨e.val, h⟩) else r (ix4 b i n ⟨e.val - 128, by omega⟩) : EReal) := by
  pointwise [catT]

/-- The heads side by side. -/
def joinT (x : FVec Ideal S4x4096x8x256 .f32) : FVec Ideal S4x4096x2048 .bf16 := truncf .bf16 (shapeCast _ x shapeCasts_S4x4096x8x256_S4x4096x2048) bitsLt_bf16_f32

/-- … at an index. -/
theorem joinT_at (x : FVec Ideal S4x4096x8x256 .f32) (b : Fin 4) (i : Fin 4096) (d : Fin 2048) :
    joinT x (ix3 b i d) = x (ix4 b i ⟨d.val / 256, by omega⟩ ⟨d.val % 256, by omega⟩) := by
  pointwise [joinT]

/-- The queries. -/
def qT (q : FVec Ideal S4x4096x8x256 .f32) (r : FVec Ideal S4x4096x8x128 .f32) : FVec Ideal S4x4096x2048 .bf16 := joinT (catT (ownT q) r)

/-- … at an index. -/
theorem qT_at (q : FVec Ideal S4x4096x8x256 .f32) (r : FVec Ideal S4x4096x8x128 .f32) (b : Fin 4) (i : Fin 4096) (d : Fin 2048) :
    qT q r (ix3 b i d) = (if d.val % 256 < 128 then q (ix4 b i ⟨d.val / 256, by omega⟩ ⟨d.val % 256, by omega⟩)
      else r (ix4 b i ⟨d.val / 256, by omega⟩ ⟨d.val % 256 - 128, by omega⟩) : EReal) := by
  rw [qT, joinT_at, catT_at]
  by_cases h : d.val % 256 < 128
  · rw [dif_pos h, if_pos h, ownT_at]
  · rw [dif_neg h, if_neg h]

/-- The keys' shared lanes, rotated. -/
def krotT (q : FVec Ideal S4x4096x128 .f32) (cos sin : FVec Ideal S4096x128 .f32) : FVec Ideal S4x4096x128 .bf16 :=
  truncf .bf16 (addf (mulf q (broadcastInDim S4x4096x128 ![0, 1, 2] bcast_S1x4096x128_S4x4096x128_0_1_2 (broadcastInDim S1x4096x128 ![1, 2] bcast_S4096x128_S1x4096x128_1_2 cos)))
    (mulf (concatenate S4x4096x128 2 [⟨S4x4096x64, extractStridedSlice S4x4096x64 ![0, 0, 64] q slices_S4x4096x128_S4x4096x64_0_0_64⟩,
      ⟨S4x4096x64, extractStridedSlice S4x4096x64 ![0, 0, 0] q slices_S4x4096x128_S4x4096x64_0_0_0⟩] concatenates_S4x4096x64_S4x4096x64_S4x4096x128_d2)
      (broadcastInDim S4x4096x128 ![0, 1, 2] bcast_S1x4096x128_S4x4096x128_0_1_2 (broadcastInDim S1x4096x128 ![1, 2] bcast_S4096x128_S1x4096x128_1_2 sin)))) bitsLt_bf16_f32

/-- … at an index. -/
theorem krotT_at (q : FVec Ideal S4x4096x128 .f32) (cos sin : FVec Ideal S4096x128 .f32) (b : Fin 4) (i : Fin 4096) (e : Fin 128) :
    krotT q cos sin (ix3 b i e) = rot (fun a => q (ix3 b i a)) (fun a => cos (ix2 i a)) (fun a => sin (ix2 i a)) e := by
  pointwise [krotT, rot]
  by_cases h : e.val < 64
  · rw [dif_pos h]
    exact congrArg (fun a => _ + q (ix3 b i a) * _) (Fin.ext (by simp only [partner]; omega))
  · rw [dif_neg h]
    exact congrArg (fun a => _ + q (ix3 b i a) * _) (Fin.ext (by simp only [partner]; omega))

/-- Columns of the other mixers: the neighbourhood attention's keys. -/
def knT (x : FVec Ideal S4x4096x2048 .f32) : FVec Ideal S4x4096x512 .bf16 :=
  truncf .bf16 (extractStridedSlice S4x4096x512 ![0, 0, 512] x slices_S4x4096x2048_S4x4096x512_0_0_512) bitsLt_bf16_f32

/-- … at an index. -/
theorem knT_at (x : FVec Ideal S4x4096x2048 .f32) (b : Fin 4) (i : Fin 4096) (j : Fin 512) : knT x (ix3 b i j) = x (ix3 b i ⟨512 + j.val, by omega⟩) := by
  pointwise [knT]

/-- Its values. -/
def vnT (x : FVec Ideal S4x4096x2048 .f32) : FVec Ideal S4x4096x512 .bf16 :=
  truncf .bf16 (extractStridedSlice S4x4096x512 ![0, 0, 1024] x slices_S4x4096x2048_S4x4096x512_0_0_1024) bitsLt_bf16_f32

/-- … at an index. -/
theorem vnT_at (x : FVec Ideal S4x4096x2048 .f32) (b : Fin 4) (i : Fin 4096) (j : Fin 512) : vnT x (ix3 b i j) = x (ix3 b i ⟨1024 + j.val, by omega⟩) := by
  pointwise [vnT]

/-- Its queries. -/
def qnT (x : FVec Ideal S4x4096x2048 .f32) : FVec Ideal S4x4096x512 .bf16 :=
  truncf .bf16 (mulf (extractStridedSlice S4x4096x512 ![0, 0, 0] x slices_S4x4096x2048_S4x4096x512_0_0_0)
    (broadcastInDim S4x4096x512 ![] bcast_S_S4x4096x512 (constant S_ .f32 0x3E0293EE#32))) bitsLt_bf16_f32

/-- … at an index. -/
theorem qnT_at (x : FVec Ideal S4x4096x2048 .f32) (b : Fin 4) (i : Fin 4096) (j : Fin 512) :
    qnT x (ix3 b i j) = x (ix3 b i ⟨j.val, by omega⟩) * Ideal.ofBits .f32 0x3E0293EE#32 := by
  pointwise [qnT]

/-- The Fourier rows, the batches side by side. -/
def fT (x : FVec Ideal S4x4096x2048 .f32) : FVec Ideal S4096x2048 .bf16 :=
  truncf .bf16 (shapeCast _ (transpose S4096x4x512 [1, 0, 2] (extractStridedSlice S4x4096x512 ![0, 0, 1536] x slices_S4x4096x2048_S4x4096x512_0_0_1536)
    transposes_S4x4096x512_S4096x4x512_1_0_2) shapeCasts_S4096x4x512_S4096x2048) bitsLt_bf16_f32

/-- … at an index. -/
theorem fT_at (x : FVec Ideal S4x4096x2048 .f32) (i : Fin 4096) (d : Fin 2048) :
    fT x (ix2 i d) = x (ix3 ⟨d.val / 512, by omega⟩ i ⟨1536 + d.val % 512, by omega⟩) := by
  pointwise [fT]

/-- The first 1024 columns: the keys' own lanes. -/
def kT (x : FVec Ideal S4x4096x2048 .f32) : FVec Ideal S4x4096x1024 .bf16 :=
  truncf .bf16 (extractStridedSlice S4x4096x1024 ![0, 0, 0] x slices_S4x4096x2048_S4x4096x1024_0_0_0) bitsLt_bf16_f32

/-- … at an index. -/
theorem kT_at (x : FVec Ideal S4x4096x2048 .f32) (b : Fin 4) (i : Fin 4096) (d : Fin 1024) : kT x (ix3 b i d) = x (ix3 b i ⟨d.val, by omega⟩) := by
  pointwise [kT]

/-- The others: the values. -/
def vT (x : FVec Ideal S4x4096x2048 .f32) : FVec Ideal S4x4096x1024 .bf16 :=
  truncf .bf16 (extractStridedSlice S4x4096x1024 ![0, 0, 1024] x slices_S4x4096x2048_S4x4096x1024_0_0_1024) bitsLt_bf16_f32

/-- … at an index. -/
theorem vT_at (x : FVec Ideal S4x4096x2048 .f32) (b : Fin 4) (i : Fin 4096) (d : Fin 1024) : vT x (ix3 b i d) = x (ix3 b i ⟨1024 + d.val, by omega⟩) := by
  pointwise [vT]

end Cert.Reference4Ideal.Value

end
-- ==== Proof.InpRef.lean ====
/- What the reference of the input projection computes: the formulas of its inputs. -/
module

public import proofs.«01_k».proof.Proof.InpSteps

@[expose] public section

set_option maxRecDepth 16384

noncomputable section

open Idealize.ShloMosaic Idealize.ShloMosaic.TcCoe Idealize.SL.Sem

namespace Cert.Reference4Ideal.Value

open Cert.Reference4Ideal Cert.Reference4Ideal.Gen Cert.Inp

variable (m : (ℓ : Loc nD τ sig) → Buf (Elt Ideal) ℓ) (c : Dev nD)

/-- The reference's row `i` of batch `b`. -/
def rowR (b : Fin 4) (i : Fin 4096) : Row where
  x k := m ((c.tc : Thread nD τ).loc main_arg0) (ix3 b i k)
  g k := m ((c.tc : Thread nD τ).loc main_arg1) (ix3 1 0 k)
  sc k := m ((c.tc : Thread nD τ).loc main_arg2) (ix5 1 ⟨b.val, by omega⟩ 1 0 k)
  sh k := m ((c.tc : Thread nD τ).loc main_arg2) (ix5 1 ⟨b.val, by omega⟩ 0 0 k)
  wl k j := m ((c.tc : Thread nD τ).loc main_arg3) (ix3 1 k j)
  wm k j := m ((c.tc : Thread nD τ).loc main_arg4) (ix3 1 k j)
  wr k a := m ((c.tc : Thread nD τ).loc main_arg5) (ix3 1 k a)
  gq j := m ((c.tc : Thread nD τ).loc main_arg6) (ix3 1 0 j)
  gkv j := m ((c.tc : Thread nD τ).loc main_arg7) (ix3 1 0 j)
  wq j d := m ((c.tc : Thread nD τ).loc main_arg8) (ix3 1 j d)
  wkv j d := m ((c.tc : Thread nD τ).loc main_arg9) (ix3 1 j d)
  cos a := m ((c.tc : Thread nD τ).loc main_arg10) (ix2 i a)
  sin a := m ((c.tc : Thread nD τ).loc main_arg11) (ix2 i a)

/-- The normalised, modulated rows. -/
def hM : FVec Ideal S4x4096x2048 .f32 := hT (m ((c.tc : Thread nD τ).loc main_arg0)) (m ((c.tc : Thread nD τ).loc main_arg1)) (m ((c.tc : Thread nD τ).loc main_arg2))

/-- … at an index. -/
theorem hM_at (b : Fin 4) (i : Fin 4096) (k : Fin 2048) : hM m c (ix3 b i k) = (rowR m c b i).h k := by
  rw [hM, hT_at]
  rfl

/-- The latents. -/
def latM : FVec Ideal S4x4096x1024 .f32 := latT (hM m c) (m ((c.tc : Thread nD τ).loc main_arg3))

/-- … at an index. -/
theorem latM_at (b : Fin 4) (i : Fin 4096) (j : Fin 1024) : latM m c (ix3 b i j) = (rowR m c b i).lat j := by
  rw [latM, latT_at]
  simp only [hM_at]
  rfl

/-- The other mixers' columns. -/
def mixM : FVec Ideal S4x4096x2048 .f32 := mixT (hM m c) (m ((c.tc : Thread nD τ).loc main_arg4))

/-- … at an index. -/
theorem mixM_at (b : Fin 4) (i : Fin 4096) (j : Fin 2048) : mixM m c (ix3 b i j) = (rowR m c b i).mix j := by
  rw [mixM, mixT_at]
  simp only [hM_at]
  rfl

/-- The queries before the rotation, by heads. -/
def qsM : FVec Ideal S4x4096x8x256 .f32 := qsT (upT (nrmT (cqT (latM m c)) (m ((c.tc : Thread nD τ).loc main_arg6))) (m ((c.tc : Thread nD τ).loc main_arg8)))

/-- … at an index. -/
theorem qsM_at (b : Fin 4) (i : Fin 4096) (n : Fin 8) (e : Fin 256) : qsM m c (ix4 b i n e) = (rowR m c b i).q0 ⟨n.val * 256 + e.val, by omega⟩ := by
  rw [qsM, qsT_at, upT_at]
  simp only [nrmT_at, cqT_at, latM_at]
  rfl

/-- The keys' own lanes and the values. -/
def kvM : FVec Ideal S4x4096x2048 .f32 := upT (nrmT (ckvT (latM m c)) (m ((c.tc : Thread nD τ).loc main_arg7))) (m ((c.tc : Thread nD τ).loc main_arg9))

/-- … at an index. -/
theorem kvM_at (b : Fin 4) (i : Fin 4096) (d : Fin 2048) : kvM m c (ix3 b i d) = (rowR m c b i).kv d := by
  rw [kvM, upT_at]
  simp only [nrmT_at, ckvT_at, latM_at]
  rfl

/-- The queries' result. -/
theorem q_eq : res_main_v116 m c = qT (qsM m c) (turnT (qrT (qsM m c)) (m ((c.tc : Thread nD τ).loc main_arg10)) (m ((c.tc : Thread nD τ).loc main_arg11))) := rfl

/-- THE QUERIES. -/
theorem q_at (b : Fin 4) (i : Fin 4096) (d : Fin 2048) : res_main_v116 m c (ix3 b i d) = (rowR m c b i).q d := by
  rw [q_eq, qT_at, turnT_at, Row.q]
  simp only [qrT_at, qsM_at]
  by_cases h : d.val % 256 < 128
  · rw [if_pos h, if_pos h]
    exact congrArg (rowR m c b i).q0 (Fin.ext (by dsimp only; omega))
  · rw [if_neg h, if_neg h]
    refine congrArg (fun f => rot f (rowR m c b i).cos (rowR m c b i).sin ⟨d.val % 256 - 128, by omega⟩) (funext fun a => congrArg (rowR m c b i).q0 (Fin.ext ?_))
    dsimp only
    omega

/-- THE KEYS' OWN LANES. -/
theorem k_at (b : Fin 4) (i : Fin 4096) (d : Fin 1024) : res_main_v117 m c (ix3 b i d) = (rowR m c b i).k d := by
  have e : res_main_v117 m c = kT (kvM m c) := rfl
  rw [e, kT_at, kvM_at]
  rfl

/-- THE VALUES. -/
theorem v_at (b : Fin 4) (i : Fin 4096) (d : Fin 1024) : res_main_v118 m c (ix3 b i d) = (rowR m c b i).v d := by
  have e : res_main_v118 m c = vT (kvM m c) := rfl
  rw [e, vT_at, kvM_at]
  rfl

/-- THE KEYS' SHARED LANES. -/
theorem kr_at (b : Fin 4) (i : Fin 4096) (e : Fin 128) : res_main_v119 m c (ix3 b i e) = (rowR m c b i).kr e := by
  have h : res_main_v119 m c = krotT (krT (hM m c) (m ((c.tc : Thread nD τ).loc main_arg5))) (m ((c.tc : Thread nD τ).loc main_arg10)) (m ((c.tc : Thread nD τ).loc main_arg11)) := rfl
  rw [h, krotT_at]
  simp only [krT_at, hM_at]
  rfl

/-- THE NEIGHBOURHOOD ATTENTION'S QUERIES. -/
theorem qn_at (b : Fin 4) (i : Fin 4096) (j : Fin 512) : qnT (mixM m c) (ix3 b i j) = (rowR m c b i).qn j := by
  rw [qnT_at, mixM_at]
  rfl

/-- ITS KEYS. -/
theorem kn_at (b : Fin 4) (i : Fin 4096) (j : Fin 512) : knT (mixM m c) (ix3 b i j) = (rowR m c b i).kn j := by
  rw [knT_at, mixM_at]
  rfl

/-- ITS VALUES. -/
theorem vn_at (b : Fin 4) (i : Fin 4096) (j : Fin 512) : vnT (mixM m c) (ix3 b i j) = (rowR m c b i).vn j := by
  rw [vnT_at, mixM_at]
  rfl

/-- THE FOURIER ROWS. -/
theorem f_at (i : Fin 4096) (d : Fin 2048) : fT (mixM m c) (ix2 i d) = (rowR m c ⟨d.val / 512, by omega⟩ i).f ⟨d.val % 512, by omega⟩ := by
  rw [fT_at, mixM_at]
  rfl

end Cert.Reference4Ideal.Value

end
-- ==== Proof.InpMeets.lean ====
/- The input projection's kernel meets the reference: on equal inputs the same eight arrays. -/
module

public import proofs.«01_k».proof.Proof.InpFinal
public import proofs.«01_k».proof.Proof.InpRef

@[expose] public section

noncomputable section

open Idealize.ShloMosaic Idealize.ShloMosaic.TcCoe Idealize.SL.Sem

namespace Cert.Inp

open Cert.Reference4Ideal Cert.Reference4Ideal.Gen Cert.Reference4Ideal.Value

/-- An index of a result of 2048 columns, by its coordinates. -/
theorem idx_out2048 (y : S4x4096x2048.Idx) : y = ix3 (y 0) (y 1) (y 2) := by
  funext a
  fin_cases a <;> rfl

/-- An index of a result of 1024 columns, by its coordinates. -/
theorem idx_out1024 (y : S4x4096x1024.Idx) : y = ix3 (y 0) (y 1) (y 2) := by
  funext a
  fin_cases a <;> rfl

/-- An index of a result of 512 columns, by its coordinates. -/
theorem idx_out512 (y : S4x4096x512.Idx) : y = ix3 (y 0) (y 1) (y 2) := by
  funext a
  fin_cases a <;> rfl

/-- An index of a result of 128 columns, by its coordinates. -/
theorem idx_out128 (y : S4x4096x128.Idx) : y = ix3 (y 0) (y 1) (y 2) := by
  funext a
  fin_cases a <;> rfl

variable (m : (ℓ : Loc nD τ sig) → Buf (Elt Ideal) ℓ) (c : Dev nD)

/-- The reference's queries are the formula of its inputs: `arrQ`, as the kernel's are. -/
theorem qM_eq : res_main_v116 m c = arrQ (rowR m c) := by
  funext y
  exact (congrArg _ (idx_out2048 y)).trans (Value.q_at m c (y 0) (y 1) (y 2))

/-- Its keys' own lanes are `arrK`. -/
theorem kM_eq : res_main_v117 m c = arrK (rowR m c) := by
  funext y
  exact (congrArg _ (idx_out1024 y)).trans (Value.k_at m c (y 0) (y 1) (y 2))

/-- Its values are `arrV`. -/
theorem vM_eq : res_main_v118 m c = arrV (rowR m c) := by
  funext y
  exact (congrArg _ (idx_out1024 y)).trans (Value.v_at m c (y 0) (y 1) (y 2))

/-- Its keys' shared lanes are `arrKr`. -/
theorem krM_eq : res_main_v119 m c = arrKr (rowR m c) := by
  funext y
  exact (congrArg _ (idx_out128 y)).trans (Value.kr_at m c (y 0) (y 1) (y 2))

/-- Its neighbourhood attention's queries are `arrQn`. -/
theorem qnM_eq : qnT (mixM m c) = arrQn (rowR m c) := by
  funext y
  exact (congrArg _ (idx_out512 y)).trans (Value.qn_at m c (y 0) (y 1) (y 2))

/-- That attention's keys are `arrKn`. -/
theorem knM_eq : knT (mixM m c) = arrKn (rowR m c) := by
  funext y
  exact (congrArg _ (idx_out512 y)).trans (Value.kn_at m c (y 0) (y 1) (y 2))

/-- That attention's values are `arrVn`. -/
theorem vnM_eq : vnT (mixM m c) = arrVn (rowR m c) := by
  funext y
  exact (congrArg _ (idx_out512 y)).trans (Value.vn_at m c (y 0) (y 1) (y 2))

/-- Its Fourier rows are `arrF`. -/
theorem fM_eq : fT (mixM m c) = arrF (rowR m c) := by
  funext y
  exact (congrArg _ (eq_ix2 y)).trans (Value.f_at m c (y 0) (y 1))

/-- Equal arguments are equal rows. -/
theorem row_eq (m : (ℓ : Loc Cert.Kernel4Ideal.nD Cert.Kernel4Ideal.τ Cert.Kernel4Ideal.sig) → Buf (Elt Ideal) ℓ)
    (m' : (ℓ : Loc nD τ sig) → Buf (Elt Ideal) ℓ) (c : Dev nD)
    (h : m' ((c : Thread nD τ).loc main_arg0) = m ((c : Thread Cert.Kernel4Ideal.nD Cert.Kernel4Ideal.τ).loc Cert.Kernel4Ideal.main_arg0)
      ∧ m' ((c : Thread nD τ).loc main_arg1) = m ((c : Thread Cert.Kernel4Ideal.nD Cert.Kernel4Ideal.τ).loc Cert.Kernel4Ideal.main_arg1)
      ∧ m' ((c : Thread nD τ).loc main_arg2) = m ((c : Thread Cert.Kernel4Ideal.nD Cert.Kernel4Ideal.τ).loc Cert.Kernel4Ideal.main_arg2)
      ∧ m' ((c : Thread nD τ).loc main_arg3) = m ((c : Thread Cert.Kernel4Ideal.nD Cert.Kernel4Ideal.τ).loc Cert.Kernel4Ideal.main_arg3)
      ∧ m' ((c : Thread nD τ).loc main_arg4) = m ((c : Thread Cert.Kernel4Ideal.nD Cert.Kernel4Ideal.τ).loc Cert.Kernel4Ideal.main_arg4)
      ∧ m' ((c : Thread nD τ).loc main_arg5) = m ((c : Thread Cert.Kernel4Ideal.nD Cert.Kernel4Ideal.τ).loc Cert.Kernel4Ideal.main_arg5)
      ∧ m' ((c : Thread nD τ).loc main_arg6) = m ((c : Thread Cert.Kernel4Ideal.nD Cert.Kernel4Ideal.τ).loc Cert.Kernel4Ideal.main_arg6)
      ∧ m' ((c : Thread nD τ).loc main_arg7) = m ((c : Thread Cert.Kernel4Ideal.nD Cert.Kernel4Ideal.τ).loc Cert.Kernel4Ideal.main_arg7)
      ∧ m' ((c : Thread nD τ).loc main_arg8) = m ((c : Thread Cert.Kernel4Ideal.nD Cert.Kernel4Ideal.τ).loc Cert.Kernel4Ideal.main_arg8)
      ∧ m' ((c : Thread nD τ).loc main_arg9) = m ((c : Thread Cert.Kernel4Ideal.nD Cert.Kernel4Ideal.τ).loc Cert.Kernel4Ideal.main_arg9)
      ∧ m' ((c : Thread nD τ).loc main_arg10) = m ((c : Thread Cert.Kernel4Ideal.nD Cert.Kernel4Ideal.τ).loc Cert.Kernel4Ideal.main_arg10)
      ∧ m' ((c : Thread nD τ).loc main_arg11) = m ((c : Thread Cert.Kernel4Ideal.nD Cert.Kernel4Ideal.τ).loc Cert.Kernel4Ideal.main_arg11)) :
    rowR m' c = rowK m c := by
  obtain ⟨h0, h1, h2, h3, h4, h5, h6, h7, h8, h9, h10, h11⟩ := h
  funext b i
  unfold rowR rowK
  rw [Row.mk.injEq]
  refine ⟨?_, ?_, ?_, ?_, ?_, ?_, ?_, ?_, ?_, ?_, ?_, ?_, ?_⟩
  · funext k; exact congrFun h0 _
  · funext k; exact congrFun h1 _
  · funext k; exact congrFun h2 _
  · funext k; exact congrFun h2 _
  · funext k j; exact congrFun h3 _
  · funext k j; exact congrFun h4 _
  · funext k a; exact congrFun h5 _
  · funext j; exact congrFun h6 _
  · funext j; exact congrFun h7 _
  · funext j d; exact congrFun h8 _
  · funext j d; exact congrFun h9 _
  · funext a; exact congrFun h10 _
  · funext a; exact congrFun h11 _

end Cert.Inp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Finite
public import proofs.«01_k».proof.Proof.Meets
public import proofs.«01_k».proof.Proof.FfnMeets
public import proofs.«01_k».proof.Proof.OutMeets
public import proofs.«01_k».proof.Proof.InpMeets
public import Idealize.ShloMosaic.Adequacy
public import Idealize.ShloMosaic.Init

@[expose] public section

noncomputable section

namespace Cert.Proof

open Idealize.ShloMosaic Idealize.SL.Sem Cert.Attn

/-- The reference terminates with its arguments unchanged and every semaphore counter at zero: it declares none. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
        ∧ r.2.sem = fun _ => 0) :=
  (θ_run _ _ _).mono (fun r h => ⟨fun c => (h c).2, Idealize.ShloMosaic.sem_eq_zero_of_no_sems (by decide) r.2⟩) (Cert.ReferenceIdeal.Value.run m g)

/-- The gated MLP's reference terminates with its arguments unchanged and every semaphore counter at zero: it declares none. -/
theorem reference2_frame (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
        ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
        ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
        ∧ r.2.sem = fun _ => 0) :=
  (θ_run _ _ _).mono (fun r h => ⟨fun c => (h c).2, Idealize.ShloMosaic.sem_eq_zero_of_no_sems (by decide) r.2⟩) (Cert.Reference2Ideal.Value.run m g)

/-- The reference of the output projection terminates the same way. -/
theorem reference3_frame (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
        ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
        ∧ r.2.sem = fun _ => 0) :=
  (θ_run _ _ _).mono (fun r h => ⟨fun c => (h c).2.2, Idealize.ShloMosaic.sem_eq_zero_of_no_sems (by decide) r.2⟩) (Cert.Reference3Ideal.Value.run m g)

/-- The reference of the input projection terminates the same way. -/
theorem reference4_frame (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
        ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
        ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
        ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
        ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
        ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
        ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
        ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
        ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
        ∧ r.2.sem = fun _ => 0) :=
  (θ_run _ _ _).mono (fun r h => ⟨fun c => (h c).2.2.2.2.2.2.2.2, Idealize.ShloMosaic.sem_eq_zero_of_no_sems (by decide) r.2⟩) (Cert.Reference4Ideal.Value.run m g)

/-- The value claim: both programs leave the attention of their inputs. -/
theorem algebraic : Cert.algebraic_KernelIdeal_ReferenceIdeal_pre_finite_logits (hPre_finite_logits := preFacts) := by
  intro m g m' g' hpre hargs
  refine ⟨fun c => arr (insK m c), ?_, ?_⟩
  · exact (θ_run _ _ _).mono (fun r h c => ⟨(h c).1.trans (final m c (real_ins m hpre c)), (h c).2⟩) (Cert.KernelIdeal.Value.run_blocks m g)
  · refine (θ_run _ _ _).mono (fun r h c => ⟨(h c).1.trans ?_, (h c).2⟩) (Cert.ReferenceIdeal.Value.run m' g')
    have e := ins_eq m m' c (hargs c)
    exact (reference_eq m' c (e ▸ real_ins m hpre c)).trans (congrArg arr e)

/-- The gated MLP's value claim: both programs leave the formula of their inputs. -/
theorem algebraic2 : Cert.algebraic_Kernel2Ideal_Reference2Ideal := by
  intro m g m' g' _ hargs
  refine ⟨fun c => Cert.Ffn.arr (Cert.Ffn.insK m c), ?_, ?_⟩
  · exact (θ_run _ _ _).mono (fun r h c => ⟨(h c).1.trans (Cert.Ffn.final m c), (h c).2⟩) (Cert.Kernel2Ideal.Value.run_blocks m g)
  · exact (θ_run _ _ _).mono (fun r h c => ⟨(h c).1.trans ((Cert.Ffn.reference_eq m' c).trans (congrArg Cert.Ffn.arr (Cert.Ffn.ins_eq m m' c (hargs c)))), (h c).2⟩)
      (Cert.Reference2Ideal.Value.run m' g')

/-- The output projection's value claim: both programs leave the formulas of their inputs. -/
theorem algebraic3 : Cert.algebraic_Kernel3Ideal_Reference3Ideal := by
  intro m g m' g' _ hargs
  refine ⟨fun c => Cert.Out.arrRes (Cert.Out.insK m c), fun c => Cert.Out.arrHid (Cert.Out.insK m c), ?_, ?_⟩
  · exact (θ_run _ _ _).mono (fun r h c => ⟨(h c).1.trans (Cert.Out.final9 m c), (h c).2.1.trans (Cert.Out.final10 m c), (h c).2.2⟩)
      (Cert.Kernel3Ideal.Value.run_blocks m g)
  · refine (θ_run _ _ _).mono (fun r h c => ⟨(h c).1.trans ?_, (h c).2.1.trans ?_, (h c).2.2⟩) (Cert.Reference3Ideal.Value.run m' g')
    · exact (Cert.Out.resM_eq m' c).trans (congrArg Cert.Out.arrRes (Cert.Out.ins_eq m m' c (hargs c)))
    · exact (Cert.Out.hidM_eq m' c).trans (congrArg Cert.Out.arrHid (Cert.Out.ins_eq m m' c (hargs c)))

/-- The input projection's value claim: both programs leave the formulas of their inputs. -/
theorem algebraic4 : Cert.algebraic_Kernel4Ideal_Reference4Ideal := by
  intro m g m' g' _ hargs
  refine ⟨fun c => Cert.Inp.arrQ (Cert.Inp.rowK m c), fun c => Cert.Inp.arrK (Cert.Inp.rowK m c), fun c => Cert.Inp.arrV (Cert.Inp.rowK m c), fun c => Cert.Inp.arrKr (Cert.Inp.rowK m c), fun c => Cert.Inp.arrQn (Cert.Inp.rowK m c), fun c => Cert.Inp.arrKn (Cert.Inp.rowK m c), fun c => Cert.Inp.arrVn (Cert.Inp.rowK m c), fun c => Cert.Inp.arrF (Cert.Inp.rowK m c), ?_, ?_⟩
  · exact (θ_run _ _ _).mono (fun r h c => ⟨(h c).1.trans (Cert.Inp.final13 m c), (h c).2.1.trans (Cert.Inp.final14 m c), (h c).2.2.1.trans (Cert.Inp.final15 m c), (h c).2.2.2.1.trans (Cert.Inp.final16 m c), (h c).2.2.2.2.1.trans (Cert.Inp.final17 m c), (h c).2.2.2.2.2.1.trans (Cert.Inp.final18 m c), (h c).2.2.2.2.2.2.1.trans (Cert.Inp.final19 m c), (h c).2.2.2.2.2.2.2.1.trans (Cert.Inp.final20 m c), (h c).2.2.2.2.2.2.2.2⟩)
      (Cert.Kernel4Ideal.Value.run_blocks m g)
  · refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩) (Cert.Reference4Ideal.Value.run m' g')
    · exact (Cert.Inp.qM_eq m' c).trans (congrArg Cert.Inp.arrQ (Cert.Inp.row_eq m m' c (hargs c)))
    · exact (Cert.Inp.kM_eq m' c).trans (congrArg Cert.Inp.arrK (Cert.Inp.row_eq m m' c (hargs c)))
    · exact (Cert.Inp.vM_eq m' c).trans (congrArg Cert.Inp.arrV (Cert.Inp.row_eq m m' c (hargs c)))
    · exact (Cert.Inp.krM_eq m' c).trans (congrArg Cert.Inp.arrKr (Cert.Inp.row_eq m m' c (hargs c)))
    · exact (Cert.Inp.qnM_eq m' c).trans (congrArg Cert.Inp.arrQn (Cert.Inp.row_eq m m' c (hargs c)))
    · exact (Cert.Inp.knM_eq m' c).trans (congrArg Cert.Inp.arrKn (Cert.Inp.row_eq m m' c (hargs c)))
    · exact (Cert.Inp.vnM_eq m' c).trans (congrArg Cert.Inp.arrVn (Cert.Inp.row_eq m m' c (hargs c)))
    · exact (Cert.Inp.fM_eq m' c).trans (congrArg Cert.Inp.arrF (Cert.Inp.row_eq m m' c (hargs c)))

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, preFacts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ,
    fun m ρ _ => Cert.Kernel2.Gen.frame m ρ, fun m ρ _ => Cert.Kernel2Ideal.Gen.frame m ρ, fun m ρ _ => reference2_frame m ρ,
    fun m ρ _ => Cert.Kernel3.Gen.frame m ρ, fun m ρ _ => Cert.Kernel3Ideal.Gen.frame m ρ, fun m ρ _ => reference3_frame m ρ,
    fun m ρ _ => Cert.Kernel4.Gen.frame m ρ, fun m ρ _ => Cert.Kernel4Ideal.Gen.frame m ρ, fun m ρ _ => reference4_frame m ρ,
    trivial, algebraic, trivial, algebraic2, trivial, algebraic3, trivial, algebraic4⟩

end Cert.Proof

end
